-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_MlpAttn (m : (ℓ : Loc Cert.MlpAttn.nD Cert.MlpAttn.τ Cert.MlpAttn.sig) → Buf (Elt Bits) ℓ) : Prop :=
  True

def Pre_MlpAttnIdeal (m : (ℓ : Loc Cert.MlpAttnIdeal.nD Cert.MlpAttnIdeal.τ Cert.MlpAttnIdeal.sig) → Buf (Elt Ideal) ℓ) : Prop :=
  True

def Pre_MlpAttnReferenceIdeal (m : (ℓ : Loc Cert.MlpAttnReferenceIdeal.nD Cert.MlpAttnReferenceIdeal.τ Cert.MlpAttnReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlpAttn [hMlpAttn : Cert.MlpAttn.Facts] : Prop :=
  ∀ (m : (ℓ : Loc Cert.MlpAttn.nD Cert.MlpAttn.τ Cert.MlpAttn.sig) → Buf (Elt Bits) ℓ) (g : Dev Cert.MlpAttn.nD → PrngReg), Pre_MlpAttn m →
    θ_run (Cert.MlpAttn.defs (F := Bits)) (onTc (τ := Cert.MlpAttn.τ) (Cert.MlpAttn.main (F := Bits))) ⟨m, fun _ => 0, g⟩ (fun r => (∀ c : Dev Cert.MlpAttn.nD,
      r.2.mem ((c.tc : Thread Cert.MlpAttn.nD Cert.MlpAttn.τ).loc Cert.MlpAttn.main_arg0) = m ((c.tc : Thread Cert.MlpAttn.nD Cert.MlpAttn.τ).loc Cert.MlpAttn.main_arg0)
      ∧ r.2.mem ((c.tc : Thread Cert.MlpAttn.nD Cert.MlpAttn.τ).loc Cert.MlpAttn.main_arg1) = m ((c.tc : Thread Cert.MlpAttn.nD Cert.MlpAttn.τ).loc Cert.MlpAttn.main_arg1)
      ∧ r.2.mem ((c.tc : Thread Cert.MlpAttn.nD Cert.MlpAttn.τ).loc Cert.MlpAttn.main_arg2) = m ((c.tc : Thread Cert.MlpAttn.nD Cert.MlpAttn.τ).loc Cert.MlpAttn.main_arg2)
      ∧ r.2.mem ((c.tc : Thread Cert.MlpAttn.nD Cert.MlpAttn.τ).loc Cert.MlpAttn.main_arg3) = m ((c.tc : Thread Cert.MlpAttn.nD Cert.MlpAttn.τ).loc Cert.MlpAttn.main_arg3)
      ∧ r.2.mem ((c.tc : Thread Cert.MlpAttn.nD Cert.MlpAttn.τ).loc Cert.MlpAttn.main_arg4) = m ((c.tc : Thread Cert.MlpAttn.nD Cert.MlpAttn.τ).loc Cert.MlpAttn.main_arg4)
      ∧ r.2.mem ((c.tc : Thread Cert.MlpAttn.nD Cert.MlpAttn.τ).loc Cert.MlpAttn.main_arg5) = m ((c.tc : Thread Cert.MlpAttn.nD Cert.MlpAttn.τ).loc Cert.MlpAttn.main_arg5)
      ∧ r.2.mem ((c.tc : Thread Cert.MlpAttn.nD Cert.MlpAttn.τ).loc Cert.MlpAttn.main_arg6) = m ((c.tc : Thread Cert.MlpAttn.nD Cert.MlpAttn.τ).loc Cert.MlpAttn.main_arg6))
      ∧ r.2.sem = fun _ => 0)

def quiescent_MlpAttnIdeal [hMlpAttnIdeal : Cert.MlpAttnIdeal.Facts] : Prop :=
  ∀ (m : (ℓ : Loc Cert.MlpAttnIdeal.nD Cert.MlpAttnIdeal.τ Cert.MlpAttnIdeal.sig) → Buf (Elt Ideal) ℓ) (g : Dev Cert.MlpAttnIdeal.nD → PrngReg), Pre_MlpAttnIdeal m →
    θ_run (Cert.MlpAttnIdeal.defs (F := Ideal)) (onTc (τ := Cert.MlpAttnIdeal.τ) (Cert.MlpAttnIdeal.main (F := Ideal))) ⟨m, fun _ => 0, g⟩ (fun r => (∀ c : Dev Cert.MlpAttnIdeal.nD,
      r.2.mem ((c.tc : Thread Cert.MlpAttnIdeal.nD Cert.MlpAttnIdeal.τ).loc Cert.MlpAttnIdeal.main_arg0) = m ((c.tc : Thread Cert.MlpAttnIdeal.nD Cert.MlpAttnIdeal.τ).loc Cert.MlpAttnIdeal.main_arg0)
      ∧ r.2.mem ((c.tc : Thread Cert.MlpAttnIdeal.nD Cert.MlpAttnIdeal.τ).loc Cert.MlpAttnIdeal.main_arg1) = m ((c.tc : Thread Cert.MlpAttnIdeal.nD Cert.MlpAttnIdeal.τ).loc Cert.MlpAttnIdeal.main_arg1)
      ∧ r.2.mem ((c.tc : Thread Cert.MlpAttnIdeal.nD Cert.MlpAttnIdeal.τ).loc Cert.MlpAttnIdeal.main_arg2) = m ((c.tc : Thread Cert.MlpAttnIdeal.nD Cert.MlpAttnIdeal.τ).loc Cert.MlpAttnIdeal.main_arg2)
      ∧ r.2.mem ((c.tc : Thread Cert.MlpAttnIdeal.nD Cert.MlpAttnIdeal.τ).loc Cert.MlpAttnIdeal.main_arg3) = m ((c.tc : Thread Cert.MlpAttnIdeal.nD Cert.MlpAttnIdeal.τ).loc Cert.MlpAttnIdeal.main_arg3)
      ∧ r.2.mem ((c.tc : Thread Cert.MlpAttnIdeal.nD Cert.MlpAttnIdeal.τ).loc Cert.MlpAttnIdeal.main_arg4) = m ((c.tc : Thread Cert.MlpAttnIdeal.nD Cert.MlpAttnIdeal.τ).loc Cert.MlpAttnIdeal.main_arg4)
      ∧ r.2.mem ((c.tc : Thread Cert.MlpAttnIdeal.nD Cert.MlpAttnIdeal.τ).loc Cert.MlpAttnIdeal.main_arg5) = m ((c.tc : Thread Cert.MlpAttnIdeal.nD Cert.MlpAttnIdeal.τ).loc Cert.MlpAttnIdeal.main_arg5)
      ∧ r.2.mem ((c.tc : Thread Cert.MlpAttnIdeal.nD Cert.MlpAttnIdeal.τ).loc Cert.MlpAttnIdeal.main_arg6) = m ((c.tc : Thread Cert.MlpAttnIdeal.nD Cert.MlpAttnIdeal.τ).loc Cert.MlpAttnIdeal.main_arg6))
      ∧ r.2.sem = fun _ => 0)

def quiescent_MlpAttnReferenceIdeal [hMlpAttnReferenceIdeal : Cert.MlpAttnReferenceIdeal.Facts] : Prop :=
  ∀ (m : (ℓ : Loc Cert.MlpAttnReferenceIdeal.nD Cert.MlpAttnReferenceIdeal.τ Cert.MlpAttnReferenceIdeal.sig) → Buf (Elt Ideal) ℓ) (g : Dev Cert.MlpAttnReferenceIdeal.nD → PrngReg), Pre_MlpAttnReferenceIdeal m →
    θ_run (Cert.MlpAttnReferenceIdeal.defs (F := Ideal)) (onTc (τ := Cert.MlpAttnReferenceIdeal.τ) (Cert.MlpAttnReferenceIdeal.main (F := Ideal))) ⟨m, fun _ => 0, g⟩ (fun r => (∀ c : Dev Cert.MlpAttnReferenceIdeal.nD,
      r.2.mem ((c.tc : Thread Cert.MlpAttnReferenceIdeal.nD Cert.MlpAttnReferenceIdeal.τ).loc Cert.MlpAttnReferenceIdeal.main_arg0) = m ((c.tc : Thread Cert.MlpAttnReferenceIdeal.nD Cert.MlpAttnReferenceIdeal.τ).loc Cert.MlpAttnReferenceIdeal.main_arg0)
      ∧ r.2.mem ((c.tc : Thread Cert.MlpAttnReferenceIdeal.nD Cert.MlpAttnReferenceIdeal.τ).loc Cert.MlpAttnReferenceIdeal.main_arg1) = m ((c.tc : Thread Cert.MlpAttnReferenceIdeal.nD Cert.MlpAttnReferenceIdeal.τ).loc Cert.MlpAttnReferenceIdeal.main_arg1)
      ∧ r.2.mem ((c.tc : Thread Cert.MlpAttnReferenceIdeal.nD Cert.MlpAttnReferenceIdeal.τ).loc Cert.MlpAttnReferenceIdeal.main_arg2) = m ((c.tc : Thread Cert.MlpAttnReferenceIdeal.nD Cert.MlpAttnReferenceIdeal.τ).loc Cert.MlpAttnReferenceIdeal.main_arg2)
      ∧ r.2.mem ((c.tc : Thread Cert.MlpAttnReferenceIdeal.nD Cert.MlpAttnReferenceIdeal.τ).loc Cert.MlpAttnReferenceIdeal.main_arg3) = m ((c.tc : Thread Cert.MlpAttnReferenceIdeal.nD Cert.MlpAttnReferenceIdeal.τ).loc Cert.MlpAttnReferenceIdeal.main_arg3)
      ∧ r.2.mem ((c.tc : Thread Cert.MlpAttnReferenceIdeal.nD Cert.MlpAttnReferenceIdeal.τ).loc Cert.MlpAttnReferenceIdeal.main_arg4) = m ((c.tc : Thread Cert.MlpAttnReferenceIdeal.nD Cert.MlpAttnReferenceIdeal.τ).loc Cert.MlpAttnReferenceIdeal.main_arg4)
      ∧ r.2.mem ((c.tc : Thread Cert.MlpAttnReferenceIdeal.nD Cert.MlpAttnReferenceIdeal.τ).loc Cert.MlpAttnReferenceIdeal.main_arg5) = m ((c.tc : Thread Cert.MlpAttnReferenceIdeal.nD Cert.MlpAttnReferenceIdeal.τ).loc Cert.MlpAttnReferenceIdeal.main_arg5)
      ∧ r.2.mem ((c.tc : Thread Cert.MlpAttnReferenceIdeal.nD Cert.MlpAttnReferenceIdeal.τ).loc Cert.MlpAttnReferenceIdeal.main_arg6) = m ((c.tc : Thread Cert.MlpAttnReferenceIdeal.nD Cert.MlpAttnReferenceIdeal.τ).loc Cert.MlpAttnReferenceIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7)
      ∧ r.2.mem ((c.tc : Thread Cert.Sgu.nD Cert.Sgu.τ).loc Cert.Sgu.main_arg8) = m ((c.tc : Thread Cert.Sgu.nD Cert.Sgu.τ).loc Cert.Sgu.main_arg8)
      ∧ r.2.mem ((c.tc : Thread Cert.Sgu.nD Cert.Sgu.τ).loc Cert.Sgu.main_arg9) = m ((c.tc : Thread Cert.Sgu.nD Cert.Sgu.τ).loc Cert.Sgu.main_arg9)
      ∧ r.2.mem ((c.tc : Thread Cert.Sgu.nD Cert.Sgu.τ).loc Cert.Sgu.main_arg10) = m ((c.tc : Thread Cert.Sgu.nD Cert.Sgu.τ).loc Cert.Sgu.main_arg10))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
      ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
      ∧ r.2.mem ((c.tc : Thread Cert.SguIdeal.nD Cert.SguIdeal.τ).loc Cert.SguIdeal.main_arg10) = m ((c.tc : Thread Cert.SguIdeal.nD Cert.SguIdeal.τ).loc Cert.SguIdeal.main_arg10))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5)
      ∧ r.2.mem ((c.tc : Thread Cert.SguReferenceIdeal.nD Cert.SguReferenceIdeal.τ).loc Cert.SguReferenceIdeal.main_arg6) = m ((c.tc : Thread Cert.SguReferenceIdeal.nD Cert.SguReferenceIdeal.τ).loc Cert.SguReferenceIdeal.main_arg6)
      ∧ r.2.mem ((c.tc : Thread Cert.SguReferenceIdeal.nD Cert.SguReferenceIdeal.τ).loc Cert.SguReferenceIdeal.main_arg7) = m ((c.tc : Thread Cert.SguReferenceIdeal.nD Cert.SguReferenceIdeal.τ).loc Cert.SguReferenceIdeal.main_arg7)
      ∧ r.2.mem ((c.tc : Thread Cert.SguReferenceIdeal.nD Cert.SguReferenceIdeal.τ).loc Cert.SguReferenceIdeal.main_arg8) = m ((c.tc : Thread Cert.SguReferenceIdeal.nD Cert.SguReferenceIdeal.τ).loc Cert.SguReferenceIdeal.main_arg8)
      ∧ r.2.mem ((c.tc : Thread Cert.SguReferenceIdeal.nD Cert.SguReferenceIdeal.τ).loc Cert.SguReferenceIdeal.main_arg9) = m ((c.tc : Thread Cert.SguReferenceIdeal.nD Cert.SguReferenceIdeal.τ).loc Cert.SguReferenceIdeal.main_arg9)
      ∧ r.2.mem ((c.tc : Thread Cert.SguReferenceIdeal.nD Cert.SguReferenceIdeal.τ).loc Cert.SguReferenceIdeal.main_arg10) = m ((c.tc : Thread Cert.SguReferenceIdeal.nD Cert.SguReferenceIdeal.τ).loc Cert.SguReferenceIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MlpAttn_MlpAttnIdeal : Prop :=
  True

def algebraic_MlpAttnIdeal_MlpAttnReferenceIdeal [hMlpAttnIdeal : Cert.MlpAttnIdeal.Facts] [hMlpAttnReferenceIdeal : Cert.MlpAttnReferenceIdeal.Facts] : Prop :=
  ∀ (m : (ℓ : Loc Cert.MlpAttnIdeal.nD Cert.MlpAttnIdeal.τ Cert.MlpAttnIdeal.sig) → Buf (Elt Ideal) ℓ) (g : Dev Cert.MlpAttnIdeal.nD → PrngReg)
    (m' : (ℓ : Loc Cert.MlpAttnReferenceIdeal.nD Cert.MlpAttnReferenceIdeal.τ Cert.MlpAttnReferenceIdeal.sig) → Buf (Elt Ideal) ℓ) (g' : Dev Cert.MlpAttnReferenceIdeal.nD → PrngReg), Pre_MlpAttnIdeal m →
    (∀ c : Dev Cert.MlpAttnIdeal.nD,
      m' ((c.tc : Thread Cert.MlpAttnReferenceIdeal.nD Cert.MlpAttnReferenceIdeal.τ).loc Cert.MlpAttnReferenceIdeal.main_arg0) = m ((c.tc : Thread Cert.MlpAttnIdeal.nD Cert.MlpAttnIdeal.τ).loc Cert.MlpAttnIdeal.main_arg0)
      ∧ m' ((c.tc : Thread Cert.MlpAttnReferenceIdeal.nD Cert.MlpAttnReferenceIdeal.τ).loc Cert.MlpAttnReferenceIdeal.main_arg1) = m ((c.tc : Thread Cert.MlpAttnIdeal.nD Cert.MlpAttnIdeal.τ).loc Cert.MlpAttnIdeal.main_arg1)
      ∧ m' ((c.tc : Thread Cert.MlpAttnReferenceIdeal.nD Cert.MlpAttnReferenceIdeal.τ).loc Cert.MlpAttnReferenceIdeal.main_arg2) = m ((c.tc : Thread Cert.MlpAttnIdeal.nD Cert.MlpAttnIdeal.τ).loc Cert.MlpAttnIdeal.main_arg2)
      ∧ m' ((c.tc : Thread Cert.MlpAttnReferenceIdeal.nD Cert.MlpAttnReferenceIdeal.τ).loc Cert.MlpAttnReferenceIdeal.main_arg3) = m ((c.tc : Thread Cert.MlpAttnIdeal.nD Cert.MlpAttnIdeal.τ).loc Cert.MlpAttnIdeal.main_arg3)
      ∧ m' ((c.tc : Thread Cert.MlpAttnReferenceIdeal.nD Cert.MlpAttnReferenceIdeal.τ).loc Cert.MlpAttnReferenceIdeal.main_arg4) = m ((c.tc : Thread Cert.MlpAttnIdeal.nD Cert.MlpAttnIdeal.τ).loc Cert.MlpAttnIdeal.main_arg4)
      ∧ m' ((c.tc : Thread Cert.MlpAttnReferenceIdeal.nD Cert.MlpAttnReferenceIdeal.τ).loc Cert.MlpAttnReferenceIdeal.main_arg5) = m ((c.tc : Thread Cert.MlpAttnIdeal.nD Cert.MlpAttnIdeal.τ).loc Cert.MlpAttnIdeal.main_arg5)
      ∧ m' ((c.tc : Thread Cert.MlpAttnReferenceIdeal.nD Cert.MlpAttnReferenceIdeal.τ).loc Cert.MlpAttnReferenceIdeal.main_arg6) = m ((c.tc : Thread Cert.MlpAttnIdeal.nD Cert.MlpAttnIdeal.τ).loc Cert.MlpAttnIdeal.main_arg6)) →
    ∃ (v0 : (c : Dev Cert.MlpAttnIdeal.nD) → Buf (Elt Ideal) ((c.tc : Thread Cert.MlpAttnIdeal.nD Cert.MlpAttnIdeal.τ).loc Cert.MlpAttnIdeal.main_v1)),
      θ_run (Cert.MlpAttnIdeal.defs (F := Ideal)) (onTc (τ := Cert.MlpAttnIdeal.τ) (Cert.MlpAttnIdeal.main (F := Ideal))) ⟨m, fun _ => 0, g⟩ (fun r => ∀ c : Dev Cert.MlpAttnIdeal.nD,
          r.2.mem ((c.tc : Thread Cert.MlpAttnIdeal.nD Cert.MlpAttnIdeal.τ).loc Cert.MlpAttnIdeal.main_v1) = v0 c
          ∧ r.2.mem ((c.tc : Thread Cert.MlpAttnIdeal.nD Cert.MlpAttnIdeal.τ).loc Cert.MlpAttnIdeal.main_arg0) = m ((c.tc : Thread Cert.MlpAttnIdeal.nD Cert.MlpAttnIdeal.τ).loc Cert.MlpAttnIdeal.main_arg0)
          ∧ r.2.mem ((c.tc : Thread Cert.MlpAttnIdeal.nD Cert.MlpAttnIdeal.τ).loc Cert.MlpAttnIdeal.main_arg1) = m ((c.tc : Thread Cert.MlpAttnIdeal.nD Cert.MlpAttnIdeal.τ).loc Cert.MlpAttnIdeal.main_arg1)
          ∧ r.2.mem ((c.tc : Thread Cert.MlpAttnIdeal.nD Cert.MlpAttnIdeal.τ).loc Cert.MlpAttnIdeal.main_arg2) = m ((c.tc : Thread Cert.MlpAttnIdeal.nD Cert.MlpAttnIdeal.τ).loc Cert.MlpAttnIdeal.main_arg2)
          ∧ r.2.mem ((c.tc : Thread Cert.MlpAttnIdeal.nD Cert.MlpAttnIdeal.τ).loc Cert.MlpAttnIdeal.main_arg3) = m ((c.tc : Thread Cert.MlpAttnIdeal.nD Cert.MlpAttnIdeal.τ).loc Cert.MlpAttnIdeal.main_arg3)
          ∧ r.2.mem ((c.tc : Thread Cert.MlpAttnIdeal.nD Cert.MlpAttnIdeal.τ).loc Cert.MlpAttnIdeal.main_arg4) = m ((c.tc : Thread Cert.MlpAttnIdeal.nD Cert.MlpAttnIdeal.τ).loc Cert.MlpAttnIdeal.main_arg4)
          ∧ r.2.mem ((c.tc : Thread Cert.MlpAttnIdeal.nD Cert.MlpAttnIdeal.τ).loc Cert.MlpAttnIdeal.main_arg5) = m ((c.tc : Thread Cert.MlpAttnIdeal.nD Cert.MlpAttnIdeal.τ).loc Cert.MlpAttnIdeal.main_arg5)
          ∧ r.2.mem ((c.tc : Thread Cert.MlpAttnIdeal.nD Cert.MlpAttnIdeal.τ).loc Cert.MlpAttnIdeal.main_arg6) = m ((c.tc : Thread Cert.MlpAttnIdeal.nD Cert.MlpAttnIdeal.τ).loc Cert.MlpAttnIdeal.main_arg6))
      ∧ θ_run (Cert.MlpAttnReferenceIdeal.defs (F := Ideal)) (onTc (τ := Cert.MlpAttnReferenceIdeal.τ) (Cert.MlpAttnReferenceIdeal.main (F := Ideal))) ⟨m', fun _ => 0, g'⟩ (fun r => ∀ c : Dev Cert.MlpAttnReferenceIdeal.nD,
          r.2.mem ((c.tc : Thread Cert.MlpAttnReferenceIdeal.nD Cert.MlpAttnReferenceIdeal.τ).loc Cert.MlpAttnReferenceIdeal.main_v46) = v0 c
          ∧ r.2.mem ((c.tc : Thread Cert.MlpAttnReferenceIdeal.nD Cert.MlpAttnReferenceIdeal.τ).loc Cert.MlpAttnReferenceIdeal.main_arg0) = m' ((c.tc : Thread Cert.MlpAttnReferenceIdeal.nD Cert.MlpAttnReferenceIdeal.τ).loc Cert.MlpAttnReferenceIdeal.main_arg0)
          ∧ r.2.mem ((c.tc : Thread Cert.MlpAttnReferenceIdeal.nD Cert.MlpAttnReferenceIdeal.τ).loc Cert.MlpAttnReferenceIdeal.main_arg1) = m' ((c.tc : Thread Cert.MlpAttnReferenceIdeal.nD Cert.MlpAttnReferenceIdeal.τ).loc Cert.MlpAttnReferenceIdeal.main_arg1)
          ∧ r.2.mem ((c.tc : Thread Cert.MlpAttnReferenceIdeal.nD Cert.MlpAttnReferenceIdeal.τ).loc Cert.MlpAttnReferenceIdeal.main_arg2) = m' ((c.tc : Thread Cert.MlpAttnReferenceIdeal.nD Cert.MlpAttnReferenceIdeal.τ).loc Cert.MlpAttnReferenceIdeal.main_arg2)
          ∧ r.2.mem ((c.tc : Thread Cert.MlpAttnReferenceIdeal.nD Cert.MlpAttnReferenceIdeal.τ).loc Cert.MlpAttnReferenceIdeal.main_arg3) = m' ((c.tc : Thread Cert.MlpAttnReferenceIdeal.nD Cert.MlpAttnReferenceIdeal.τ).loc Cert.MlpAttnReferenceIdeal.main_arg3)
          ∧ r.2.mem ((c.tc : Thread Cert.MlpAttnReferenceIdeal.nD Cert.MlpAttnReferenceIdeal.τ).loc Cert.MlpAttnReferenceIdeal.main_arg4) = m' ((c.tc : Thread Cert.MlpAttnReferenceIdeal.nD Cert.MlpAttnReferenceIdeal.τ).loc Cert.MlpAttnReferenceIdeal.main_arg4)
          ∧ r.2.mem ((c.tc : Thread Cert.MlpAttnReferenceIdeal.nD Cert.MlpAttnReferenceIdeal.τ).loc Cert.MlpAttnReferenceIdeal.main_arg5) = m' ((c.tc : Thread Cert.MlpAttnReferenceIdeal.nD Cert.MlpAttnReferenceIdeal.τ).loc Cert.MlpAttnReferenceIdeal.main_arg5)
          ∧ r.2.mem ((c.tc : Thread Cert.MlpAttnReferenceIdeal.nD Cert.MlpAttnReferenceIdeal.τ).loc Cert.MlpAttnReferenceIdeal.main_arg6) = m' ((c.tc : Thread Cert.MlpAttnReferenceIdeal.nD Cert.MlpAttnReferenceIdeal.τ).loc Cert.MlpAttnReferenceIdeal.main_arg6))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v39) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Sgu_SguIdeal : Prop :=
  True

def algebraic_SguIdeal_SguReferenceIdeal [hSguIdeal : Cert.SguIdeal.Facts] [hSguReferenceIdeal : Cert.SguReferenceIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)
      ∧ m' ((c.tc : Thread Cert.SguReferenceIdeal.nD Cert.SguReferenceIdeal.τ).loc Cert.SguReferenceIdeal.main_arg3) = m ((c.tc : Thread Cert.SguIdeal.nD Cert.SguIdeal.τ).loc Cert.SguIdeal.main_arg3)
      ∧ m' ((c.tc : Thread Cert.SguReferenceIdeal.nD Cert.SguReferenceIdeal.τ).loc Cert.SguReferenceIdeal.main_arg4) = m ((c.tc : Thread Cert.SguIdeal.nD Cert.SguIdeal.τ).loc Cert.SguIdeal.main_arg4)
      ∧ m' ((c.tc : Thread Cert.SguReferenceIdeal.nD Cert.SguReferenceIdeal.τ).loc Cert.SguReferenceIdeal.main_arg5) = m ((c.tc : Thread Cert.SguIdeal.nD Cert.SguIdeal.τ).loc Cert.SguIdeal.main_arg5)
      ∧ m' ((c.tc : Thread Cert.SguReferenceIdeal.nD Cert.SguReferenceIdeal.τ).loc Cert.SguReferenceIdeal.main_arg6) = m ((c.tc : Thread Cert.SguIdeal.nD Cert.SguIdeal.τ).loc Cert.SguIdeal.main_arg6)
      ∧ m' ((c.tc : Thread Cert.SguReferenceIdeal.nD Cert.SguReferenceIdeal.τ).loc Cert.SguReferenceIdeal.main_arg7) = m ((c.tc : Thread Cert.SguIdeal.nD Cert.SguIdeal.τ).loc Cert.SguIdeal.main_arg7)
      ∧ m' ((c.tc : Thread Cert.SguReferenceIdeal.nD Cert.SguReferenceIdeal.τ).loc Cert.SguReferenceIdeal.main_arg8) = m ((c.tc : Thread Cert.SguIdeal.nD Cert.SguIdeal.τ).loc Cert.SguIdeal.main_arg8)
      ∧ m' ((c.tc : Thread Cert.SguReferenceIdeal.nD Cert.SguReferenceIdeal.τ).loc Cert.SguReferenceIdeal.main_arg9) = m ((c.tc : Thread Cert.SguIdeal.nD Cert.SguIdeal.τ).loc Cert.SguIdeal.main_arg9)
      ∧ m' ((c.tc : Thread Cert.SguReferenceIdeal.nD Cert.SguReferenceIdeal.τ).loc Cert.SguReferenceIdeal.main_arg10) = m ((c.tc : Thread Cert.SguIdeal.nD Cert.SguIdeal.τ).loc Cert.SguIdeal.main_arg10)) →
    ∃ (v0 : (c : Dev Cert.SguIdeal.nD) → Buf (Elt Ideal) ((c.tc : Thread Cert.SguIdeal.nD Cert.SguIdeal.τ).loc Cert.SguIdeal.main_v4_0)) (v1 : (c : Dev Cert.SguIdeal.nD) → Buf (Elt Ideal) ((c.tc : Thread Cert.SguIdeal.nD Cert.SguIdeal.τ).loc Cert.SguIdeal.main_v4_1)) (v2 : (c : Dev Cert.SguIdeal.nD) → Buf (Elt Ideal) ((c.tc : Thread Cert.SguIdeal.nD Cert.SguIdeal.τ).loc Cert.SguIdeal.main_v4_2)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v4_0) = v0 c
          ∧ r.2.mem ((c.tc : Thread Cert.SguIdeal.nD Cert.SguIdeal.τ).loc Cert.SguIdeal.main_v4_1) = v1 c
          ∧ r.2.mem ((c.tc : Thread Cert.SguIdeal.nD Cert.SguIdeal.τ).loc Cert.SguIdeal.main_v4_2) = v2 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
          ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
          ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
          ∧ r.2.mem ((c.tc : Thread Cert.SguIdeal.nD Cert.SguIdeal.τ).loc Cert.SguIdeal.main_arg10) = m ((c.tc : Thread Cert.SguIdeal.nD Cert.SguIdeal.τ).loc Cert.SguIdeal.main_arg10))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v85) = v0 c
          ∧ r.2.mem ((c.tc : Thread Cert.SguReferenceIdeal.nD Cert.SguReferenceIdeal.τ).loc Cert.SguReferenceIdeal.main_v88) = v1 c
          ∧ r.2.mem ((c.tc : Thread Cert.SguReferenceIdeal.nD Cert.SguReferenceIdeal.τ).loc Cert.SguReferenceIdeal.main_v91) = v2 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5)
          ∧ r.2.mem ((c.tc : Thread Cert.SguReferenceIdeal.nD Cert.SguReferenceIdeal.τ).loc Cert.SguReferenceIdeal.main_arg6) = m' ((c.tc : Thread Cert.SguReferenceIdeal.nD Cert.SguReferenceIdeal.τ).loc Cert.SguReferenceIdeal.main_arg6)
          ∧ r.2.mem ((c.tc : Thread Cert.SguReferenceIdeal.nD Cert.SguReferenceIdeal.τ).loc Cert.SguReferenceIdeal.main_arg7) = m' ((c.tc : Thread Cert.SguReferenceIdeal.nD Cert.SguReferenceIdeal.τ).loc Cert.SguReferenceIdeal.main_arg7)
          ∧ r.2.mem ((c.tc : Thread Cert.SguReferenceIdeal.nD Cert.SguReferenceIdeal.τ).loc Cert.SguReferenceIdeal.main_arg8) = m' ((c.tc : Thread Cert.SguReferenceIdeal.nD Cert.SguReferenceIdeal.τ).loc Cert.SguReferenceIdeal.main_arg8)
          ∧ r.2.mem ((c.tc : Thread Cert.SguReferenceIdeal.nD Cert.SguReferenceIdeal.τ).loc Cert.SguReferenceIdeal.main_arg9) = m' ((c.tc : Thread Cert.SguReferenceIdeal.nD Cert.SguReferenceIdeal.τ).loc Cert.SguReferenceIdeal.main_arg9)
          ∧ r.2.mem ((c.tc : Thread Cert.SguReferenceIdeal.nD Cert.SguReferenceIdeal.τ).loc Cert.SguReferenceIdeal.main_arg10) = m' ((c.tc : Thread Cert.SguReferenceIdeal.nD Cert.SguReferenceIdeal.τ).loc Cert.SguReferenceIdeal.main_arg10))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v39_0)) (v1 : (c : Dev Cert.ProjIdeal.nD) → Buf (Elt Ideal) ((c.tc : Thread Cert.ProjIdeal.nD Cert.ProjIdeal.τ).loc Cert.ProjIdeal.main_v39_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v39_0) = v0 c
          ∧ r.2.mem ((c.tc : Thread Cert.ProjIdeal.nD Cert.ProjIdeal.τ).loc Cert.ProjIdeal.main_v39_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v114) = v0 c
          ∧ r.2.mem ((c.tc : Thread Cert.ProjReferenceIdeal.nD Cert.ProjReferenceIdeal.τ).loc Cert.ProjReferenceIdeal.main_v115) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def Claim : Prop :=
  ∃ (hKernel : Cert.Kernel.Facts) (hKernelIdeal : Cert.KernelIdeal.Facts) (hReferenceIdeal : Cert.ReferenceIdeal.Facts) (hMlpAttn : Cert.MlpAttn.Facts) (hMlpAttnIdeal : Cert.MlpAttnIdeal.Facts) (hMlpAttnReferenceIdeal : Cert.MlpAttnReferenceIdeal.Facts) (hMlp : Cert.Mlp.Facts) (hMlpIdeal : Cert.MlpIdeal.Facts) (hMlpReferenceIdeal : Cert.MlpReferenceIdeal.Facts) (hSgu : Cert.Sgu.Facts) (hSguIdeal : Cert.SguIdeal.Facts) (hSguReferenceIdeal : Cert.SguReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpAttn (hMlpAttn := hMlpAttn)
    ∧ quiescent_MlpAttnIdeal (hMlpAttnIdeal := hMlpAttnIdeal)
    ∧ quiescent_MlpAttnReferenceIdeal (hMlpAttnReferenceIdeal := hMlpAttnReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Sgu (hSgu := hSgu)
    ∧ quiescent_SguIdeal (hSguIdeal := hSguIdeal)
    ∧ quiescent_SguReferenceIdeal (hSguReferenceIdeal := hSguReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpAttn_MlpAttnIdeal
    ∧ algebraic_MlpAttnIdeal_MlpAttnReferenceIdeal (hMlpAttnIdeal := hMlpAttnIdeal) (hMlpAttnReferenceIdeal := hMlpAttnReferenceIdeal)
    ∧ preserves_Mlp_MlpIdeal
    ∧ algebraic_MlpIdeal_MlpReferenceIdeal (hMlpIdeal := hMlpIdeal) (hMlpReferenceIdeal := hMlpReferenceIdeal)
    ∧ preserves_Sgu_SguIdeal
    ∧ algebraic_SguIdeal_SguReferenceIdeal (hSguIdeal := hSguIdeal) (hSguReferenceIdeal := hSguReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S8x16x4096x256 : Shape := ⟨4, ![8, 16, 4096, 256]⟩
abbrev S8x4096x256 : Shape := ⟨3, ![8, 4096, 256]⟩
abbrev S4x1024x4096 : Shape := ⟨3, ![4, 1024, 4096]⟩
abbrev S4x4096x1024 : Shape := ⟨3, ![4, 4096, 1024]⟩
abbrev S_ : Shape := ⟨0, ![]⟩

class Facts : Prop where
  bitsLt_bf16_f32 : FTy.bits .bf16 < FTy.bits .f32
  bcast_S_S8x16x4096x256 : S_.BroadcastsInDim S8x16x4096x256 (![] : Fin 0 → Fin S8x16x4096x256.rank)
  reducesTo_S8x16x4096x256_S_d0_1_2_3 : S8x16x4096x256.ReducesTo [0, 1, 2, 3] S_
  h_S_ : 0 < S_.numel
  bcast_S_S8x4096x256 : S_.BroadcastsInDim S8x4096x256 (![] : Fin 0 → Fin S8x4096x256.rank)
  reducesTo_S8x4096x256_S_d0_1_2 : S8x4096x256.ReducesTo [0, 1, 2] S_

variable [Facts]

def fn {F : FTy → Type} [FloatOps F] (main_arg0 : FVec F S8x16x4096x256 .bf16) (main_arg1 : FVec F S8x4096x256 .bf16) (main_arg2 : FVec F S4x1024x4096 .f32) (main_arg3 : FVec F S4x4096x1024 .f32) : IVec S_ 1 :=
  let main_v0 : FVec F S8x16x4096x256 .f32 := (extf .f32 · bitsLt_bf16_f32) main_arg0
  let main_v1 : FVec F S8x16x4096x256 .f32 := Host.absf main_v0
  let main_cst : FVec F S_ .f32 := constant S_ .f32 0x7F800000#32
  let main_v2 : FVec F S8x16x4096x256 .f32 := broadcastInDim S8x16x4096x256 ![] bcast_S_S8x16x4096x256 main_cst
  let main_v3 : IVec S8x16x4096x256 1 := cmpf .olt main_v1 main_v2
  let main_c : IVec S_ 1 := constantI S_ 1 1#1
  let main_v4 : IVec S_ 1 := (fun x v => Host.reduce IntOp.andi x v reducesTo_S8x16x4096x256_S_d0_1_2_3 h_S_) main_v3 main_c
  let main_v5 : FVec F S8x4096x256 .f32 := (extf .f32 · bitsLt_bf16_f32) main_arg1
  let main_v6 : FVec F S8x4096x256 .f32 := Host.absf main_v5
  let main_cst_0 : FVec F S_ .f32 := constant S_ .f32 0x7F800000#32
  let main_v7 : FVec F S8x4096x256 .f32 := broadcastInDim S8x4096x256 ![] bcast_S_S8x4096x256 main_cst_0
  let main_v8 : IVec S8x4096x256 1 := cmpf .olt main_v6 main_v7
  let main_c_1 : IVec S_ 1 := constantI S_ 1 1#1
  let main_v9 : IVec S_ 1 := (fun x v => Host.reduce IntOp.andi x v reducesTo_S8x4096x256_S_d0_1_2 h_S_) main_v8 main_c_1
  let main_v10 : IVec S_ 1 := andi main_v4 main_v9
  main_v10
-- ==== Kernel.lean ====
abbrev S8x16x4096x256 : Shape := ⟨4, ![8, 16, 4096, 256]⟩
abbrev S8x4096x256 : Shape := ⟨3, ![8, 4096, 256]⟩
abbrev S4x1024x4096 : Shape := ⟨3, ![4, 1024, 4096]⟩
abbrev S4x4096x1024 : Shape := ⟨3, ![4, 4096, 1024]⟩
abbrev S8x4096x2048 : Shape := ⟨3, ![8, 4096, 2048]⟩
abbrev S1024x4096 : Shape := ⟨2, ![1024, 4096]⟩
abbrev S4096x1024 : Shape := ⟨2, ![4096, 1024]⟩
abbrev S1x16x512x256 : Shape := ⟨4, ![1, 16, 512, 256]⟩
abbrev S1x4096x256 : Shape := ⟨3, ![1, 4096, 256]⟩
abbrev S1x16x4096 : Shape := ⟨3, ![1, 16, 4096]⟩
abbrev S1x64x1024 : Shape := ⟨3, ![1, 64, 1024]⟩
abbrev S1x512x2048 : Shape := ⟨3, ![1, 512, 2048]⟩
abbrev S16x4096 : Shape := ⟨2, ![16, 4096]⟩
abbrev S64x1024 : Shape := ⟨2, ![64, 1024]⟩
abbrev S8192x128 : Shape := ⟨2, ![8192, 128]⟩
abbrev S1x256x256 : Shape := ⟨3, ![1, 256, 256]⟩
abbrev S256x256 : Shape := ⟨2, ![256, 256]⟩
abbrev S256x128 : Shape := ⟨2, ![256, 128]⟩
abbrev S512x256 : Shape := ⟨2, ![512, 256]⟩
abbrev S1x1x512x256 : Shape := ⟨4, ![1, 1, 512, 256]⟩
abbrev S512 : Shape := ⟨1, ![512]⟩
abbrev S512x1 : Shape := ⟨2, ![512, 1]⟩
abbrev S512x128 : Shape := ⟨2, ![512, 128]⟩
abbrev S1x1x256x256 : Shape := ⟨4, ![1, 1, 256, 256]⟩
abbrev S256 : Shape := ⟨1, ![256]⟩
abbrev S256x1 : Shape := ⟨2, ![256, 1]⟩
abbrev S1x1536x256 : Shape := ⟨3, ![1, 1536, 256]⟩
abbrev S1536x256 : Shape := ⟨2, ![1536, 256]⟩
abbrev S1536x128 : Shape := ⟨2, ![1536, 128]⟩
abbrev S512x1536 : Shape := ⟨2, ![512, 1536]⟩
abbrev S1x512x256 : Shape := ⟨3, ![1, 512, 256]⟩
abbrev S512x512 : Shape := ⟨2, ![512, 512]⟩
abbrev S1x512x128 : Shape := ⟨3, ![1, 512, 128]⟩

abbrev nBuf : Space → Nat
  | .hbm => 7
  | .vmem => 17
  | .smem => 0
  | _ => 0

abbrev bufTy : (tb : Table) → Fin (tcTables nBuf tb) → BufTy
  | .hbm, ⟨0, _⟩ => ⟨S8x16x4096x256, .bf16⟩
  | .hbm, ⟨1, _⟩ => ⟨S8x4096x256, .bf16⟩
  | .hbm, ⟨2, _⟩ => ⟨S4x1024x4096, .f32⟩
  | .hbm, ⟨3, _⟩ => ⟨S4x4096x1024, .f32⟩
  | .hbm, ⟨4, _⟩ => ⟨S8x4096x2048, .bf16⟩
  | .hbm, ⟨5, _⟩ => ⟨S1024x4096, .bf16⟩
  | .hbm, ⟨6, _⟩ => ⟨S4096x1024, .bf16⟩
  | .local _ .vmem, ⟨0, _⟩ => ⟨S1x16x512x256, .bf16⟩
  | .local _ .vmem, ⟨1, _⟩ => ⟨S1x16x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x16x4096, .f32⟩
  | .local _ .vmem, ⟨5, _⟩ => ⟨S1x16x4096, .f32⟩
  | .local _ .vmem, ⟨6, _⟩ => ⟨S1x64x1024, .f32⟩
  | .local _ .vmem, ⟨7, _⟩ => ⟨S1x64x1024, .f32⟩
  | .local _ .vmem, ⟨8, _⟩ => ⟨S1x512x2048, .bf16⟩
  | .local _ .vmem, ⟨9, _⟩ => ⟨S1x512x2048, .bf16⟩
  | .local _ .vmem, ⟨10, _⟩ => ⟨S16x4096, .bf16⟩
  | .local _ .vmem, ⟨11, _⟩ => ⟨S16x4096, .bf16⟩
  | .local _ .vmem, ⟨12, _⟩ => ⟨S64x1024, .bf16⟩
  | .local _ .vmem, ⟨13, _⟩ => ⟨S64x1024, .bf16⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | _, _ => ⟨S8x16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  v8
def k0_off1 (i : grid0.Coords) : Fin 3 → Nat :=
  let c0_9 : Index := 0#32
  let arg1 : BitVec 32 := BitVec.ofNat 32 (i 1).val
  let c512_i32 : BitVec 32 := 512#32
  let v8 : BitVec 32 := Scalar.muli arg1 c512_i32
  let v9 : BitVec 32 := v8
  let v10 : Index := Scalar.indexCast v9
  let c0_10 : Index := 0#32
  ![0, v10.toNat, 0]
def k0_off2 (i : grid0.Coords) : Fin 3 → Nat :=
  let c0_205 : Index := 0#32
  let arg1 : BitVec 32 := BitVec.ofNat 32 (i 1).val
  let c512_i32 : BitVec 32 := 512#32
  let v8 : BitVec 32 := Scalar.muli arg1 c512_i32
  let v9 : BitVec 32 := v8
  let c256_i32 : BitVec 32 := 256#32
  let v483 : BitVec 32 := Scalar.addi v9 c256_i32
  let v484 : Index := Scalar.indexCast v483
  let c0_206 : Index := 0#32
  ![0, v484.toNat, 0]
@[reducible] def k0_t1_loop (i : grid0.Coords) : Scf.Loop 32 :=
  let c0_i32_517 : BitVec 32 := 0#32
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let v1118 : BitVec 32 := Scalar.subi v1117 c0_i32_517
  let c1_i32_518 : BitVec 32 := 1#32
  let v1120 : BitVec 32 := Scalar.divsi v1118 c1_i32_518
  let v1121 : BitVec 32 := Scalar.muli v1120 c1_i32_518
  let v1122 : BitVec 32 := Scalar.addi c0_i32_517 v1121
  let c1_i32_519 : BitVec 32 := 1#32
  ⟨c0_i32_517, v1122, c1_i32_519⟩
def k0_mult2 (i : grid0.Coords) (k0_t1 : Fin (k0_t1_loop i).trips) : BitVec 32 :=
  let c0_i32_517 : BitVec 32 := 0#32
  let c1_i32_519 : BitVec 32 := 1#32
  let arg12 : BitVec 32 := Scf.iv c0_i32_517 c1_i32_519 k0_t1
  let c1536_i32 : BitVec 32 := 1536#32
  let v1245 : BitVec 32 := Scalar.muli arg12 c1536_i32
  v1245
def k0_off3 (i : grid0.Coords) (k0_t1 : Fin (k0_t1_loop i).trips) : Fin 3 → Nat :=
  let c0_631 : Index := 0#32
  let c0_i32_517 : BitVec 32 := 0#32
  let c1_i32_519 : BitVec 32 := 1#32
  let arg12 : BitVec 32 := Scf.iv c0_i32_517 c1_i32_519 k0_t1
  let c1536_i32 : BitVec 32 := 1536#32
  let v1245 : BitVec 32 := Scalar.muli arg12 c1536_i32
  let v1246 : BitVec 32 := v1245
  let v1247 : Index := Scalar.indexCast v1246
  let c0_632 : Index := 0#32
  ![0, v1247.toNat, 0]
@[reducible] def k0_t2_loop (i : grid0.Coords) : Scf.Loop 32 :=
  let c0_i32_517 : BitVec 32 := 0#32
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let v1118 : BitVec 32 := Scalar.subi v1117 c0_i32_517
  let c1_i32_518 : BitVec 32 := 1#32
  let v1120 : BitVec 32 := Scalar.divsi v1118 c1_i32_518
  let v1121 : BitVec 32 := Scalar.muli v1120 c1_i32_518
  let v1122 : BitVec 32 := Scalar.addi c0_i32_517 v1121
  let v1119 : BitVec 32 := Scalar.addi c0_i32_517 v1118
  let c1_i32_520 : BitVec 32 := 1#32
  ⟨v1122, v1119, c1_i32_520⟩
def k0_mult3 (i : grid0.Coords) (k0_t2 : Fin (k0_t2_loop i).trips) : BitVec 32 :=
  let c0_i32_517 : BitVec 32 := 0#32
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let v1118 : BitVec 32 := Scalar.subi v1117 c0_i32_517
  let c1_i32_518 : BitVec 32 := 1#32
  let v1120 : BitVec 32 := Scalar.divsi v1118 c1_i32_518
  let v1121 : BitVec 32 := Scalar.muli v1120 c1_i32_518
  let v1122 : BitVec 32 := Scalar.addi c0_i32_517 v1121
  let c1_i32_520 : BitVec 32 := 1#32
  let arg12 : BitVec 32 := Scf.iv v1122 c1_i32_520 k0_t2
  let c1536_i32 : BitVec 32 := 1536#32
  let v1245 : BitVec 32 := Scalar.muli arg12 c1536_i32
  v1245
def k0_off4 (i : grid0.Coords) (k0_t2 : Fin (k0_t2_loop i).trips) : Fin 3 → Nat :=
  let c0_631 : Index := 0#32
  let c0_i32_517 : BitVec 32 := 0#32
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let v1118 : BitVec 32 := Scalar.subi v1117 c0_i32_517
  let c1_i32_518 : BitVec 32 := 1#32
  let v1120 : BitVec 32 := Scalar.divsi v1118 c1_i32_518
  let v1121 : BitVec 32 := Scalar.muli v1120 c1_i32_518
  let v1122 : BitVec 32 := Scalar.addi c0_i32_517 v1121
  let c1_i32_520 : BitVec 32 := 1#32
  let arg12 : BitVec 32 := Scf.iv v1122 c1_i32_520 k0_t2
  let c1536_i32 : BitVec 32 := 1536#32
  let v1245 : BitVec 32 := Scalar.muli arg12 c1536_i32
  let v1246 : BitVec 32 := v1245
  let v1247 : Index := Scalar.indexCast v1246
  let c0_632 : Index := 0#32
  ![0, v1247.toNat, 0]
def k0_cond1 (i : grid0.Coords) : BitVec 1 :=
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let c3_i32_521 : BitVec 32 := 3#32
  let v1123 : BitVec 32 := Scalar.muli v1117 c3_i32_521
  let v1124 : BitVec 32 := Scalar.subi arg1 v1123
  let c0_i32_522 : BitVec 32 := 0#32
  let v1125 : BitVec 1 := Scalar.cmpi .sgt v1124 c0_i32_522
  let v1126 : BitVec 32 := Scalar.extui v1125
  let c0_i32_523 : BitVec 32 := 0#32
  let v1127 : BitVec 1 := Scalar.cmpi .ne v1126 c0_i32_523
  v1127

def k0_mult4 (i : grid0.Coords) : BitVec 32 :=
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let c3_i32_631 : BitVec 32 := 3#32
  let v1245 : BitVec 32 := Scalar.muli v1117 c3_i32_631
  let c0_i32_632 : BitVec 32 := 0#32
  let v1246 : BitVec 32 := Scalar.addi v1245 c0_i32_632
  let c512_i32_633 : BitVec 32 := 512#32
  let v1247 : BitVec 32 := Scalar.muli v1246 c512_i32_633
  v1247
def k0_off5 (i : grid0.Coords) : Fin 3 → Nat :=
  let c0_634 : Index := 0#32
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let c3_i32_631 : BitVec 32 := 3#32
  let v1245 : BitVec 32 := Scalar.muli v1117 c3_i32_631
  let c0_i32_632 : BitVec 32 := 0#32
  let v1246 : BitVec 32 := Scalar.addi v1245 c0_i32_632
  let c512_i32_633 : BitVec 32 := 512#32
  let v1247 : BitVec 32 := Scalar.muli v1246 c512_i32_633
  let v1248 : BitVec 32 := v1247
  let v1249 : Index := Scalar.indexCast v1248
  let c0_635 : Index := 0#32
  ![0, v1249.toNat, 0]
def k0_cond2 (i : grid0.Coords) : BitVec 1 :=
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let c3_i32_524 : BitVec 32 := 3#32
  let v1128 : BitVec 32 := Scalar.muli v1117 c3_i32_524
  let v1129 : BitVec 32 := Scalar.subi arg1 v1128
  let c1_i32_525 : BitVec 32 := 1#32
  let v1130 : BitVec 1 := Scalar.cmpi .sgt v1129 c1_i32_525
  let v1131 : BitVec 32 := Scalar.extui v1130
  let c0_i32_526 : BitVec 32 := 0#32
  let v1132 : BitVec 1 := Scalar.cmpi .ne v1131 c0_i32_526
  v1132

def k0_mult5 (i : grid0.Coords) : BitVec 32 :=
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let c3_i32_631 : BitVec 32 := 3#32
  let v1245 : BitVec 32 := Scalar.muli v1117 c3_i32_631
  let c1_i32_632 : BitVec 32 := 1#32
  let v1246 : BitVec 32 := Scalar.addi v1245 c1_i32_632
  let c512_i32_633 : BitVec 32 := 512#32
  let v1247 : BitVec 32 := Scalar.muli v1246 c512_i32_633
  v1247
def k0_off6 (i : grid0.Coords) : Fin 3 → Nat :=
  let c0_634 : Index := 0#32
  let arg1 : BitVec 32 := BitVec.ofNat 32 (i 1).val
  let c0_i32 : BitVec 32 := 0#32
  let v1102 : BitVec 1 := Scalar.cmpi .sgt arg1 c0_i32
  let v1103 : BitVec 32 := Scalar.extui v1102
  let c0_i32_512 : BitVec 32 := 0#32
  let v1104 : BitVec 1 := Scalar.cmpi .slt arg1 c0_i32_512
  let v1105 : BitVec 32 := Scalar.extui v1104
  let v1106 : BitVec 32 := Scalar.subi v1103 v1105
  let c3_i32 : BitVec 32 := 3#32
  let c0_i32_513 : BitVec 32 := 0#32
  let v1107 : BitVec 1 := Scalar.cmpi .sgt c3_i32 c0_i32_513
  let v1108 : BitVec 32 := Scalar.extui v1107
  let c0_i32_514 : BitVec 32 := 0#32
  let v1109 : BitVec 1 := Scalar.cmpi .slt c3_i32 c0_i32_514
  let v1110 : BitVec 32 := Scalar.extui v1109
  let v1111 : BitVec 32 := Scalar.subi v1108 v1110
  let v1112 : BitVec 1 := Scalar.cmpi .ne v1106 v1111
  let v1113 : BitVec 32 := Scalar.remsi arg1 c3_i32
  let c0_i32_515 : BitVec 32 := 0#32
  let v1114 : BitVec 1 := Scalar.cmpi .ne v1113 c0_i32_515
  let v1115 : BitVec 1 := Scalar.andi v1112 v1114
  let v1101 : BitVec 32 := Scalar.divsi arg1 c3_i32
  let c1_i32 : BitVec 32 := 1#32
  let v1116 : BitVec 32 := Scalar.subi v1101 c1_i32
  let v1117 : BitVec 32 := Scalar.select v1115 v1116 v1101
  let c3_i32_631 : BitVec 32 := 3#32
  let v1245 : BitVec 32 := Scalar.muli v1117 c3_i32_631
  let c1_i32_632 : BitVec 32 := 1#32
  let v1246 : BitVec 32 := Scalar.addi v1245 c1_i32_632
  let c512_i32_633 : BitVec 32 := 512#32
  let v1247 : BitVec 32 := Scalar.muli v1246 c512_i32_633
  let v1248 : BitVec 32 := v1247
  let v1249 : Index := Scalar.indexCast v1248
  let c0_635 : Index := 0#32
  ![0, v1249.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x16x4096x256 : Shape := ⟨4, ![8, 16, 4096, 256]⟩
abbrev S8x4096x256 : Shape := ⟨3, ![8, 4096, 256]⟩
abbrev S4x1024x4096 : Shape := ⟨3, ![4, 1024, 4096]⟩
abbrev S4x4096x1024 : Shape := ⟨3, ![4, 4096, 1024]⟩
abbrev S8x16x4096x4096 : Shape := ⟨4, ![8, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S_ : Shape := ⟨0, ![]⟩
abbrev S8x16x4096 : Shape := ⟨3, ![8, 16, 4096]⟩
abbrev S8x16x4096x1 : Shape := ⟨4, ![8, 16, 4096, 1]⟩
abbrev S8x4096x128 : Shape := ⟨3, ![8, 4096, 128]⟩
abbrev S8x128x16x4096 : Shape := ⟨4, ![8, 128, 16, 4096]⟩
abbrev S8x4096x16x128 : Shape := ⟨4, ![8, 4096, 16, 128]⟩
abbrev S8x4096x2048 : Shape := ⟨3, ![8, 4096, 2048]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x16x4096x256, .bf16⟩
  | .hbm, ⟨1, _⟩ => ⟨S8x4096x256, .bf16⟩
  | .hbm, ⟨2, _⟩ => ⟨S4x1024x4096, .f32⟩
  | .hbm, ⟨3, _⟩ => ⟨S4x4096x1024, .f32⟩
  | .hbm, ⟨4, _⟩ => ⟨S8x16x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S1x1x4096x4096, .i1⟩
  | .hbm, ⟨12, _⟩ => ⟨S_, .f32⟩
  | .hbm, ⟨13, _⟩ => ⟨S_, .f32⟩
  | .hbm, ⟨14, _⟩ => ⟨S8x16x4096x4096, .i1⟩
  | .hbm, ⟨15, _⟩ => ⟨S8x16x4096x4096, .f32⟩
  | .hbm, ⟨16, _⟩ => ⟨S8x16x4096x4096, .f32⟩
  | .hbm, ⟨17, _⟩ => ⟨S_, .f32⟩
  | .hbm, ⟨18, _⟩ => ⟨S8x16x4096, .f32⟩
  | .hbm, ⟨19, _⟩ => ⟨S8x16x4096x1, .f32⟩
  | .hbm, ⟨20, _⟩ => ⟨S8x16x4096x4096, .f32⟩
  | .hbm, ⟨21, _⟩ => ⟨S8x16x4096x4096, .f32⟩
  | .hbm, ⟨22, _⟩ => ⟨S_, .f32⟩
  | .hbm, ⟨23, _⟩ => ⟨S8x16x4096x4096, .f32⟩
  | .hbm, ⟨24, _⟩ => ⟨S8x16x4096x4096, .f32⟩
  | .hbm, ⟨25, _⟩ => ⟨S_, .f32⟩
  | .hbm, ⟨26, _⟩ => ⟨S8x16x4096, .f32⟩
  | .hbm, ⟨27, _⟩ => ⟨S8x16x4096x1, .f32⟩
  | .hbm, ⟨28, _⟩ => ⟨S8x16x4096x4096, .f32⟩
  | .hbm, ⟨29, _⟩ => ⟨S8x16x4096x4096, .f32⟩
  | .hbm, ⟨30, _⟩ => ⟨S8x16x4096x4096, .bf16⟩
  | .hbm, ⟨31, _⟩ => ⟨S8x4096x128, .bf16⟩
  | .hbm, ⟨32, _⟩ => ⟨S8x128x16x4096, .f32⟩
  | .hbm, ⟨33, _⟩ => ⟨S8x4096x16x128, .f32⟩
  | .hbm, ⟨34, _⟩ => ⟨S8x4096x16x128, .bf16⟩
  | .hbm, ⟨35, _⟩ => ⟨S8x4096x2048, .bf16⟩
  | .hbm, ⟨36, _⟩ => ⟨S1x1024x4096, .f32⟩
  | .hbm, ⟨37, _⟩ => ⟨S1024x4096, .f32⟩
  | .hbm, ⟨38, _⟩ => ⟨S1024x4096, .bf16⟩
  | .hbm, ⟨39, _⟩ => ⟨S1x4096x1024, .f32⟩
  | .hbm, ⟨40, _⟩ => ⟨S4096x1024, .f32⟩
  | .hbm, ⟨41, _⟩ => ⟨S4096x1024, .bf16⟩
  | _, _ => ⟨S8x16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MlpAttn.lean ====
abbrev S8x4096x1024 : Shape := ⟨3, ![8, 4096, 1024]⟩
abbrev S4x8x6x1024 : Shape := ⟨4, ![4, 8, 6, 1024]⟩
abbrev S1024 : Shape := ⟨1, ![1024]⟩
abbrev S1024x4096 : Shape := ⟨2, ![1024, 4096]⟩
abbrev S4096x1024 : Shape := ⟨2, ![4096, 1024]⟩
abbrev S8x4096x2048 : Shape := ⟨3, ![8, 4096, 2048]⟩
abbrev S2048x1024 : Shape := ⟨2, ![2048, 1024]⟩
abbrev S1x1024 : Shape := ⟨2, ![1, 1024]⟩
abbrev S1x1024x1024 : Shape := ⟨3, ![1, 1024, 1024]⟩
abbrev S1x1x6x1024 : Shape := ⟨4, ![1, 1, 6, 1024]⟩
abbrev S1x1024x2048 : Shape := ⟨3, ![1, 1024, 2048]⟩
abbrev S1024x1024 : Shape := ⟨2, ![1024, 1024]⟩
abbrev S1x512x1024 : Shape := ⟨3, ![1, 512, 1024]⟩
abbrev S512x1024 : Shape := ⟨2, ![512, 1024]⟩
abbrev S1x512x2048 : Shape := ⟨3, ![1, 512, 2048]⟩
abbrev S512x2048 : Shape := ⟨2, ![512, 2048]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S4x8x6x1024, .f32⟩
  | .hbm, ⟨2, _⟩ => ⟨S1024, .f32⟩
  | .hbm, ⟨3, _⟩ => ⟨S1024x4096, .bf16⟩
  | .hbm, ⟨4, _⟩ => ⟨S4096x1024, .bf16⟩
  | .hbm, ⟨5, _⟩ => ⟨S8x4096x2048, .bf16⟩
  | .hbm, ⟨6, _⟩ => ⟨S2048x1024, .bf16⟩
  | .hbm, ⟨7, _⟩ => ⟨S1x1024, .f32⟩
  | .hbm, ⟨8, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S2048x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpAttnReferenceIdeal.lean ====
abbrev S8x4096x1024 : Shape := ⟨3, ![8, 4096, 1024]⟩
abbrev S4x8x6x1024 : Shape := ⟨4, ![4, 8, 6, 1024]⟩
abbrev S1024 : Shape := ⟨1, ![1024]⟩
abbrev S1024x4096 : Shape := ⟨2, ![1024, 4096]⟩
abbrev S4096x1024 : Shape := ⟨2, ![4096, 1024]⟩
abbrev S8x4096x2048 : Shape := ⟨3, ![8, 4096, 2048]⟩
abbrev S2048x1024 : Shape := ⟨2, ![2048, 1024]⟩
abbrev S1x8x6x1024 : Shape := ⟨4, ![1, 8, 6, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x8x6x1024, .f32⟩
  | .hbm, ⟨2, _⟩ => ⟨S1024, .f32⟩
  | .hbm, ⟨3, _⟩ => ⟨S1024x4096, .bf16⟩
  | .hbm, ⟨4, _⟩ => ⟨S4096x1024, .bf16⟩
  | .hbm, ⟨5, _⟩ => ⟨S8x4096x2048, .bf16⟩
  | .hbm, ⟨6, _⟩ => ⟨S2048x1024, .bf16⟩
  | .hbm, ⟨7, _⟩ => ⟨S1x8x6x1024, .f32⟩
  | .hbm, ⟨8, _⟩ => ⟨S8x6x1024, .f32⟩
  | .hbm, ⟨9, _⟩ => ⟨S8x4096x1024, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S8x1x1024, .f32⟩
  | .hbm, ⟨33, _⟩ => ⟨S8x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x1x1024, .f32⟩
  | .hbm, ⟨41, _⟩ => ⟨S8x1024, .f32⟩
  | .hbm, ⟨42, _⟩ => ⟨S8x1x1024, .f32⟩
  | .hbm, ⟨43, _⟩ => ⟨S8x4096x1024, .f32⟩
  | .hbm, ⟨44, _⟩ => ⟨S8x4096x1024, .f32⟩
  | .hbm, ⟨45, _⟩ => ⟨S1024x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x1x1024, .f32⟩
  | .hbm, ⟨52, _⟩ => ⟨S8x1024, .f32⟩
  | .hbm, ⟨53, _⟩ => ⟨S8x1x1024, .f32⟩
  | .hbm, ⟨54, _⟩ => ⟨S4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Mlp.lean ====
abbrev S8x4096x1024 : Shape := ⟨3, ![8, 4096, 1024]⟩
abbrev S4x8x6x1024 : Shape := ⟨4, ![4, 8, 6, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x1x6x1024 : Shape := ⟨4, ![1, 1, 6, 1024]⟩
abbrev S1024x1024 : Shape := ⟨2, ![1024, 1024]⟩
abbrev S1x512x1024 : Shape := ⟨3, ![1, 512, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S4x8x6x1024, .f32⟩
  | .hbm, ⟨2, _⟩ => ⟨S1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlpReferenceIdeal.lean ====
abbrev S8x4096x1024 : Shape := ⟨3, ![8, 4096, 1024]⟩
abbrev S4x8x6x1024 : Shape := ⟨4, ![4, 8, 6, 1024]⟩
abbrev S1024 : Shape := ⟨1, ![1024]⟩
abbrev S1024x4096 : Shape := ⟨2, ![1024, 4096]⟩
abbrev S4096x1024 : Shape := ⟨2, ![4096, 1024]⟩
abbrev S1x8x6x1024 : Shape := ⟨4, ![1, 8, 6, 1024]⟩
abbrev S8x6x1024 : Shape := ⟨3, ![8, 6, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x4096 : Shape := ⟨3, ![8, 4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x8x6x1024, .f32⟩
  | .hbm, ⟨2, _⟩ => ⟨S1024, .f32⟩
  | .hbm, ⟨3, _⟩ => ⟨S1024x4096, .bf16⟩
  | .hbm, ⟨4, _⟩ => ⟨S4096x1024, .bf16⟩
  | .hbm, ⟨5, _⟩ => ⟨S1x8x6x1024, .f32⟩
  | .hbm, ⟨6, _⟩ => ⟨S8x6x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S1024x4096, .f32⟩
  | .hbm, ⟨37, _⟩ => ⟨S8x4096x4096, .f32⟩
  | .hbm, ⟨38, _⟩ => ⟨S_, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x1x1024, .f32⟩
  | .hbm, ⟨43, _⟩ => ⟨S8x1024, .f32⟩
  | .hbm, ⟨44, _⟩ => ⟨S8x1x1024, .f32⟩
  | .hbm, ⟨45, _⟩ => ⟨S4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Sgu.lean ====
abbrev S8x4096x1024 : Shape := ⟨3, ![8, 4096, 1024]⟩
abbrev S4x8x6x1024 : Shape := ⟨4, ![4, 8, 6, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S128x8 : Shape := ⟨2, ![128, 8]⟩
abbrev S1024x4096 : Shape := ⟨2, ![1024, 4096]⟩
abbrev S4096x1024 : Shape := ⟨2, ![4096, 1024]⟩
abbrev S1x1024x1024 : Shape := ⟨3, ![1, 1024, 1024]⟩
abbrev S1x1x6x1024 : Shape := ⟨4, ![1, 1, 6, 1024]⟩
abbrev S1x32x4096 : Shape := ⟨3, ![1, 32, 4096]⟩
abbrev S1x128x1024 : Shape := ⟨3, ![1, 128, 1024]⟩
abbrev S32x4096 : Shape := ⟨2, ![32, 4096]⟩
abbrev S128x1024 : Shape := ⟨2, ![128, 1024]⟩
abbrev S1x512x1024 : Shape := ⟨3, ![1, 512, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 18
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S4x8x6x1024, .f32⟩
  | .hbm, ⟨2, _⟩ => ⟨S1024, .f32⟩
  | .hbm, ⟨3, _⟩ => ⟨S1024x2048, .bf16⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .bf16⟩
  | .hbm, ⟨9, _⟩ => ⟨S4x1024x4096, .f32⟩
  | .hbm, ⟨10, _⟩ => ⟨S4x4096x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S128x8, .f32⟩
  | .hbm, ⟨15, _⟩ => ⟨S8x4096x1024, .f32⟩
  | .hbm, ⟨16, _⟩ => ⟨S1024x4096, .bf16⟩
  | .hbm, ⟨17, _⟩ => ⟨S4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S1024x1024, .bf16⟩
  | .local _ .vmem, ⟨11, _⟩ => ⟨S1x32x4096, .f32⟩
  | .local _ .vmem, ⟨12, _⟩ => ⟨S1x32x4096, .f32⟩
  | .local _ .vmem, ⟨13, _⟩ => ⟨S1x128x1024, .f32⟩
  | .local _ .vmem, ⟨14, _⟩ => ⟨S1x128x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S32x4096, .bf16⟩
  | .local _ .vmem, ⟨18, _⟩ => ⟨S32x4096, .bf16⟩
  | .local _ .vmem, ⟨19, _⟩ => ⟨S128x1024, .bf16⟩
  | .local _ .vmem, ⟨20, _⟩ => ⟨S128x1024, .bf16⟩
  | .local _ .vmem, ⟨21, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x32x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== SguReferenceIdeal.lean ====
abbrev S8x4096x1024 : Shape := ⟨3, ![8, 4096, 1024]⟩
abbrev S4x8x6x1024 : Shape := ⟨4, ![4, 8, 6, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S1x8x6x1024 : Shape := ⟨4, ![1, 8, 6, 1024]⟩
abbrev S8x6x1024 : Shape := ⟨3, ![8, 6, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x2048 : Shape := ⟨3, ![8, 4096, 2048]⟩
abbrev S8x32x128x8x128 : Shape := ⟨5, ![8, 32, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x8x32x128x128 : Shape := ⟨5, ![8, 8, 32, 128, 128]⟩
abbrev S128x8 : Shape := ⟨2, ![128, 8]⟩
abbrev S1x1x128x8x1 : Shape := ⟨5, ![1, 1, 128, 8, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x8x6x1024, .f32⟩
  | .hbm, ⟨2, _⟩ => ⟨S1024, .f32⟩
  | .hbm, ⟨3, _⟩ => ⟨S1024x2048, .bf16⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .bf16⟩
  | .hbm, ⟨9, _⟩ => ⟨S4x1024x4096, .f32⟩
  | .hbm, ⟨10, _⟩ => ⟨S4x4096x1024, .f32⟩
  | .hbm, ⟨11, _⟩ => ⟨S1x8x6x1024, .f32⟩
  | .hbm, ⟨12, _⟩ => ⟨S8x6x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S1024x2048, .f32⟩
  | .hbm, ⟨43, _⟩ => ⟨S8x4096x2048, .f32⟩
  | .hbm, ⟨44, _⟩ => ⟨S_, .f32⟩
  | .hbm, ⟨45, _⟩ => ⟨S8x4096x2048, .f32⟩
  | .hbm, ⟨46, _⟩ => ⟨S8x4096x2048, .f32⟩
  | .hbm, ⟨47, _⟩ => ⟨S_, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096x2048, .f32⟩
  | .hbm, ⟨53, _⟩ => ⟨S8x4096x2048, .f32⟩
  | .hbm, ⟨54, _⟩ => ⟨S8x4096x2048, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S1x1x1024, .f32⟩
  | .hbm, ⟨82, _⟩ => ⟨S8x4096x1024, .f32⟩
  | .hbm, ⟨83, _⟩ => ⟨S8x4096x1024, .f32⟩
  | .hbm, ⟨84, _⟩ => ⟨S8x32x128x8x128, .f32⟩
  | .hbm, ⟨85, _⟩ => ⟨S128, .i32⟩
  | .hbm, ⟨86, _⟩ => ⟨S1x128, .i32⟩
  | .hbm, ⟨87, _⟩ => ⟨S128x1, .i32⟩
  | .hbm, ⟨88, _⟩ => ⟨S128x128, .i32⟩
  | .hbm, ⟨89, _⟩ => ⟨S128x128, .i32⟩
  | .hbm, ⟨90, _⟩ => ⟨S128x128, .i1⟩
  | .hbm, ⟨91, _⟩ => ⟨S1x128x128, .i1⟩
  | .hbm, ⟨92, _⟩ => ⟨S_, .f32⟩
  | .hbm, ⟨93, _⟩ => ⟨S_, .f32⟩
  | .hbm, ⟨94, _⟩ => ⟨S8x128x128, .i1⟩
  | .hbm, ⟨95, _⟩ => ⟨S8x128x128, .f32⟩
  | .hbm, ⟨96, _⟩ => ⟨S8x128x128, .f32⟩
  | .hbm, ⟨97, _⟩ => ⟨S8x8x32x128x128, .f32⟩
  | .hbm, ⟨98, _⟩ => ⟨S8x32x128x8x128, .f32⟩
  | .hbm, ⟨99, _⟩ => ⟨S128x8, .f32⟩
  | .hbm, ⟨100, _⟩ => ⟨S1x1x128x8x1, .f32⟩
  | .hbm, ⟨101, _⟩ => ⟨S8x32x128x8x128, .f32⟩
  | .hbm, ⟨102, _⟩ => ⟨S8x32x128x8x128, .f32⟩
  | .hbm, ⟨103, _⟩ => ⟨S8x4096x1024, .f32⟩
  | .hbm, ⟨104, _⟩ => ⟨S8x4096x1024, .f32⟩
  | .hbm, ⟨105, _⟩ => ⟨S1024x1024, .f32⟩
  | .hbm, ⟨106, _⟩ => ⟨S8x4096x1024, .f32⟩
  | .hbm, ⟨107, _⟩ => ⟨S8x1x1024, .f32⟩
  | .hbm, ⟨108, _⟩ => ⟨S8x1024, .f32⟩
  | .hbm, ⟨109, _⟩ => ⟨S8x1x1024, .f32⟩
  | .hbm, ⟨110, _⟩ => ⟨S8x4096x1024, .f32⟩
  | .hbm, ⟨111, _⟩ => ⟨S8x4096x1024, .f32⟩
  | .hbm, ⟨112, _⟩ => ⟨S8x4096x1024, .f32⟩
  | .hbm, ⟨113, _⟩ => ⟨S1x1024x4096, .f32⟩
  | .hbm, ⟨114, _⟩ => ⟨S1024x4096, .f32⟩
  | .hbm, ⟨115, _⟩ => ⟨S1024x4096, .bf16⟩
  | .hbm, ⟨116, _⟩ => ⟨S1x4096x1024, .f32⟩
  | .hbm, ⟨117, _⟩ => ⟨S4096x1024, .f32⟩
  | .hbm, ⟨118, _⟩ => ⟨S4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Proj.lean ====
abbrev S8x4096x1024 : Shape := ⟨3, ![8, 4096, 1024]⟩
abbrev S4x8x6x1024 : Shape := ⟨4, ![4, 8, 6, 1024]⟩
abbrev S1024 : Shape := ⟨1, ![1024]⟩
abbrev S8x4096 : Shape := ⟨2, ![8, 4096]⟩
abbrev S1024x448 : Shape := ⟨2, ![1024, 448]⟩
abbrev S256 : Shape := ⟨1, ![256]⟩
abbrev S128 : Shape := ⟨1, ![128]⟩
abbrev S256x2048 : Shape := ⟨2, ![256, 2048]⟩
abbrev S256x1024 : Shape := ⟨2, ![256, 1024]⟩
abbrev S256x16x64 : Shape := ⟨3, ![256, 16, 64]⟩
abbrev S256x16x32 : Shape := ⟨3, ![256, 16, 32]⟩
abbrev S256x4096 : Shape := ⟨2, ![256, 4096]⟩
abbrev S1024x64 : Shape := ⟨2, ![1024, 64]⟩
abbrev S_ : Shape := ⟨0, ![]⟩
abbrev S1024x384 : Shape := ⟨2, ![1024, 384]⟩
abbrev S1024x32 : Shape := ⟨2, ![1024, 32]⟩
abbrev S1024x640 : Shape := ⟨2, ![1024, 640]⟩
abbrev S32 : Shape := ⟨1, ![32]⟩
abbrev S1x32 : Shape := ⟨2, ![1, 32]⟩
abbrev S4x32 : Shape := ⟨2, ![4, 32]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S1x1024 : Shape := ⟨2, ![1, 1024]⟩
abbrev S8x4096x1 : Shape := ⟨3, ![8, 4096, 1]⟩
abbrev S1x256 : Shape := ⟨2, ![1, 256]⟩
abbrev S8x16x4096x256 : Shape := ⟨4, ![8, 16, 4096, 256]⟩
abbrev S8x4096x256 : Shape := ⟨3, ![8, 4096, 256]⟩
abbrev S1x1024x1024 : Shape := ⟨3, ![1, 1024, 1024]⟩
abbrev S1x1x6x1024 : Shape := ⟨4, ![1, 1, 6, 1024]⟩
abbrev S1x1024x1 : Shape := ⟨3, ![1, 1024, 1]⟩
abbrev S1x16x1024x256 : Shape := ⟨4, ![1, 16, 1024, 256]⟩
abbrev S1x1024x256 : Shape := ⟨3, ![1, 1024, 256]⟩
abbrev S1x512x1024 : Shape := ⟨3, ![1, 512, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S512x640 : Shape := ⟨2, ![512, 640]⟩
abbrev S512x256 : Shape := ⟨2, ![512, 256]⟩
abbrev S512x128 : Shape := ⟨2, ![512, 128]⟩
abbrev S1x256x1 : Shape := ⟨3, ![1, 256, 1]⟩
abbrev S256x1 : Shape := ⟨2, ![256, 1]⟩
abbrev S256x128 : Shape := ⟨2, ![256, 128]⟩
abbrev S1x512x128 : Shape := ⟨3, ![1, 512, 128]⟩
abbrev S256x256 : Shape := ⟨2, ![256, 256]⟩
abbrev S1x1x512x128 : Shape := ⟨4, ![1, 1, 512, 128]⟩

abbrev nBuf : Space → Nat
  | .hbm => 57
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S4x8x6x1024, .f32⟩
  | .hbm, ⟨2, _⟩ => ⟨S1024, .f32⟩
  | .hbm, ⟨3, _⟩ => ⟨S8x4096, .i32⟩
  | .hbm, ⟨4, _⟩ => ⟨S1024x448, .f32⟩
  | .hbm, ⟨5, _⟩ => ⟨S256, .f32⟩
  | .hbm, ⟨6, _⟩ => ⟨S128, .f32⟩
  | .hbm, ⟨7, _⟩ => ⟨S256x2048, .bf16⟩
  | .hbm, ⟨8, _⟩ => ⟨S256x1024, .bf16⟩
  | .hbm, ⟨9, _⟩ => ⟨S256x16x64, .bf16⟩
  | .hbm, ⟨10, _⟩ => ⟨S256x16x32, .bf16⟩
  | .hbm, ⟨11, _⟩ => ⟨S256x16x32, .bf16⟩
  | .hbm, ⟨12, _⟩ => ⟨S256x16x64, .bf16⟩
  | .hbm, ⟨13, _⟩ => ⟨S256x1024, .bf16⟩
  | .hbm, ⟨14, _⟩ => ⟨S256x4096, .bf16⟩
  | .hbm, ⟨15, _⟩ => ⟨S1024x64, .f32⟩
  | .hbm, ⟨16, _⟩ => ⟨S_, .f32⟩
  | .hbm, ⟨17, _⟩ => ⟨S1024x64, .f32⟩
  | .hbm, ⟨18, _⟩ => ⟨S1024x384, .f32⟩
  | .hbm, ⟨19, _⟩ => ⟨S1024x32, .f32⟩
  | .hbm, ⟨20, _⟩ => ⟨S1024x32, .f32⟩
  | .hbm, ⟨21, _⟩ => ⟨S1024x640, .f32⟩
  | .hbm, ⟨22, _⟩ => ⟨S1024x640, .bf16⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S1x32, .f32⟩
  | .hbm, ⟨38, _⟩ => ⟨S4x32, .f32⟩
  | .hbm, ⟨39, _⟩ => ⟨S128, .f32⟩
  | .hbm, ⟨40, _⟩ => ⟨S1x128, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S64, .f32⟩
  | .hbm, ⟨47, _⟩ => ⟨S1x64, .f32⟩
  | .hbm, ⟨48, _⟩ => ⟨S2x64, .f32⟩
  | .hbm, ⟨49, _⟩ => ⟨S128, .f32⟩
  | .hbm, ⟨50, _⟩ => ⟨S1x128, .f32⟩
  | .hbm, ⟨51, _⟩ => ⟨S1x1024, .f32⟩
  | .hbm, ⟨52, _⟩ => ⟨S8x4096x1, .i32⟩
  | .hbm, ⟨53, _⟩ => ⟨S1x256, .f32⟩
  | .hbm, ⟨54, _⟩ => ⟨S1x128, .f32⟩
  | .hbm, ⟨55, _⟩ => ⟨S8x16x4096x256, .bf16⟩
  | .hbm, ⟨56, _⟩ => ⟨S8x4096x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1x1024x1, .i32⟩
  | .local _ .vmem, ⟨6, _⟩ => ⟨S1x1024x1, .i32⟩
  | .local _ .vmem, ⟨7, _⟩ => ⟨S1024x640, .bf16⟩
  | .local _ .vmem, ⟨8, _⟩ => ⟨S1x256, .f32⟩
  | .local _ .vmem, ⟨9, _⟩ => ⟨S1x128, .f32⟩
  | .local _ .vmem, ⟨10, _⟩ => ⟨S256x4096, .bf16⟩
  | .local _ .vmem, ⟨11, _⟩ => ⟨S1x128, .f32⟩
  | .local _ .vmem, ⟨12, _⟩ => ⟨S1x128, .f32⟩
  | .local _ .vmem, ⟨13, _⟩ => ⟨S1x16x1024x256, .bf16⟩
  | .local _ .vmem, ⟨14, _⟩ => ⟨S1x16x1024x256, .bf16⟩
  | .local _ .vmem, ⟨15, _⟩ => ⟨S1x1024x256, .bf16⟩
  | .local _ .vmem, ⟨16, _⟩ => ⟨S1x1024x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjReferenceIdeal.lean ====
abbrev S8x4096x1024 : Shape := ⟨3, ![8, 4096, 1024]⟩
abbrev S4x8x6x1024 : Shape := ⟨4, ![4, 8, 6, 1024]⟩
abbrev S1024 : Shape := ⟨1, ![1024]⟩
abbrev S8x4096 : Shape := ⟨2, ![8, 4096]⟩
abbrev S1024x448 : Shape := ⟨2, ![1024, 448]⟩
abbrev S256 : Shape := ⟨1, ![256]⟩
abbrev S128 : Shape := ⟨1, ![128]⟩
abbrev S256x2048 : Shape := ⟨2, ![256, 2048]⟩
abbrev S256x1024 : Shape := ⟨2, ![256, 1024]⟩
abbrev S1x8x6x1024 : Shape := ⟨4, ![1, 8, 6, 1024]⟩
abbrev S8x6x1024 : Shape := ⟨3, ![8, 6, 1024]⟩
abbrev S_ : Shape := ⟨0, ![]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x448 : Shape := ⟨3, ![8, 4096, 448]⟩
abbrev S8x4096x256 : Shape := ⟨3, ![8, 4096, 256]⟩
abbrev S1x1x256 : Shape := ⟨3, ![1, 1, 256]⟩
abbrev S8x4096x128 : Shape := ⟨3, ![8, 4096, 128]⟩
abbrev S1x1x128 : Shape := ⟨3, ![1, 1, 128]⟩
abbrev S32 : Shape := ⟨1, ![32]⟩
abbrev S1x1x32 : Shape := ⟨3, ![1, 1, 32]⟩
abbrev S8x4096x32 : Shape := ⟨3, ![8, 4096, 32]⟩
abbrev S8x4096x64 : Shape := ⟨3, ![8, 4096, 64]⟩
abbrev S8x4096x2048 : Shape := ⟨3, ![8, 4096, 2048]⟩
abbrev S8x4096x16x128 : Shape := ⟨4, ![8, 4096, 16, 128]⟩
abbrev S8x4096x16x64 : Shape := ⟨4, ![8, 4096, 16, 64]⟩
abbrev S8x4096x1x32 : Shape := ⟨4, ![8, 4096, 1, 32]⟩
abbrev S8x4096x16x32 : Shape := ⟨4, ![8, 4096, 16, 32]⟩
abbrev S8x4096x8x2x64 : Shape := ⟨5, ![8, 4096, 8, 2, 64]⟩
abbrev S8x4096x8x1x64 : Shape := ⟨5, ![8, 4096, 8, 1, 64]⟩
abbrev S8x4096x16x256 : Shape := ⟨4, ![8, 4096, 16, 256]⟩
abbrev S8x16x4096x256 : Shape := ⟨4, ![8, 16, 4096, 256]⟩

abbrev nBuf : Space → Nat
  | .hbm => 140
  | .vmem => 0
  | .smem => 0
  | _ => 0

abbrev hbmTy0_0 (i : Nat) : BufTy := match i % 128 with
  | 0 => ⟨S8x4096x1024, .f32⟩
  | 1 => ⟨S4x8x6x1024, .f32⟩
  | 2 => ⟨S1024, .f32⟩
  | 3 => ⟨S8x4096, .i32⟩
  | 4 => ⟨S1024x448, .f32⟩
  | 5 => ⟨S256, .f32⟩
  | 6 => ⟨S128, .f32⟩
  | 7 => ⟨S256x2048, .bf16⟩
  | 8 => ⟨S256x1024, .bf16⟩
  | 9 => ⟨S1x8x6x1024, .f32⟩
  | 10 => ⟨S8x6x1024, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1024, .f32⟩
  | 23 => ⟨S8x4096x1024, .f32⟩
  | 24 => ⟨S1x1x1024, .f32⟩
  | 25 => ⟨S8x4096x1024, .f32⟩
  | 26 => ⟨S8x4096x1024, .f32⟩
  | 27 => ⟨S8x1x1024, .f32⟩
  | 28 => ⟨S8x1024, .f32⟩
  | 29 => ⟨S8x1x1024, .f32⟩
  | 30 => ⟨S_, .f32⟩
  | 31 => ⟨S8x1x1024, .f32⟩
  | 32 => ⟨S8x1x1024, .f32⟩
  | 33 => ⟨S8x4096x1024, .f32⟩
  | 34 => ⟨S8x4096x1024, .f32⟩
  | 35 => ⟨S8x1x1024, .f32⟩
  | 36 => ⟨S8x1024, .f32⟩
  | 37 => ⟨S8x1x1024, .f32⟩
  | 38 => ⟨S8x4096x1024, .f32⟩
  | 39 => ⟨S8x4096x1024, .f32⟩
  | 40 => ⟨S8x4096x448, .f32⟩
  | 41 => ⟨S8x4096x256, .f32⟩
  | 42 => ⟨S8x4096x256, .f32⟩
  | 43 => ⟨S_, .f32⟩
  | 44 => ⟨S8x4096, .f32⟩
  | 45 => ⟨S8x4096x1, .f32⟩
  | 46 => ⟨S_, .f32⟩
  | 47 => ⟨S8x4096x1, .f32⟩
  | 48 => ⟨S8x4096x1, .f32⟩
  | 49 => ⟨S_, .f32⟩
  | 50 => ⟨S8x4096x1, .f32⟩
  | 51 => ⟨S8x4096x1, .f32⟩
  | 52 => ⟨S8x4096x1, .f32⟩
  | 53 => ⟨S8x4096x256, .f32⟩
  | 54 => ⟨S8x4096x256, .f32⟩
  | 55 => ⟨S1x1x256, .f32⟩
  | 56 => ⟨S8x4096x256, .f32⟩
  | 57 => ⟨S8x4096x256, .f32⟩
  | 58 => ⟨S8x4096x128, .f32⟩
  | 59 => ⟨S8x4096x128, .f32⟩
  | 60 => ⟨S_, .f32⟩
  | 61 => ⟨S8x4096, .f32⟩
  | 62 => ⟨S8x4096x1, .f32⟩
  | 63 => ⟨S_, .f32⟩
  | 64 => ⟨S8x4096x1, .f32⟩
  | 65 => ⟨S8x4096x1, .f32⟩
  | 66 => ⟨S_, .f32⟩
  | 67 => ⟨S8x4096x1, .f32⟩
  | 68 => ⟨S8x4096x1, .f32⟩
  | 69 => ⟨S8x4096x1, .f32⟩
  | 70 => ⟨S8x4096x128, .f32⟩
  | 71 => ⟨S8x4096x128, .f32⟩
  | 72 => ⟨S1x1x128, .f32⟩
  | 73 => ⟨S8x4096x128, .f32⟩
  | 74 => ⟨S8x4096x128, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S8x4096, .f32⟩
  | 90 => ⟨S8x4096x1, .f32⟩
  | 91 => ⟨S1x1x32, .f32⟩
  | 92 => ⟨S8x4096x32, .f32⟩
  | 93 => ⟨S8x4096x32, .f32⟩
  | 94 => ⟨S8x4096x32, .f32⟩
  | 95 => ⟨S8x4096x32, .f32⟩
  | 96 => ⟨S8x4096x32, .f32⟩
  | 97 => ⟨S8x4096x64, .f32⟩
  | 98 => ⟨S8x4096x32, .f32⟩
  | 99 => ⟨S8x4096x32, .f32⟩
  | 100 => ⟨S8x4096x32, .f32⟩
  | 101 => ⟨S8x4096x32, .f32⟩
  | 102 => ⟨S8x4096x32, .f32⟩
  | 103 => ⟨S8x4096x32, .f32⟩
  | 104 => ⟨S8x4096x32, .f32⟩
  | 105 => ⟨S8x4096x32, .f32⟩
  | 106 => ⟨S8x4096x64, .f32⟩
  | 107 => ⟨S256x2048, .f32⟩
  | 108 => ⟨S8x4096x2048, .f32⟩
  | 109 => ⟨S8x4096x16x128, .f32⟩
  | 110 => ⟨S256x1024, .f32⟩
  | 111 => ⟨S8x4096x1024, .f32⟩
  | 112 => ⟨S8x4096x16x64, .f32⟩
  | 113 => ⟨S8x4096x1x32, .f32⟩
  | 114 => ⟨S8x4096x1x32, .f32⟩
  | 115 => ⟨S8x4096x16x32, .f32⟩
  | 116 => ⟨S8x4096x16x32, .f32⟩
  | 117 => ⟨S8x4096x16x32, .f32⟩
  | 118 => ⟨S8x4096x16x32, .f32⟩
  | 119 => ⟨S8x4096x16x32, .f32⟩
  | 120 => ⟨S8x4096x16x32, .f32⟩
  | 121 => ⟨S8x4096x16x32, .f32⟩
  | 122 => ⟨S8x4096x16x32, .f32⟩
  | 123 => ⟨S8x4096x16x32, .f32⟩
  | 124 => ⟨S8x4096x16x32, .f32⟩
  | 125 => ⟨S8x4096x16x32, .f32⟩
  | 126 => ⟨S8x4096x16x32, .f32⟩
  | 127 => ⟨S8x4096x16x64, .f32⟩
  | _ => ⟨S8x4096x1024, .f32⟩

abbrev hbmTy0_1 (i : Nat) : BufTy := match i % 128 with
  | 0 => ⟨S8x4096x8x2x64, .f32⟩
  | 1 => ⟨S8x4096x8x1x64, .f32⟩
  | 2 => ⟨S8x4096x8x1x64, .f32⟩
  | 3 => ⟨S8x4096x8x2x64, .f32⟩
  | 4 => ⟨S8x4096x16x64, .f32⟩
  | 5 => ⟨S8x4096x16x256, .f32⟩
  | 6 => ⟨S_, .f32⟩
  | 7 => ⟨S8x4096x64, .f32⟩
  | 8 => ⟨S8x4096x256, .f32⟩
  | 9 => ⟨S8x16x4096x256, .f32⟩
  | 10 => ⟨S8x16x4096x256, .bf16⟩
  | 11 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_13 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩

abbrev nD : Nat := 1
abbrev τ : Topo := Topo.v7x

variable {F : FTy → Type} [FloatOps F]
-- ==== Proof.Blocks.lean ====
module

public import proofs.«01_k».proof.Proof.Gen.KernelIdeal
public import Idealize.ShloMosaic.Lib.WritesUnit

@[expose] public section

noncomputable section

/-! The attention kernel's block of keys, written once for every size of block: `R` query rows
against `N = 128 * K` keys. The kernel's four kinds of block are these definitions at
(512, 256), (256, 256), (512, 1536) and (512, 512). -/

namespace Cert.Attn

open Idealize.ShloMosaic Cert.KernelIdeal

/-- The shape of a matrix with `R` rows and `N` columns. -/
abbrev Mat (R N : ℕ) : Shape := ⟨2, ![R, N]⟩

/-- The shape facts that one size of block relies on. -/
structure BlkFacts (R N K : ℕ) : Prop where
  sq : Shape.ShapeCasts ⟨4, ![1, 1, R, 256]⟩ (Mat R 256)
  sk : Shape.ShapeCasts ⟨3, ![1, N, 256]⟩ (Mat N 256)
  red : (Mat R N).Reduces [1] ⟨1, ![R]⟩
  sc : Shape.ShapeCasts ⟨1, ![R]⟩ (Mat R 1)
  sc1 : Shape.ShapeCasts (Mat R 1) (Mat R 1)
  bc : (Mat R 1).Broadcasts (Mat R 128)
  sl : ∀ n : Fin K, (Mat R N).Slices ![0, n.val * 128] (Mat R 128)
  cc : Shape.Concatenates (List.replicate K (Mat R 128)) (Mat R N) 1
  sv : (Mat N 256).Slices ![0, 0] (Mat N 128)
  cv : Shape.Concatenates [Mat N 128, Mat N 128] (Mat N 256) 1
  p0 : (Mat R 256).Slices ![0, 0] (Mat R 128)
  p1 : (Mat R 256).Slices ![0, 128] (Mat R 128)
  self : (Mat R 128).ShapeCasts (Mat R 128)
  io0 : (Mat R N).Iotas .tc 32 [0]
  io1 : (Mat R N).Iotas .tc 32 [1]

section
variable {F : FTy → Type} [FloatOps F] [Named F]
variable {R N K : ℕ} (h : BlkFacts R N K)

/-- The scores of the block: each query row against each key. -/
def scores (q : Vec F ⟨4, ![1, 1, R, 256]⟩ .bf16) (k : Vec F ⟨3, ![1, N, 256]⟩ .bf16) : FVec F (Mat R N) .f32 :=
  matmul (DotDims.transposedRhs R 256 N) none (shapeCast (Mat R 256) q h.sq) (shapeCast (Mat N 256) k h.sk)
    (constant (Mat R N) .f32 0x00000000#32)

/-- The scores with the keys after the query's own position masked. -/
def masked (s : FVec F (Mat R N) .f32) : FVec F (Mat R N) .f32 :=
  select (cmpi .sle (iota .tc (Mat R N) 32 [1] h.io1) (iota .tc (Mat R N) 32 [0] h.io0)) s
    (broadcast (Mat R N) (Named.named κ "mask" 0xF149F2CA#32))

/-- Each row's largest score. -/
def curCol (s : FVec F (Mat R N) .f32) : FVec F (Mat R 1) .f32 :=
  shapeCast (Mat R 1) (multiReduction .maximumf [1] ⟨1, ![R]⟩ s 0xFF800000#32 h.red (.inl rfl) rfl) h.sc

/-- Each row's largest score, in every lane. -/
def cur (s : FVec F (Mat R N) .f32) : FVec F (Mat R 128) .f32 := broadcastTo (Mat R 128) (curCol h s) h.bc

/-- The same for the first block, whose column passes through one more reshape. -/
def cur1 (s : FVec F (Mat R N) .f32) : FVec F (Mat R 128) .f32 :=
  broadcastTo (Mat R 128) (shapeCast (Mat R 1) (curCol h s) h.sc1) h.bc

theorem cc' {F : FTy → Type} {R N K : ℕ} (h : BlkFacts R N K) (f : Fin K → FVec F (Mat R 128) .f32) :
    Shape.Concatenates ((List.ofFn fun n : Fin K => (⟨Mat R 128, f n⟩ : (s : Shape) × (s.Idx → F .f32))).map (·.1))
      (Mat R N) 1 := by
  have : (List.ofFn fun n : Fin K => (⟨Mat R 128, f n⟩ : (s : Shape) × (s.Idx → F .f32))).map (·.1)
      = List.replicate K (Mat R 128) := by
    rw [List.map_ofFn]; exact List.ofFn_const K (Mat R 128)
  rw [this]; exact h.cc

/-- Two to the power of each score less the running maximum, 128 keys at a time. -/
def probs (s : FVec F (Mat R N) .f32) (m : FVec F (Mat R 128) .f32) : FVec F (Mat R N) .bf16 :=
  truncf .bf16 (concatenate (Mat R N) 1
    (List.ofFn fun n : Fin K => (⟨Mat R 128,
      exp2 (subf (extractStridedSlice (Mat R 128) ![0, n.val * 128] s (h.sl n)) m)⟩ : (s : Shape) × (s.Idx → F .f32)))
    (cc' h _)) (by decide)

/-- The keys' values beside a block of ones. -/
def vOnes (k : Vec F ⟨3, ![1, N, 256]⟩ .bf16) : FVec F (Mat N 256) .bf16 :=
  concatenate (Mat N 256) 1
    [⟨Mat N 128, extractStridedSlice (Mat N 128) ![0, 0] (shapeCast (Mat N 256) k h.sk) h.sv⟩,
      ⟨Mat N 128, broadcast (Mat N 128) (Scalar.ofBits .bf16 0x3F80#16)⟩] h.cv

/-- The weighted values (left half) and the weights' sums (right half). -/
def pv (s : FVec F (Mat R N) .f32) (m : FVec F (Mat R 128) .f32) (k : Vec F ⟨3, ![1, N, 256]⟩ .bf16) :
    FVec F (Mat R 256) .f32 :=
  matmul (DotDims.plain R N 256) none (probs h s m) (vOnes h k) (constant (Mat R 256) .f32 0x00000000#32)

/-- The first block's three stores: maximum, sum, accumulator. -/
def first (s : FVec F (Mat R N) .f32) (k : Vec F ⟨3, ![1, N, 256]⟩ .bf16) :
    FVec F (Mat R 128) .f32 × FVec F (Mat R 128) .f32 × FVec F (Mat R 128) .f32 :=
  (shapeCast (Mat R 128) (cur1 h s) h.self,
    shapeCast (Mat R 128) (extractStridedSlice (Mat R 128) ![0, 128] (pv h s (cur1 h s) k) h.p1) h.self,
    shapeCast (Mat R 128) (extractStridedSlice (Mat R 128) ![0, 0] (pv h s (cur1 h s) k) h.p0) h.self)

/-- A later block's new maximum. -/
def newMax (s : FVec F (Mat R N) .f32) (m : FVec F (Mat R 128) .f32) : FVec F (Mat R 128) .f32 :=
  maximumf m (cur h s)

/-- A later block's three stores, from what the three buffers held. -/
def later (s : FVec F (Mat R N) .f32) (k : Vec F ⟨3, ![1, N, 256]⟩ .bf16) (m l a : FVec F (Mat R 128) .f32) :
    FVec F (Mat R 128) .f32 × FVec F (Mat R 128) .f32 × FVec F (Mat R 128) .f32 :=
  (shapeCast (Mat R 128) (newMax h s m) h.self,
    shapeCast (Mat R 128) (addf (mulf (exp2 (subf m (newMax h s m))) l)
      (extractStridedSlice (Mat R 128) ![0, 128] (pv h s (newMax h s m) k) h.p1)) h.self,
    shapeCast (Mat R 128) (addf (mulf (exp2 (subf m (newMax h s m))) a)
      (extractStridedSlice (Mat R 128) ![0, 0] (pv h s (newMax h s m) k) h.p0)) h.self)

end

/-! ## The stores of a block over the sixteen heads -/

section
variable {F : FTy → Type} [FloatOps F] [Named F]

/-- The three scratch buffers' pieces: maximum, sum, accumulator. -/
abbrev Pieces (F : FTy → Type) : Type :=
  List (View.Piece (Elt F) S8192x128 .f32) × List (View.Piece (Elt F) S8192x128 .f32) × List (View.Piece (Elt F) S8192x128 .f32)

/-- Where head `n`'s rows `[lo, lo + R)` lie in a scratch buffer. -/
abbrev rowOff (lo : ℕ) (n : Fin 16) : Fin 2 → ℕ := ![n.val * 512 + lo, 0]

theorem rowInb {R lo : ℕ} (hR : lo + R ≤ 512) (n : Fin 16) (a : Fin 2) :
    rowOff lo n a + (Mat R 128).size a ≤ S8192x128.size a := by
  have := n.isLt
  fin_cases a
  · show n.val * 512 + lo + R ≤ 8192; omega
  · show 0 + 128 ≤ 128; omega

/-- The rows of head `n`. -/
abbrev rowRect {R lo : ℕ} (hR : lo + R ≤ 512) (n : Fin 16) : Rect S8192x128 :=
  Rect.unit (rowOff lo n) (Mat R 128).size (rowInb hR n)

variable (v9 v10 v11 : View sig .tc .vmem S8192x128 .f32)

/-- The first block's pieces for the heads before `j`. -/
def firstPieces {R lo : ℕ} (hR : lo + R ≤ 512)
    (P : Fin 16 → FVec F (Mat R 128) .f32 × FVec F (Mat R 128) .f32 × FVec F (Mat R 128) .f32) : (j : ℕ) → j ≤ 16 → Pieces F
  | 0, _ => ([], [], [])
  | j + 1, hj =>
    (⟨rowRect hR ⟨j, hj⟩, (P ⟨j, hj⟩).1⟩ :: (firstPieces hR P j (Nat.le_of_succ_le hj)).1,
      ⟨rowRect hR ⟨j, hj⟩, (P ⟨j, hj⟩).2.1⟩ :: (firstPieces hR P j (Nat.le_of_succ_le hj)).2.1,
      ⟨rowRect hR ⟨j, hj⟩, (P ⟨j, hj⟩).2.2⟩ :: (firstPieces hR P j (Nat.le_of_succ_le hj)).2.2)

/-- What head `n`'s block stores, the buffers holding `f9`, `f10`, `f11`. -/
def headStep {R lo : ℕ} (hR : lo + R ≤ 512)
    (P : Fin 16 → FVec F (Mat R 128) .f32 → FVec F (Mat R 128) .f32 → FVec F (Mat R 128) .f32 →
      FVec F (Mat R 128) .f32 × FVec F (Mat R 128) .f32 × FVec F (Mat R 128) .f32)
    (f9 : v9.ty.Contents (Elt F)) (f10 : v10.ty.Contents (Elt F)) (f11 : v11.ty.Contents (Elt F)) (n : Fin 16) :
    FVec F (Mat R 128) .f32 × FVec F (Mat R 128) .f32 × FVec F (Mat R 128) .f32 :=
  P n (v9.readAt (Elt F) (rowRect hR n).toLoadRect f9) (v10.readAt (Elt F) (rowRect hR n).toLoadRect f10)
    (v11.readAt (Elt F) (rowRect hR n).toLoadRect f11)

/-- A later block's pieces for the heads before `j`, each head's read back from the pieces before it. -/
def laterPieces {R lo : ℕ} (hR : lo + R ≤ 512)
    (P : Fin 16 → FVec F (Mat R 128) .f32 → FVec F (Mat R 128) .f32 → FVec F (Mat R 128) .f32 →
      FVec F (Mat R 128) .f32 × FVec F (Mat R 128) .f32 × FVec F (Mat R 128) .f32)
    (f9 : v9.ty.Contents (Elt F)) (f10 : v10.ty.Contents (Elt F)) (f11 : v11.ty.Contents (Elt F))
    (L : Pieces F) : (j : ℕ) → j ≤ 16 → Pieces F
  | 0, _ => L
  | j + 1, hj =>
    let p := laterPieces hR P f9 f10 f11 L j (Nat.le_of_succ_le hj)
    let w := headStep v9 v10 v11 hR P (v9.writes (Elt F) f9 p.1) (v10.writes (Elt F) f10 p.2.1)
      (v11.writes (Elt F) f11 p.2.2) ⟨j, hj⟩
    (⟨rowRect hR ⟨j, hj⟩, w.1⟩ :: p.1, ⟨rowRect hR ⟨j, hj⟩, w.2.1⟩ :: p.2.1, ⟨rowRect hR ⟨j, hj⟩, w.2.2⟩ :: p.2.2)

/-- Head `n`'s query rows `[lo, lo + R)` in the block of queries. -/
def qSlab (q : Memref sig .tc .vmem S1x16x512x256 .bf16) (x : q.view.ty.Contents (Elt F)) {R lo : ℕ} (hR : lo + R ≤ 512)
    (n : Fin 16) : Vec F ⟨4, ![1, 1, R, 256]⟩ .bf16 :=
  q.view.readAt (Elt F) (Rect.unit (s := S1x16x512x256) ![0, n.val, lo, 0] (⟨4, ![1, 1, R, 256]⟩ : Shape).size (by
    have := n.isLt
    intro a; fin_cases a
    · show 0 + 1 ≤ 1; omega
    · show n.val + 1 ≤ 16; omega
    · show lo + R ≤ 512; omega
    · show 0 + 256 ≤ 256; omega)).toLoadRect x

/-- The slab of `N` keys at offset `off`. -/
def kSlab (k : Memref sig .tc .vmem S1x4096x256 .bf16) (x : k.view.ty.Contents (Elt F)) (N : ℕ) (off : Fin 3 → ℕ)
    (inb : ∀ a, off a + (⟨3, ![1, N, 256]⟩ : Shape).size a ≤ S1x4096x256.size a) : Vec F ⟨3, ![1, N, 256]⟩ .bf16 :=
  k.view.readAt (Elt F) (Rect.unit (s := S1x4096x256) off (⟨3, ![1, N, 256]⟩ : Shape).size inb).toLoadRect x

end

/-! ## The four sizes -/

theorem f512x256 : BlkFacts 512 256 2 := by
  constructor <;> first | decide | (intro n; fin_cases n <;> decide)
theorem f256x256 : BlkFacts 256 256 2 := by
  constructor <;> first | decide | (intro n; fin_cases n <;> decide)
theorem f512x1536 : BlkFacts 512 1536 12 := by
  constructor <;> first | decide | (intro n; fin_cases n <;> decide)
theorem f512x512 : BlkFacts 512 512 4 := by
  constructor <;> first | decide | (intro n; fin_cases n <;> decide)

end Cert.Attn

end
-- ==== Proof.Row.lean ====
module

public import Idealize.ShloMosaic.PureOps.Ideal

@[expose] public section

noncomputable section

/-! One row of the softmax: a running maximum `M`, the sum of `2 ^ (s - M)` and the sum of `2 ^ (s - M) * v`, over
the keys read so far. -/

namespace Cert.Attn

open Idealize.ShloMosaic

/-- Two to the power of `x`. -/
abbrev p2 (x : ℝ) : ℝ := Real.rpow 2 x

theorem p2_add (x y : ℝ) : p2 (x + y) = p2 x * p2 y := Real.rpow_add (by norm_num) x y
theorem p2_pos (x : ℝ) : 0 < p2 x := Real.rpow_pos_of_pos (by norm_num) x

/-- A finite sum of reals, in the extended reals. -/
theorem coe_sum {ι : Type} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- A row of scores, `-∞` outside the keys `A`. -/
def Row {N : ℕ} (b : Fin N → EReal) (A : Finset (Fin N)) (s : Fin N → ℝ) : Prop :=
  ∀ n, b n = if n ∈ A then (s n : EReal) else ⊥

theorem exp2_row {N : ℕ} {b : Fin N → EReal} {A : Finset (Fin N)} {s : Fin N → ℝ} (hb : Row b A s) (M : ℝ) (n : Fin N) :
    Ideal.exp2 (b n - (M : EReal)) = if n ∈ A then ((p2 (s n - M) : ℝ) : EReal) else 0 := by
  rw [hb n]
  split_ifs
  · rw [← EReal.coe_sub, Ideal.exp2_coe]
  · rw [show (⊥ : EReal) - (M : EReal) = ⊥ from rfl, Ideal.exp2_bot]

/-- The weighted sum of a row's powers is the real sum over its keys. -/
theorem sum_row {N : ℕ} {b : Fin N → EReal} {A : Finset (Fin N)} {s : Fin N → ℝ} (hb : Row b A s) (M : ℝ) (v : Fin N → ℝ) :
    ∑ n, Ideal.exp2 (b n - (M : EReal)) * (v n : EReal) = ((∑ n ∈ A, p2 (s n - M) * v n : ℝ) : EReal) := by
  have : ∀ n, Ideal.exp2 (b n - (M : EReal)) * (v n : EReal) = if n ∈ A then ((p2 (s n - M) * v n : ℝ) : EReal) else 0 := by
    intro n
    rw [exp2_row hb]
    split_ifs
    · rw [← EReal.coe_mul]
    · rw [zero_mul]
  rw [Finset.sum_congr rfl fun n _ => this n, Finset.sum_ite_mem, Finset.univ_inter, coe_sum]

/-- A row's maximum is not `+∞`. -/
theorem max_row_ne_top {N : ℕ} {b : Fin N → EReal} {A : Finset (Fin N)} {s : Fin N → ℝ} (hb : Row b A s) :
    (Finset.univ : Finset (Fin N)).fold max ⊥ b ≠ ⊤ := by
  have h : ∀ B : Finset (Fin N), B.fold max ⊥ b ≠ ⊤ := by
    intro B
    classical
    induction B using Finset.induction_on with
    | empty => simp
    | insert a B ha ih =>
      rw [Finset.fold_insert ha]
      rcases max_choice (b a) (B.fold max ⊥ b) with h | h
      · rw [h, hb a]; split_ifs <;> simp
      · rw [h]; exact ih
  exact h _

/-- The maximum of a real and a row's maximum is real. -/
theorem max_coe_row {N : ℕ} {b : Fin N → EReal} {A : Finset (Fin N)} {s : Fin N → ℝ} (hb : Row b A s) (M : ℝ) :
    ∃ M' : ℝ, max (M : EReal) ((Finset.univ : Finset (Fin N)).fold max ⊥ b) = (M' : EReal) := by
  have h1 : max (M : EReal) ((Finset.univ : Finset (Fin N)).fold max ⊥ b) ≠ ⊤ := by
    rcases max_choice (M : EReal) ((Finset.univ : Finset (Fin N)).fold max ⊥ b) with h | h
    · rw [h]; exact EReal.coe_ne_top M
    · rw [h]; exact max_row_ne_top hb
  have h2 : max (M : EReal) ((Finset.univ : Finset (Fin N)).fold max ⊥ b) ≠ ⊥ := by
    intro h
    have := le_max_left (M : EReal) ((Finset.univ : Finset (Fin N)).fold max ⊥ b)
    rw [h] at this
    exact EReal.coe_ne_bot M (le_bot_iff.mp this)
  exact ⟨_, (EReal.coe_toReal h1 h2).symm⟩

/-- A row with a key has a real maximum. -/
theorem max_row {N : ℕ} {b : Fin N → EReal} {A : Finset (Fin N)} {s : Fin N → ℝ} (hb : Row b A s) (hA : A.Nonempty) :
    ∃ M' : ℝ, (Finset.univ : Finset (Fin N)).fold max ⊥ b = (M' : EReal) := by
  obtain ⟨n, hn⟩ := hA
  have h2 : (Finset.univ : Finset (Fin N)).fold max ⊥ b ≠ ⊥ := by
    intro h
    have hle : b n ≤ (Finset.univ : Finset (Fin N)).fold max ⊥ b :=
      Finset.le_fold_max _ |>.mpr (.inr ⟨n, Finset.mem_univ _, le_rfl⟩)
    rw [h, hb n, if_pos hn] at hle
    exact EReal.coe_ne_bot _ (le_bot_iff.mp hle)
  exact ⟨_, (EReal.coe_toReal (max_row_ne_top hb) h2).symm⟩

/-- What a row of the three buffers holds after the keys `J`: in every lane the maximum so far, the sum and the
weighted sum. -/
def Inv (s : ℕ → ℝ) (v : ℕ → Fin 128 → ℝ) (J : Finset ℕ) (m l a : Fin 128 → EReal) : Prop :=
  ∃ M : ℝ, ∀ t, m t = (M : EReal) ∧ l t = ((∑ j ∈ J, p2 (s j - M) : ℝ) : EReal)
    ∧ a t = ((∑ j ∈ J, p2 (s j - M) * v j t : ℝ) : EReal)

/-- The keys `A` of a block of `N` keys from key `o` on. -/
def keys {N : ℕ} (o : ℕ) (A : Finset (Fin N)) : Finset ℕ := A.image fun n => o + n.val

theorem sum_keys {N : ℕ} (o : ℕ) (A : Finset (Fin N)) (f : ℕ → ℝ) : ∑ j ∈ keys o A, f j = ∑ n ∈ A, f (o + n.val) :=
  Finset.sum_image fun a _ b _ h => Fin.ext (Nat.add_left_cancel h)

/-- The first block. -/
theorem inv_first {N : ℕ} {s : ℕ → ℝ} {v : ℕ → Fin 128 → ℝ} {o : ℕ} {b : Fin N → EReal} {A : Finset (Fin N)}
    (hb : Row b A fun n => s (o + n.val)) (hA : A.Nonempty) {m l a : Fin 128 → EReal}
    (hm : ∀ t, m t = (Finset.univ : Finset (Fin N)).fold max ⊥ b)
    (hl : ∀ t, l t = ∑ n, Ideal.exp2 (b n - (Finset.univ : Finset (Fin N)).fold max ⊥ b) * ((1 : ℝ) : EReal))
    (ha : ∀ t, a t = ∑ n, Ideal.exp2 (b n - (Finset.univ : Finset (Fin N)).fold max ⊥ b) * ((v (o + n.val) t : ℝ) : EReal)) :
    Inv s v (keys o A) m l a := by
  obtain ⟨M, hM⟩ := max_row hb hA
  refine ⟨M, fun t => ⟨(hm t).trans hM, ?_, ?_⟩⟩
  · rw [hl t, hM, sum_row hb M fun _ => 1, sum_keys]; simp
  · rw [ha t, hM, sum_row hb M fun n => v (o + n.val) t, sum_keys]

/-- A later block. -/
theorem inv_later {N : ℕ} {s : ℕ → ℝ} {v : ℕ → Fin 128 → ℝ} {o : ℕ} {b : Fin N → EReal} {A : Finset (Fin N)} {J : Finset ℕ}
    (hb : Row b A fun n => s (o + n.val)) (hJ : Disjoint J (keys o A)) {m l a m' l' a' : Fin 128 → EReal} (h : Inv s v J m l a)
    (hm : ∀ t, m' t = max (m t) ((Finset.univ : Finset (Fin N)).fold max ⊥ b))
    (hl : ∀ t, l' t = Ideal.exp2 (m t - m' t) * l t + ∑ n : Fin N, Ideal.exp2 (b n - m' ⟨n.val % 128, Nat.mod_lt _ (by norm_num)⟩) * ((1 : ℝ) : EReal))
    (ha : ∀ t, a' t = Ideal.exp2 (m t - m' t) * a t
      + ∑ n : Fin N, Ideal.exp2 (b n - m' ⟨n.val % 128, Nat.mod_lt _ (by norm_num)⟩) * ((v (o + n.val) t : ℝ) : EReal)) :
    Inv s v (J ∪ keys o A) m' l' a' := by
  obtain ⟨M, hM⟩ := h
  obtain ⟨M', hM'⟩ := max_coe_row hb M
  have hm' : ∀ t, m' t = (M' : EReal) := fun t => by rw [hm t, (hM t).1, hM']
  have key : ∀ w : ℕ → ℝ, p2 (M - M') * (∑ j ∈ J, p2 (s j - M) * w j) + ∑ n ∈ A, p2 (s (o + n.val) - M') * w (o + n.val)
      = ∑ j ∈ J ∪ keys o A, p2 (s j - M') * w j := by
    intro w
    rw [Finset.sum_union hJ, sum_keys, Finset.mul_sum]
    congr 1
    refine Finset.sum_congr rfl fun j _ => ?_
    rw [← mul_assoc, ← p2_add]
    congr 2
    ring
  refine ⟨M', fun t => ⟨hm' t, ?_, ?_⟩⟩
  · rw [hl t, (hM t).1, (hM t).2.1, hm' t, ← EReal.coe_sub, Ideal.exp2_coe]
    simp only [hm']
    rw [sum_row hb M' fun _ => 1, ← EReal.coe_mul, ← EReal.coe_add]
    have := key fun _ => 1
    simp only [mul_one] at this ⊢
    rw [this]
  · rw [ha t, (hM t).1, (hM t).2.2, hm' t, ← EReal.coe_sub, Ideal.exp2_coe]
    simp only [hm']
    rw [sum_row hb M' fun n => v (o + n.val) t, ← EReal.coe_mul, ← EReal.coe_add]
    rw [key fun j => v j t]

end Cert.Attn

end
-- ==== Proof.Block.lean ====
module

public import proofs.«01_k».proof.Proof.Blocks
public import proofs.«01_k».proof.Proof.Row
public import Idealize.ShloMosaic.Lib.MatmulPlain
public import Idealize.ShloMosaic.Lib.Pipeline.Value
public import Idealize.ShloMosaic.Lib.WordCmp
public import Idealize.ShloMosaic.Lib.IdealHost
public import Idealize.ShloMosaic.Lib.Pointwise.Reshape
public import Idealize.ShloMosaic.PureOps.Ideal.Laws

@[expose] public section

noncomputable section

namespace Cert.Attn

open Idealize.ShloMosaic hiding ix1 ix2 ix3 ix4
open Idealize.ShloMosaic.ValueIdx Cert.KernelIdeal

variable {R N K : ℕ} (h : BlkFacts R N K)

/-- A dropped pair of unit axes. -/
theorem cast_q (q : Vec Ideal ⟨4, ![1, 1, R, 256]⟩ .bf16) (r : Fin R) (d : Fin 256) :
    shapeCast (Mat R 256) q h.sq (ix2 r d) = q (ix4 (0 : Fin 1) (0 : Fin 1) r d) := by
  refine shapeCast_apply _ _ _ _ ?_
  rw [rowMajor_val4 _ (1 * (R * 256)) (R * 256) 256 rfl rfl rfl, rowMajor_val2 _ 256 rfl]
  show 0 * (1 * (R * 256)) + 0 * (R * 256) + r.val * 256 + d.val = r.val * 256 + d.val
  omega

/-- A dropped unit axis. -/
theorem cast_k (k : Vec Ideal ⟨3, ![1, N, 256]⟩ .bf16) (n : Fin N) (d : Fin 256) :
    shapeCast (Mat N 256) k h.sk (ix2 n d) = k (ix3 (0 : Fin 1) n d) := by
  refine shapeCast_apply _ _ _ _ ?_
  rw [rowMajor_val3 _ (N * 256) 256 rfl rfl, rowMajor_val2 _ 256 rfl]
  show 0 * (N * 256) + n.val * 256 + d.val = n.val * 256 + d.val
  omega

/-- A score is the dot product of a query row and a key. -/
theorem scores_apply (q : Vec Ideal ⟨4, ![1, 1, R, 256]⟩ .bf16) (k : Vec Ideal ⟨3, ![1, N, 256]⟩ .bf16) (r : Fin R) (n : Fin N) :
    scores (F := Ideal) h q k (ix2 r n)
      = ∑ d : Fin 256, (q (ix4 (0 : Fin 1) (0 : Fin 1) r d) : EReal) * (k (ix3 (0 : Fin 1) n d) : EReal) := by
  refine (Ideal.matmul_transposedRhs_apply _ _ _ _ r n).trans ?_
  rw [show constant (F := Ideal) (Mat R N) .f32 0x00000000#32 (ix2 r n) = (0 : EReal) from Ideal.ofBits_zero_f32, zero_add]
  exact Finset.sum_congr rfl fun d _ => by rw [cast_q h, cast_k h]

/-- A masked score: the score up to the row's own position, then `-∞`. -/
theorem masked_apply (hN : N ≤ 4096) (hRN : R ≤ 4096) (s : FVec Ideal (Mat R N) .f32) (r : Fin R) (n : Fin N) :
    masked (F := Ideal) h s (ix2 r n) = if n.val ≤ r.val then (s (ix2 r n) : EReal) else ⊥ := by
  unfold masked
  show Scalar.select (IntOp.cmpi .sle (iota .tc (Mat R N) 32 [1] h.io1 (ix2 r n)) (iota .tc (Mat R N) 32 [0] h.io0 (ix2 r n))) _ _ = _
  rw [iota_single_apply, iota_single_apply]
  show Scalar.select (IntOp.cmpi .sle (BitVec.ofNat 32 n.val) (BitVec.ofNat 32 r.val)) _ (⊥ : EReal) = _
  have hn := n.isLt
  have hr := r.isLt
  rw [WordCmp.cmpi_sle_ofNat (w := 32) (by norm_num; omega) (by norm_num; omega)]
  by_cases hle : n.val ≤ r.val
  · simp [hle, Scalar.select]
  · simp [hle, Scalar.select]

/-- A row's largest score. -/
abbrev rowMax (s : FVec Ideal (Mat R N) .f32) (r : Fin R) : EReal :=
  (Finset.univ : Finset (Fin N)).fold max ⊥ fun n => (s (ix2 r n) : EReal)

theorem curCol_apply (s : FVec Ideal (Mat R N) .f32) (r : Fin R) :
    curCol (F := Ideal) h s (ix2 r (0 : Fin 1)) = rowMax s r := by
  unfold curCol
  rw [shapeCast_apply _ _ _ (ix1 r) (by
    rw [rowMajor_val1, rowMajor_val2 _ 1 rfl]
    show r.val = r.val * 1 + 0
    omega)]
  refine (Ideal.multiReduction_maximumf_single (s := Mat R N) (a := (1 : Fin 2)) s _ h.red _ _ (ix1 r)).trans ?_
  rw [show (FloatOps.ofBits .f32 0xFF800000#32 : Ideal .f32) = (⊥ : EReal) from by
    show Ideal.ofBits .f32 0xFF800000#32 = ⊥
    simp [Ideal.ofBits, Ideal.ieee]]
  refine congrArg (Finset.fold max (⊥ : EReal) · Finset.univ) (funext fun n => ?_)
  refine congrArg s ?_
  funext a
  fin_cases a
  · rfl
  · rfl

theorem cur_apply (s : FVec Ideal (Mat R N) .f32) (hR1 : R ≠ 1) (r : Fin R) (t : Fin 128) :
    cur (F := Ideal) h s (ix2 r t) = rowMax s r := by
  unfold cur
  rw [broadcastTo_apply _ _ _ (ix2 r (0 : Fin 1)), curCol_apply]
  intro a
  fin_cases a
  · show r.val = if R = 1 then 0 else r.val
    rw [if_neg hR1]
  · rfl

theorem cur1_apply (s : FVec Ideal (Mat R N) .f32) (hR1 : R ≠ 1) (r : Fin R) (t : Fin 128) :
    cur1 (F := Ideal) h s (ix2 r t) = rowMax s r := by
  unfold cur1
  rw [shapeCast_self]
  exact cur_apply h s hR1 r t

/-- A weight: two to the power of the score less the running maximum in the key's lane. -/
theorem probs_apply (s : FVec Ideal (Mat R N) .f32) (m : FVec Ideal (Mat R 128) .f32) (hNK : N = K * 128) (r : Fin R) (n : Fin N) :
    probs (F := Ideal) h s m (ix2 r n)
      = Ideal.exp2 ((s (ix2 r n) : EReal) - (m (ix2 r (⟨n.val % 128, Nat.mod_lt _ (by norm_num)⟩ : Fin 128)) : EReal)) := by
  unfold probs
  have hlt : n.val / 128 < K := by
    have := n.isLt
    exact Nat.div_lt_of_lt_mul (by omega)
  refine (concatenate_ofFn_apply (t := Mat R N) (s₁ := Mat R 128) (1 : Fin 2)
    (fun n : Fin K => exp2 (subf (extractStridedSlice (Mat R 128) ![0, n.val * 128] s (h.sl n)) m)) (cc' h _) rfl 128 rfl
    (ix2 r n) ⟨n.val / 128, hlt⟩ rfl (ix2 r (⟨n.val % 128, Nat.mod_lt _ (by norm_num)⟩ : Fin 128)) rfl (by
      intro b hb
      fin_cases b
      · rfl
      · exact absurd rfl hb)).trans ?_
  show Ideal.exp2 ((extractStridedSlice (Mat R 128) _ s _ _ : EReal) - _) = _
  rw [extractStridedSlice_apply _ _ _ _ (ix2 r n)]
  intro a
  fin_cases a
  · show r.val = 0 + r.val
    omega
  · show n.val = n.val / 128 * 128 + n.val % 128
    omega

theorem vOnes_left (k : Vec Ideal ⟨3, ![1, N, 256]⟩ .bf16) (n : Fin N) (t : Fin 128) :
    vOnes (F := Ideal) h k (ix2 n (⟨t.val, by omega⟩ : Fin 256)) = k (ix3 (0 : Fin 1) n (⟨t.val, by omega⟩ : Fin 256)) := by
  unfold vOnes
  rw [concatenate_pair_apply_left (t := Mat N 256) (s₁ := Mat N 128) (s₂ := Mat N 128) (1 : Fin 2) _ _ _ _ rfl (ix2 n t) (by
    intro b
    fin_cases b <;> rfl)]
  rw [extractStridedSlice_apply _ _ _ _ (ix2 n (⟨t.val, by omega⟩ : Fin 256)), cast_k h]
  intro a
  fin_cases a
  · show n.val = 0 + n.val
    omega
  · show t.val = 0 + t.val
    omega

theorem vOnes_right (k : Vec Ideal ⟨3, ![1, N, 256]⟩ .bf16) (n : Fin N) (t : Fin 128) :
    vOnes (F := Ideal) h k (ix2 n (⟨128 + t.val, by omega⟩ : Fin 256)) = (1 : EReal) := by
  unfold vOnes
  rw [concatenate_pair_apply_right (t := Mat N 256) (s₁ := Mat N 128) (s₂ := Mat N 128) (1 : Fin 2) _ _ _ _ rfl rfl (ix2 n t) (by
    intro b hb
    fin_cases b
    · rfl
    · exact absurd rfl hb) (by
    show t.val + 128 = 128 + t.val
    omega)]
  exact Ideal.ofBits_one_bf16

/-- The weighted values and the weights' sums. -/
theorem pv_apply (s : FVec Ideal (Mat R N) .f32) (m : FVec Ideal (Mat R 128) .f32) (k : Vec Ideal ⟨3, ![1, N, 256]⟩ .bf16) (r : Fin R) (c : Fin 256) :
    pv (F := Ideal) h s m k (ix2 r c) = ∑ n : Fin N, (probs (F := Ideal) h s m (ix2 r n) : EReal) * (vOnes (F := Ideal) h k (ix2 n c) : EReal) := by
  refine (Ideal.matmul_plain_apply _ _ _ _ r c).trans ?_
  rw [show constant (F := Ideal) (Mat R 256) .f32 0x00000000#32 (ix2 r c) = (0 : EReal) from Ideal.ofBits_zero_f32, zero_add]

theorem slice0 (x : FVec Ideal (Mat R 256) .f32) (r : Fin R) (t : Fin 128) :
    extractStridedSlice (Mat R 128) ![0, 0] x h.p0 (ix2 r t) = x (ix2 r (⟨t.val, by omega⟩ : Fin 256)) := by
  refine extractStridedSlice_apply _ _ _ _ _ fun a => ?_
  fin_cases a
  · show r.val = 0 + r.val
    omega
  · show t.val = 0 + t.val
    omega

theorem slice1 (x : FVec Ideal (Mat R 256) .f32) (r : Fin R) (t : Fin 128) :
    extractStridedSlice (Mat R 128) ![0, 128] x h.p1 (ix2 r t) = x (ix2 r (⟨128 + t.val, by omega⟩ : Fin 256)) := by
  refine extractStridedSlice_apply _ _ _ _ _ fun a => ?_
  fin_cases a
  · show r.val = 0 + r.val
    omega
  · rfl

end Cert.Attn

end
-- ==== Proof.Lists.lean ====
module

public import proofs.«01_k».proof.Proof.Blocks
public import proofs.«01_k».proof.Proof.Gen.KernelIdeal.Frame

@[expose] public section

set_option maxHeartbeats 400000
set_option maxRecDepth 5000

noncomputable section

namespace Cert.Attn

open Idealize.ShloMosaic Idealize.SL.Sem Cert.KernelIdeal Cert.KernelIdeal.Gen

variable {F : FTy → Type} [FloatOps F] [Named F]

/-- A diagonal block's stores of one head, first half of the keys. -/
def P1 (q : Memref sig .tc .vmem S1x16x512x256 .bf16) (X2 : q.view.ty.Contents (Elt F)) (k : Vec F ⟨3, ![1, 256, 256]⟩ .bf16) (n : Fin 16) :
    FVec F (Mat 512 128) .f32 × FVec F (Mat 512 128) .f32 × FVec F (Mat 512 128) .f32 :=
  first f512x256 (masked f512x256 (scores f512x256 (qSlab q X2 (R := 512) (lo := 0) (by omega) n) k)) k

/-- A diagonal block's stores of one head, second half of the keys, rows 256 on. -/
def P2 (q : Memref sig .tc .vmem S1x16x512x256 .bf16) (X2 : q.view.ty.Contents (Elt F)) (k : Vec F ⟨3, ![1, 256, 256]⟩ .bf16) (n : Fin 16) :=
  later f256x256 (masked f256x256 (scores f256x256 (qSlab q X2 (R := 256) (lo := 256) (by omega) n) k)) k

/-- A full block's stores of one head. -/
def PW {N K : ℕ} (h : BlkFacts 512 N K) (q : Memref sig .tc .vmem S1x16x512x256 .bf16) (X2 : q.view.ty.Contents (Elt F)) (k : Vec F ⟨3, ![1, N, 256]⟩ .bf16) (n : Fin 16) :=
  later h (scores h (qSlab q X2 (R := 512) (lo := 0) (by omega) n) k) k

theorem hlo0 : 0 + 512 ≤ 512 := by omega
theorem hlo256 : 256 + 256 ≤ 512 := by omega

/-- The pieces of a block whose heads each read what the block found. -/
def tripPieces (v9 v10 v11 : View sig .tc .vmem S8192x128 .f32)
    (P : Fin 16 → FVec F (Mat 512 128) .f32 → FVec F (Mat 512 128) .f32 → FVec F (Mat 512 128) .f32 →
      FVec F (Mat 512 128) .f32 × FVec F (Mat 512 128) .f32 × FVec F (Mat 512 128) .f32)
    (f9 : v9.ty.Contents (Elt F)) (f10 : v10.ty.Contents (Elt F)) (f11 : v11.ty.Contents (Elt F)) : Pieces F :=
  firstPieces hlo0 (headStep v9 v10 v11 hlo0 P f9 f10 f11) 16 le_rfl

variable (𝒱 : Variants) (c : Dev nD) (bd : Option 𝒱.V) (i : grid0.Coords)
  (arg2 : Memref sig .tc .vmem S1x16x512x256 .bf16) (harg2 : arg2.IsWhole) (arg3 : Memref sig .tc .vmem S1x4096x256 .bf16) (harg3 : arg3.IsWhole) (arg4 : Memref sig .tc .vmem S1x16x4096 .f32) (harg4 : arg4.IsWhole) (arg5 : Memref sig .tc .vmem S1x64x1024 .f32) (harg5 : arg5.IsWhole) (arg6 : Memref sig .tc .vmem S1x512x2048 .bf16) (harg6 : arg6.IsWhole) (arg7 : Memref sig .tc .vmem S16x4096 .bf16) (harg7 : arg7.IsWhole) (arg8 : Memref sig .tc .vmem S64x1024 .bf16) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x128 .f32) (harg11 : arg11.IsWhole)

/-- One turn of the loop over wide blocks stores the wide block's pieces. -/
theorem trip_eq (arg1 : BitVec 32) (v1074 : FVec F S256x128 .f32) (v1086 : FVec F S256x256 .f32)
    (X2 : arg2.view.ty.Contents (Elt F)) (X3 : arg3.view.ty.Contents (Elt F)) (k : Fin (k0_t1_loop i).trips)
    (f9 : arg9.view.ty.Contents (Elt F)) (f10 : arg10.view.ty.Contents (Elt F)) (f11 : arg11.view.ty.Contents (Elt F)) :
    ∃ inb, tripL_k0_t1 (F := F) 𝒱 c bd i arg2 harg2 arg3 harg3 arg4 harg4 arg5 harg5 arg6 harg6 arg7 harg7 arg8 harg8 arg9 harg9 arg10 harg10 arg11 harg11 arg1 v1074 v1086 X2 X3 k f9 f10 f11
      = tripPieces arg9.view arg10.view arg11.view (PW f512x1536 arg2 X2 (kSlab arg3 X3 1536 (k0_off3 i k) inb)) f9 f10 f11 := by
  unfold tripL_k0_t1 trip_k0_t1
  exact ⟨_, rfl⟩

/-- What a point stores of one head: the accumulator over the sum, narrowed. -/
def outVal (a l : FVec F (Mat 512 128) .f32) : FVec F S1x512x128 .bf16 :=
  shapeCast S1x512x128 (truncf .bf16 (divf a l) bitsLt_bf16_f32) shapeCasts_S512x128_S1x512x128

theorem outInb (n : Fin 16) (a : Fin 3) :
    (![0, 0, n.val * 128] : Fin 3 → ℕ) a + S1x512x128.size a ≤ S1x512x2048.size a := by
  have := n.isLt
  fin_cases a
  · show 0 + 1 ≤ 1; omega
  · show 0 + 512 ≤ 512; omega
  · show n.val * 128 + 128 ≤ 2048; omega

/-- The output block's pieces, one per head. -/
def outPieces (v9 v10 v11 : View sig .tc .vmem S8192x128 .f32) (L : Pieces F) :
    (j : ℕ) → j ≤ 16 → List (View.Piece (Elt F) S1x512x2048 .bf16) :=
  View.tilePieces S1x512x128.size (fun n => ![0, 0, n.val * 128]) outInb (fun n =>
    outVal (v11.readAt (Elt F) (rowRect hlo0 n).toLoadRect (v11.writes (Elt F) v11.junk L.2.2))
      (v10.readAt (Elt F) (rowRect hlo0 n).toLoadRect (v10.writes (Elt F) v10.junk L.2.1)))

/-- The diagonal's two blocks. -/
def diagPieces (X2 : arg2.view.ty.Contents (Elt F)) (X3 : arg3.view.ty.Contents (Elt F)) : Pieces F :=
  laterPieces arg9.view arg10.view arg11.view hlo256 (P2 arg2 X2 (kSlab arg3 X3 256 (k0_off2 i) (k0_off2_inb i)))
    arg9.view.junk arg10.view.junk arg11.view.junk
    (firstPieces hlo0 (P1 arg2 X2 (kSlab arg3 X3 256 (k0_off1 i) (k0_off1_inb i))) 16 le_rfl) 16 le_rfl

/-- The pieces after the loop's full turns, from those before it. -/
def wide1 (a : FVec F S256x128 .f32) (b : FVec F S256x256 .f32)
    (X2 : arg2.view.ty.Contents (Elt F)) (X3 : arg3.view.ty.Contents (Elt F)) (L : Pieces F) : Pieces F :=
  let p := pb_k0_t1 (F := F) Variants.none c none i arg2 harg2 arg3 harg3 arg4 harg4 arg5 harg5 arg6 harg6 arg7 harg7 arg8 harg8 arg9 harg9 arg10 harg10 arg11 harg11 (BitVec.ofNat 32 (i 1).val) a b X2 X3
    (arg9.view.writes (Elt F) arg9.view.junk L.1) (arg10.view.writes (Elt F) arg10.view.junk L.2.1)
    (arg11.view.writes (Elt F) arg11.view.junk L.2.2) (Scf.trips (k0_t1_loop i).lb (k0_t1_loop i).ub (k0_t1_loop i).st)
  (p.1 ++ L.1, p.2.1 ++ L.2.1, p.2.2 ++ L.2.2)

/-- The pieces after the loop's remaining turns (there are none), from those before it. -/
def wide2 (a : FVec F S256x128 .f32) (b : FVec F S256x256 .f32) (w : BitVec 32)
    (X2 : arg2.view.ty.Contents (Elt F)) (X3 : arg3.view.ty.Contents (Elt F)) (L : Pieces F) : Pieces F :=
  let p := pb_k0_t2 (F := F) Variants.none c none i arg2 harg2 arg3 harg3 arg4 harg4 arg5 harg5 arg6 harg6 arg7 harg7 arg8 harg8 arg9 harg9 arg10 harg10 arg11 harg11 (BitVec.ofNat 32 (i 1).val) a b w X2 X3
    (arg9.view.writes (Elt F) arg9.view.junk L.1) (arg10.view.writes (Elt F) arg10.view.junk L.2.1)
    (arg11.view.writes (Elt F) arg11.view.junk L.2.2) (Scf.trips (k0_t2_loop i).lb (k0_t2_loop i).ub (k0_t2_loop i).st)
  (p.1 ++ L.1, p.2.1 ++ L.2.1, p.2.2 ++ L.2.2)

/-- One more full block, its heads read one after the other. -/
def fullPieces (X2 : arg2.view.ty.Contents (Elt F)) (k : Vec F ⟨3, ![1, 512, 256]⟩ .bf16) (L : Pieces F) : Pieces F :=
  laterPieces arg9.view arg10.view arg11.view hlo0 (PW f512x512 arg2 X2 k)
    arg9.view.junk arg10.view.junk arg11.view.junk L 16 le_rfl

/-- The pieces at the end of a point that takes neither conditional block. -/
def endA (a : FVec F S256x128 .f32) (b : FVec F S256x256 .f32) (w : BitVec 32)
    (X2 : arg2.view.ty.Contents (Elt F)) (X3 : arg3.view.ty.Contents (Elt F)) : Pieces F :=
  wide2 c i arg2 harg2 arg3 harg3 arg4 harg4 arg5 harg5 arg6 harg6 arg7 harg7 arg8 harg8 arg9 harg9 arg10 harg10 arg11 harg11 a b w X2 X3 (wide1 c i arg2 harg2 arg3 harg3 arg4 harg4 arg5 harg5 arg6 harg6 arg7 harg7 arg8 harg8 arg9 harg9 arg10 harg10 arg11 harg11 a b X2 X3 (diagPieces i arg2 arg3 arg9 arg10 arg11 X2 X3))

/-! ## The sixteen heads written out -/
section
variable {R lo : ℕ} (hR : lo + R ≤ 512)
    (P : Fin 16 → FVec F (Mat R 128) .f32 × FVec F (Mat R 128) .f32 × FVec F (Mat R 128) .f32)

theorem firstList0 : (firstPieces hR P 16 le_rfl).1 = [⟨rowRect hR 15, (P 15).1⟩, ⟨rowRect hR 14, (P 14).1⟩, ⟨rowRect hR 13, (P 13).1⟩, ⟨rowRect hR 12, (P 12).1⟩, ⟨rowRect hR 11, (P 11).1⟩, ⟨rowRect hR 10, (P 10).1⟩, ⟨rowRect hR 9, (P 9).1⟩, ⟨rowRect hR 8, (P 8).1⟩, ⟨rowRect hR 7, (P 7).1⟩, ⟨rowRect hR 6, (P 6).1⟩, ⟨rowRect hR 5, (P 5).1⟩, ⟨rowRect hR 4, (P 4).1⟩, ⟨rowRect hR 3, (P 3).1⟩, ⟨rowRect hR 2, (P 2).1⟩, ⟨rowRect hR 1, (P 1).1⟩, ⟨rowRect hR 0, (P 0).1⟩] := by exact rfl

theorem firstList1 : (firstPieces hR P 16 le_rfl).2.1 = [⟨rowRect hR 15, (P 15).2.1⟩, ⟨rowRect hR 14, (P 14).2.1⟩, ⟨rowRect hR 13, (P 13).2.1⟩, ⟨rowRect hR 12, (P 12).2.1⟩, ⟨rowRect hR 11, (P 11).2.1⟩, ⟨rowRect hR 10, (P 10).2.1⟩, ⟨rowRect hR 9, (P 9).2.1⟩, ⟨rowRect hR 8, (P 8).2.1⟩, ⟨rowRect hR 7, (P 7).2.1⟩, ⟨rowRect hR 6, (P 6).2.1⟩, ⟨rowRect hR 5, (P 5).2.1⟩, ⟨rowRect hR 4, (P 4).2.1⟩, ⟨rowRect hR 3, (P 3).2.1⟩, ⟨rowRect hR 2, (P 2).2.1⟩, ⟨rowRect hR 1, (P 1).2.1⟩, ⟨rowRect hR 0, (P 0).2.1⟩] := by exact rfl

theorem firstList2 : (firstPieces hR P 16 le_rfl).2.2 = [⟨rowRect hR 15, (P 15).2.2⟩, ⟨rowRect hR 14, (P 14).2.2⟩, ⟨rowRect hR 13, (P 13).2.2⟩, ⟨rowRect hR 12, (P 12).2.2⟩, ⟨rowRect hR 11, (P 11).2.2⟩, ⟨rowRect hR 10, (P 10).2.2⟩, ⟨rowRect hR 9, (P 9).2.2⟩, ⟨rowRect hR 8, (P 8).2.2⟩, ⟨rowRect hR 7, (P 7).2.2⟩, ⟨rowRect hR 6, (P 6).2.2⟩, ⟨rowRect hR 5, (P 5).2.2⟩, ⟨rowRect hR 4, (P 4).2.2⟩, ⟨rowRect hR 3, (P 3).2.2⟩, ⟨rowRect hR 2, (P 2).2.2⟩, ⟨rowRect hR 1, (P 1).2.2⟩, ⟨rowRect hR 0, (P 0).2.2⟩] := by exact rfl

end

theorem outList (w : Fin 16 → FVec F S1x512x128 .bf16) :
    (View.tilePieces S1x512x128.size (fun n => ![0, 0, n.val * 128]) outInb w 16 le_rfl : List (View.Piece (Elt F) S1x512x2048 .bf16)) = [⟨Rect.unit (s := S1x512x2048) ![0, 0, (15 : Fin 16).val * 128] S1x512x128.size (outInb 15), w 15⟩, ⟨Rect.unit (s := S1x512x2048) ![0, 0, (14 : Fin 16).val * 128] S1x512x128.size (outInb 14), w 14⟩, ⟨Rect.unit (s := S1x512x2048) ![0, 0, (13 : Fin 16).val * 128] S1x512x128.size (outInb 13), w 13⟩, ⟨Rect.unit (s := S1x512x2048) ![0, 0, (12 : Fin 16).val * 128] S1x512x128.size (outInb 12), w 12⟩, ⟨Rect.unit (s := S1x512x2048) ![0, 0, (11 : Fin 16).val * 128] S1x512x128.size (outInb 11), w 11⟩, ⟨Rect.unit (s := S1x512x2048) ![0, 0, (10 : Fin 16).val * 128] S1x512x128.size (outInb 10), w 10⟩, ⟨Rect.unit (s := S1x512x2048) ![0, 0, (9 : Fin 16).val * 128] S1x512x128.size (outInb 9), w 9⟩, ⟨Rect.unit (s := S1x512x2048) ![0, 0, (8 : Fin 16).val * 128] S1x512x128.size (outInb 8), w 8⟩, ⟨Rect.unit (s := S1x512x2048) ![0, 0, (7 : Fin 16).val * 128] S1x512x128.size (outInb 7), w 7⟩, ⟨Rect.unit (s := S1x512x2048) ![0, 0, (6 : Fin 16).val * 128] S1x512x128.size (outInb 6), w 6⟩, ⟨Rect.unit (s := S1x512x2048) ![0, 0, (5 : Fin 16).val * 128] S1x512x128.size (outInb 5), w 5⟩, ⟨Rect.unit (s := S1x512x2048) ![0, 0, (4 : Fin 16).val * 128] S1x512x128.size (outInb 4), w 4⟩, ⟨Rect.unit (s := S1x512x2048) ![0, 0, (3 : Fin 16).val * 128] S1x512x128.size (outInb 3), w 3⟩, ⟨Rect.unit (s := S1x512x2048) ![0, 0, (2 : Fin 16).val * 128] S1x512x128.size (outInb 2), w 2⟩, ⟨Rect.unit (s := S1x512x2048) ![0, 0, (1 : Fin 16).val * 128] S1x512x128.size (outInb 1), w 1⟩, ⟨Rect.unit (s := S1x512x2048) ![0, 0, (0 : Fin 16).val * 128] S1x512x128.size (outInb 0), w 0⟩] := by exact rfl

/-- One more head's pieces, from the pieces before it. -/
theorem later_step {v9 v10 v11 : View sig .tc .vmem S8192x128 .f32} {R lo : ℕ} {hR : lo + R ≤ 512}
    {P : Fin 16 → FVec F (Mat R 128) .f32 → FVec F (Mat R 128) .f32 → FVec F (Mat R 128) .f32 →
      FVec F (Mat R 128) .f32 × FVec F (Mat R 128) .f32 × FVec F (Mat R 128) .f32}
    {f9 : v9.ty.Contents (Elt F)} {f10 : v10.ty.Contents (Elt F)} {f11 : v11.ty.Contents (Elt F)} {L : Pieces F}
    {j : ℕ} {hj : j + 1 ≤ 16} (a b c : List (View.Piece (Elt F) S8192x128 .f32))
    {a' b' c' : List (View.Piece (Elt F) S8192x128 .f32)}
    (h : laterPieces v9 v10 v11 hR P f9 f10 f11 L j (Nat.le_of_succ_le hj) = (a, b, c))
    (ha : a' = ⟨rowRect hR ⟨j, hj⟩, (headStep v9 v10 v11 hR P (v9.writes (Elt F) f9 a) (v10.writes (Elt F) f10 b) (v11.writes (Elt F) f11 c) ⟨j, hj⟩).1⟩ :: a)
    (hb : b' = ⟨rowRect hR ⟨j, hj⟩, (headStep v9 v10 v11 hR P (v9.writes (Elt F) f9 a) (v10.writes (Elt F) f10 b) (v11.writes (Elt F) f11 c) ⟨j, hj⟩).2.1⟩ :: b)
    (hc : c' = ⟨rowRect hR ⟨j, hj⟩, (headStep v9 v10 v11 hR P (v9.writes (Elt F) f9 a) (v10.writes (Elt F) f10 b) (v11.writes (Elt F) f11 c) ⟨j, hj⟩).2.2⟩ :: c) :
    laterPieces v9 v10 v11 hR P f9 f10 f11 L (j + 1) hj = (a', b', c') := by
  subst ha hb hc
  unfold laterPieces
  rw [h]

end Cert.Attn

end
-- ==== Proof.Reads.lean ====
module

public import proofs.«01_k».proof.Proof.Lists
public import Idealize.ShloMosaic.Lib.ValueIdx

@[expose] public section

noncomputable section

namespace Cert.Attn

open Idealize.ShloMosaic Idealize.ShloMosaic.ValueIdx Idealize.SL.Sem Cert.KernelIdeal Cert.KernelIdeal.Gen

variable {F : FTy → Type} [FloatOps F] [Named F]

/-- Row `x` of head `hd` in a scratch buffer, at lane `t`. -/
def row (hd : Fin 16) (x : Fin 512) (t : Fin 128) : S8192x128.Idx :=
  ix2 (⟨hd.val * 512 + x.val, by have := hd.isLt; have := x.isLt; omega⟩ : Fin 8192) t

/-- Rows `[lo, lo + R)` of head `hd`. -/
def rowsOf {R lo : ℕ} (hR : lo + R ≤ 512) (A : S8192x128.Idx → F .f32) (hd : Fin 16) : FVec F (Mat R 128) .f32 :=
  fun x => A (row hd ⟨lo + (x 0).val, by have : (x 0).val < R := (x 0).isLt; omega⟩ (x 1))

/-- A load of head `hd`'s rows reads them. -/
theorem readAt_rows (v : View sig .tc .vmem S8192x128 .f32) {R lo : ℕ} (hR : lo + R ≤ 512) (f : v.ty.Contents (Elt F)) (hd : Fin 16) :
    v.readAt (Elt F) (rowRect hR hd).toLoadRect f = rowsOf hR (v.read (Elt F) f) hd := by
  funext x
  show v.read (Elt F) f ((rowRect hR hd).emb x) = _
  unfold rowsOf
  congr 1
  funext a
  fin_cases a
  · exact Fin.ext (by
      show hd.val * 512 + lo + 1 * (x 0).val = hd.val * 512 + (lo + (x 0).val)
      omega)
  · exact Fin.ext (by
      show 0 + 1 * (x 1).val = (x 1).val
      omega)

/-- The newest piece being head `n`'s rows, a row of another head, or outside its rows, reads the rest. -/
theorem read_cons_other (v : View sig .tc .vmem S8192x128 .f32) {R lo : ℕ} (hR : lo + R ≤ 512) (f : v.ty.Contents (Elt F)) (n : Fin 16)
    (w : FVec F (Mat R 128) .f32) (L : List (View.Piece (Elt F) S8192x128 .f32)) (hd : Fin 16) (x : Fin 512) (t : Fin 128)
    (h : hd ≠ n ∨ x.val < lo ∨ lo + R ≤ x.val) :
    v.read (Elt F) (v.writes (Elt F) f (⟨rowRect hR n, w⟩ :: L)) (row hd x t) = v.read (Elt F) (v.writes (Elt F) f L) (row hd x t) := by
  refine View.read_writes_cons_rows_of_not_mem v f (o := n.val * 512 + lo) (W := R) _ w L (row hd x t) rfl rfl ?_
  have hx := x.isLt
  show hd.val * 512 + x.val < _ ∨ _ ≤ hd.val * 512 + x.val
  rcases Nat.lt_trichotomy hd.val n.val with hl | hl | hl
  · left; omega
  · have : hd = n := Fin.ext hl
    rcases h with h | h | h
    · exact absurd this h
    · left; omega
    · right; omega
  · right; omega

/-- The newest piece being head `n`'s rows, those rows read its payload. -/
theorem read_cons_same (v : View sig .tc .vmem S8192x128 .f32) {R lo : ℕ} (hR : lo + R ≤ 512) (f : v.ty.Contents (Elt F)) (n : Fin 16)
    (w : FVec F (Mat R 128) .f32) (L : List (View.Piece (Elt F) S8192x128 .f32)) (y : Fin R) (t : Fin 128) (x : Fin 512) (hx : x.val = lo + y.val) :
    v.read (Elt F) (v.writes (Elt F) f (⟨rowRect hR n, w⟩ :: L)) (row n x t) = w (ix2 y t) := by
  refine View.read_writes_cons_rows_of_mem v f (o := n.val * 512 + lo) _ w L (row n x t) (ix2 y t) rfl ?_ ?_
  · show n.val * 512 + x.val = n.val * 512 + lo + y.val
    omega
  · rfl

/-- What a block leaves in the three buffers: `P` of each head's rows on those rows, the rest as before. -/
structure Stepped {R lo : ℕ} (hR : lo + R ≤ 512)
    (P : Fin 16 → FVec F (Mat R 128) .f32 × FVec F (Mat R 128) .f32 × FVec F (Mat R 128) .f32)
    (j : ℕ) (A9 A10 A11 B9 B10 B11 : S8192x128.Idx → F .f32) : Prop where
  same : ∀ (n : Fin 16) (y : Fin R) (t : Fin 128) (x : Fin 512), n.val < j → x.val = lo + y.val →
    B9 (row n x t) = (P n).1 (ix2 y t) ∧ B10 (row n x t) = (P n).2.1 (ix2 y t) ∧ B11 (row n x t) = (P n).2.2 (ix2 y t)
  other : ∀ (n : Fin 16) (x : Fin 512) (t : Fin 128), (j ≤ n.val ∨ x.val < lo ∨ lo + R ≤ x.val) →
    B9 (row n x t) = A9 (row n x t) ∧ B10 (row n x t) = A10 (row n x t) ∧ B11 (row n x t) = A11 (row n x t)

variable (v9 v10 v11 : View sig .tc .vmem S8192x128 .f32) (f9 : v9.ty.Contents (Elt F)) (f10 : v10.ty.Contents (Elt F)) (f11 : v11.ty.Contents (Elt F))

/-- The buffers after the pieces `L`. -/
abbrev rd (v : View sig .tc .vmem S8192x128 .f32) (f : v.ty.Contents (Elt F)) (L : List (View.Piece (Elt F) S8192x128 .f32)) : S8192x128.Idx → F .f32 :=
  v.read (Elt F) (v.writes (Elt F) f L)

theorem stepped_cons {R lo : ℕ} {hR : lo + R ≤ 512}
    {P : Fin 16 → FVec F (Mat R 128) .f32 × FVec F (Mat R 128) .f32 × FVec F (Mat R 128) .f32}
    {j : ℕ} (hj : j + 1 ≤ 16) {A9 A10 A11 : S8192x128.Idx → F .f32} {a b c : List (View.Piece (Elt F) S8192x128 .f32)}
    (h : Stepped hR P j A9 A10 A11 (rd v9 f9 a) (rd v10 f10 b) (rd v11 f11 c)) :
    Stepped hR P (j + 1) A9 A10 A11 (rd v9 f9 (⟨rowRect hR ⟨j, hj⟩, (P ⟨j, hj⟩).1⟩ :: a))
      (rd v10 f10 (⟨rowRect hR ⟨j, hj⟩, (P ⟨j, hj⟩).2.1⟩ :: b)) (rd v11 f11 (⟨rowRect hR ⟨j, hj⟩, (P ⟨j, hj⟩).2.2⟩ :: c)) where
  same n y t x hn hx := by
    by_cases hc : n = ⟨j, hj⟩
    · subst hc
      exact ⟨read_cons_same v9 hR f9 _ _ a y t x hx, read_cons_same v10 hR f10 _ _ b y t x hx, read_cons_same v11 hR f11 _ _ c y t x hx⟩
    · have hn' : n.val < j := by
        have : n.val ≠ j := fun h => hc (Fin.ext h)
        omega
      obtain ⟨h1, h2, h3⟩ := h.same n y t x hn' hx
      exact ⟨(read_cons_other v9 hR f9 _ _ a n x t (.inl hc)).trans h1, (read_cons_other v10 hR f10 _ _ b n x t (.inl hc)).trans h2,
        (read_cons_other v11 hR f11 _ _ c n x t (.inl hc)).trans h3⟩
  other n x t hn := by
    have hc : n ≠ ⟨j, hj⟩ ∨ x.val < lo ∨ lo + R ≤ x.val := by
      rcases hn with hn | hn
      · left; intro h; have := congrArg Fin.val h; dsimp only at this; omega
      · exact .inr hn
    obtain ⟨h1, h2, h3⟩ := h.other n x t (by rcases hn with hn | hn; · left; omega
                                             · exact .inr hn)
    exact ⟨(read_cons_other v9 hR f9 _ _ a n x t hc).trans h1, (read_cons_other v10 hR f10 _ _ b n x t hc).trans h2,
      (read_cons_other v11 hR f11 _ _ c n x t hc).trans h3⟩

/-- The first block's pieces over `L`'s. -/
theorem stepped_first {R lo : ℕ} (hR : lo + R ≤ 512)
    (P : Fin 16 → FVec F (Mat R 128) .f32 × FVec F (Mat R 128) .f32 × FVec F (Mat R 128) .f32) (j : ℕ) (hj : j ≤ 16) :
    Stepped hR P j (v9.read (Elt F) f9) (v10.read (Elt F) f10) (v11.read (Elt F) f11)
      (rd v9 f9 (firstPieces hR P j hj).1) (rd v10 f10 (firstPieces hR P j hj).2.1) (rd v11 f11 (firstPieces hR P j hj).2.2) := by
  induction j with
  | zero => exact ⟨fun n y t x h => absurd h (Nat.not_lt_zero _), fun n x t _ => ⟨rfl, rfl, rfl⟩⟩
  | succ j ih => exact stepped_cons v9 v10 v11 f9 f10 f11 hj (ih (Nat.le_of_succ_le hj))

/-- A later block's pieces over `L`'s. -/
theorem stepped_later {R lo : ℕ} (hR : lo + R ≤ 512)
    (P : Fin 16 → FVec F (Mat R 128) .f32 → FVec F (Mat R 128) .f32 → FVec F (Mat R 128) .f32 →
      FVec F (Mat R 128) .f32 × FVec F (Mat R 128) .f32 × FVec F (Mat R 128) .f32) (L : Pieces F) (j : ℕ) (hj : j ≤ 16) :
    Stepped hR (fun n => P n (rowsOf hR (rd v9 f9 L.1) n) (rowsOf hR (rd v10 f10 L.2.1) n) (rowsOf hR (rd v11 f11 L.2.2) n)) j
      (rd v9 f9 L.1) (rd v10 f10 L.2.1) (rd v11 f11 L.2.2)
      (rd v9 f9 (laterPieces v9 v10 v11 hR P f9 f10 f11 L j hj).1) (rd v10 f10 (laterPieces v9 v10 v11 hR P f9 f10 f11 L j hj).2.1)
      (rd v11 f11 (laterPieces v9 v10 v11 hR P f9 f10 f11 L j hj).2.2) := by
  induction j with
  | zero => exact ⟨fun n y t x h => absurd h (Nat.not_lt_zero _), fun n x t _ => ⟨rfl, rfl, rfl⟩⟩
  | succ j ih =>
    have ih := ih (Nat.le_of_succ_le hj)
    have e : headStep v9 v10 v11 hR P (v9.writes (Elt F) f9 (laterPieces v9 v10 v11 hR P f9 f10 f11 L j (Nat.le_of_succ_le hj)).1)
        (v10.writes (Elt F) f10 (laterPieces v9 v10 v11 hR P f9 f10 f11 L j (Nat.le_of_succ_le hj)).2.1)
        (v11.writes (Elt F) f11 (laterPieces v9 v10 v11 hR P f9 f10 f11 L j (Nat.le_of_succ_le hj)).2.2) ⟨j, hj⟩
        = P ⟨j, hj⟩ (rowsOf hR (rd v9 f9 L.1) ⟨j, hj⟩) (rowsOf hR (rd v10 f10 L.2.1) ⟨j, hj⟩) (rowsOf hR (rd v11 f11 L.2.2) ⟨j, hj⟩) := by
      unfold headStep
      rw [readAt_rows, readAt_rows, readAt_rows]
      congr 1
      · funext x; exact (ih.other ⟨j, hj⟩ _ _ (.inl le_rfl)).1
      · funext x; exact (ih.other ⟨j, hj⟩ _ _ (.inl le_rfl)).2.1
      · funext x; exact (ih.other ⟨j, hj⟩ _ _ (.inl le_rfl)).2.2
    have := stepped_cons v9 v10 v11 f9 f10 f11 hj ih
    rw [← e] at this
    exact this

/-- A wide block's pieces, whose heads read what the block found. -/
theorem stepped_trip (P : Fin 16 → FVec F (Mat 512 128) .f32 → FVec F (Mat 512 128) .f32 → FVec F (Mat 512 128) .f32 →
      FVec F (Mat 512 128) .f32 × FVec F (Mat 512 128) .f32 × FVec F (Mat 512 128) .f32) :
    Stepped hlo0 (fun n => P n (rowsOf hlo0 (v9.read (Elt F) f9) n) (rowsOf hlo0 (v10.read (Elt F) f10) n) (rowsOf hlo0 (v11.read (Elt F) f11) n)) 16
      (v9.read (Elt F) f9) (v10.read (Elt F) f10) (v11.read (Elt F) f11)
      (rd v9 f9 (tripPieces v9 v10 v11 P f9 f10 f11).1) (rd v10 f10 (tripPieces v9 v10 v11 P f9 f10 f11).2.1)
      (rd v11 f11 (tripPieces v9 v10 v11 P f9 f10 f11).2.2) := by
  have e : headStep v9 v10 v11 hlo0 P f9 f10 f11 = (fun n => P n (rowsOf hlo0 (v9.read (Elt F) f9) n) (rowsOf hlo0 (v10.read (Elt F) f10) n) (rowsOf hlo0 (v11.read (Elt F) f11) n)) := by
    funext n
    unfold headStep
    rw [readAt_rows, readAt_rows, readAt_rows]
  unfold tripPieces
  rw [e]
  exact stepped_first v9 v10 v11 f9 f10 f11 hlo0 _ 16 le_rfl

end Cert.Attn

end
-- ==== Proof.Step.lean ====
module

public import proofs.«01_k».proof.Proof.Block
public import proofs.«01_k».proof.Proof.Reads

@[expose] public section

noncomputable section

namespace Cert.Attn

open Idealize.ShloMosaic hiding ix1 ix2 ix3 ix4
open Idealize.ShloMosaic.ValueIdx Cert.KernelIdeal

/-- A score over the reals: one query against key `j`. -/
def sc (q : Fin 256 → ℝ) (k : ℕ → Fin 256 → ℝ) (j : ℕ) : ℝ := ∑ d, q d * k j d

/-- A key's value: its first 128 entries. -/
def vl (k : ℕ → Fin 256 → ℝ) (j : ℕ) (t : Fin 128) : ℝ := k j ⟨t.val, by omega⟩

section
variable {R N K : ℕ} (h : BlkFacts R N K)

theorem pv_right (s : FVec Ideal (Mat R N) .f32) (m : FVec Ideal (Mat R 128) .f32) (k : Vec Ideal ⟨3, ![1, N, 256]⟩ .bf16) (hNK : N = K * 128) (r : Fin R) (t : Fin 128) :
    extractStridedSlice (Mat R 128) ![0, 128] (pv (F := Ideal) h s m k) h.p1 (ix2 r t)
      = ∑ n : Fin N, Ideal.exp2 ((s (ix2 r n) : EReal) - (m (ix2 r (⟨n.val % 128, Nat.mod_lt _ (by norm_num)⟩ : Fin 128)) : EReal)) * ((1 : ℝ) : EReal) := by
  rw [slice1 h, pv_apply h]
  refine Finset.sum_congr rfl fun n _ => ?_
  rw [probs_apply h s m hNK, vOnes_right h]; rfl

theorem pv_left (s : FVec Ideal (Mat R N) .f32) (m : FVec Ideal (Mat R 128) .f32) (k : Vec Ideal ⟨3, ![1, N, 256]⟩ .bf16) (hNK : N = K * 128) {kr : ℕ → Fin 256 → ℝ} {o : ℕ}
    (hk : ∀ n d, (k (ix3 (0 : Fin 1) n d) : EReal) = ((kr (o + n.val) d : ℝ) : EReal)) (r : Fin R) (t : Fin 128) :
    extractStridedSlice (Mat R 128) ![0, 0] (pv (F := Ideal) h s m k) h.p0 (ix2 r t)
      = ∑ n : Fin N, Ideal.exp2 ((s (ix2 r n) : EReal) - (m (ix2 r (⟨n.val % 128, Nat.mod_lt _ (by norm_num)⟩ : Fin 128)) : EReal)) * ((vl kr (o + n.val) t : ℝ) : EReal) := by
  rw [slice0 h, pv_apply h]
  refine Finset.sum_congr rfl fun n _ => ?_
  rw [probs_apply h s m hNK, vOnes_left h, hk]; rfl

/-- The first block establishes the invariant over its own keys. -/
theorem first_inv (s : FVec Ideal (Mat R N) .f32) (k : Vec Ideal ⟨3, ![1, N, 256]⟩ .bf16) (hNK : N = K * 128) (hR1 : R ≠ 1) (r : Fin R)
    {sr : ℕ → ℝ} {kr : ℕ → Fin 256 → ℝ} {o : ℕ} {A : Finset (Fin N)}
    (hb : Row (fun n => (s (ix2 r n) : EReal)) A fun n => sr (o + n.val)) (hA : A.Nonempty)
    (hk : ∀ n d, (k (ix3 (0 : Fin 1) n d) : EReal) = ((kr (o + n.val) d : ℝ) : EReal)) :
    Inv sr (vl kr) (keys o A) (fun t => (first (F := Ideal) h s k).1 (ix2 r t)) (fun t => (first (F := Ideal) h s k).2.1 (ix2 r t))
      (fun t => (first (F := Ideal) h s k).2.2 (ix2 r t)) := by
  refine inv_first hb hA (fun t => ?_) (fun t => ?_) (fun t => ?_)
  · dsimp only [first]
    rw [shapeCast_self, cur1_apply h s hR1]
  · dsimp only [first]
    rw [shapeCast_self, pv_right h _ _ _ hNK]
    exact Finset.sum_congr rfl fun n _ => by rw [cur1_apply h s hR1]
  · dsimp only [first]
    rw [shapeCast_self, pv_left h _ _ _ hNK hk]
    exact Finset.sum_congr rfl fun n _ => by rw [cur1_apply h s hR1]

theorem newMax_apply (s : FVec Ideal (Mat R N) .f32) (m : FVec Ideal (Mat R 128) .f32) (hR1 : R ≠ 1) (r : Fin R) (t : Fin 128) :
    newMax (F := Ideal) h s m (ix2 r t) = max (m (ix2 r t) : EReal) (rowMax s r) := by
  rw [← cur_apply h s hR1 r t]; rfl

/-- A later block extends the invariant by its own keys. -/
theorem later_inv (s : FVec Ideal (Mat R N) .f32) (k : Vec Ideal ⟨3, ![1, N, 256]⟩ .bf16) (hNK : N = K * 128) (hR1 : R ≠ 1) (r : Fin R)
    {sr : ℕ → ℝ} {kr : ℕ → Fin 256 → ℝ} {o : ℕ} {A : Finset (Fin N)} {J : Finset ℕ}
    (hb : Row (fun n => (s (ix2 r n) : EReal)) A fun n => sr (o + n.val)) (hJ : Disjoint J (keys o A))
    (hk : ∀ n d, (k (ix3 (0 : Fin 1) n d) : EReal) = ((kr (o + n.val) d : ℝ) : EReal))
    {m l a : FVec Ideal (Mat R 128) .f32}
    (hi : Inv sr (vl kr) J (fun t => m (ix2 r t)) (fun t => l (ix2 r t)) (fun t => a (ix2 r t))) :
    Inv sr (vl kr) (J ∪ keys o A) (fun t => (later (F := Ideal) h s k m l a).1 (ix2 r t)) (fun t => (later (F := Ideal) h s k m l a).2.1 (ix2 r t))
      (fun t => (later (F := Ideal) h s k m l a).2.2 (ix2 r t)) := by
  have e1 : ∀ t, (later (F := Ideal) h s k m l a).1 (ix2 r t) = newMax (F := Ideal) h s m (ix2 r t) := fun t => by
    dsimp only [later]
    rw [shapeCast_self]
  refine inv_later hb hJ hi (fun t => ?_) (fun t => ?_) (fun t => ?_)
  · rw [e1, newMax_apply h s m hR1]
  · simp only [e1]
    dsimp only [later]
    rw [shapeCast_self, ← pv_right h _ _ k hNK]; rfl
  · simp only [e1]
    dsimp only [later]
    rw [shapeCast_self, ← pv_left h _ _ _ hNK hk]; rfl

theorem scores_row (q : Vec Ideal ⟨4, ![1, 1, R, 256]⟩ .bf16) (k : Vec Ideal ⟨3, ![1, N, 256]⟩ .bf16) {qr : Fin 256 → ℝ} {kr : ℕ → Fin 256 → ℝ} {o : ℕ} {r : Fin R}
    (hq : ∀ d, (q (ix4 (0 : Fin 1) (0 : Fin 1) r d) : EReal) = ((qr d : ℝ) : EReal))
    (hk : ∀ n d, (k (ix3 (0 : Fin 1) n d) : EReal) = ((kr (o + n.val) d : ℝ) : EReal)) (n : Fin N) :
    (scores (F := Ideal) h q k (ix2 r n) : EReal) = ((sc qr kr (o + n.val) : ℝ) : EReal) := by
  rw [scores_apply h]
  unfold sc
  rw [coe_sum]
  exact Finset.sum_congr rfl fun d _ => by rw [hq, hk, EReal.coe_mul]

end

theorem mem_keys_univ {N : ℕ} (o j : ℕ) : j ∈ keys o (Finset.univ : Finset (Fin N)) ↔ o ≤ j ∧ j < o + N := by
  unfold keys
  rw [Finset.mem_image]
  constructor
  · rintro ⟨n, _, rfl⟩; exact ⟨by omega, by omega⟩
  · rintro ⟨h1, h2⟩; exact ⟨⟨j - o, by omega⟩, Finset.mem_univ _, by show o + (j - o) = j; omega⟩

theorem mem_keys_le {N : ℕ} (o x j : ℕ) : j ∈ keys o ((Finset.univ : Finset (Fin N)).filter fun n => n.val ≤ x) ↔ o ≤ j ∧ j < o + N ∧ j ≤ o + x := by
  unfold keys
  rw [Finset.mem_image]
  constructor
  · rintro ⟨n, hn, rfl⟩
    have := (Finset.mem_filter.1 hn).2
    exact ⟨by omega, by omega, by omega⟩
  · rintro ⟨h1, h2, h3⟩
    exact ⟨⟨j - o, by omega⟩, Finset.mem_filter.2 ⟨Finset.mem_univ _, by show j - o ≤ x; omega⟩, by show o + (j - o) = j; omega⟩

end Cert.Attn

end
-- ==== Proof.State.lean ====
module

public import proofs.«01_k».proof.Proof.Step

@[expose] public section

noncomputable section

namespace Cert.Attn

open Idealize.ShloMosaic hiding ix1 ix2 ix3 ix4
open Idealize.ShloMosaic.ValueIdx Cert.KernelIdeal

/-- The three buffers' contents satisfy the invariant: head `hd`'s row `x` has seen the keys `J x`. -/
def Good (Q : Fin 16 → Fin 512 → Fin 256 → ℝ) (kr : ℕ → Fin 256 → ℝ) (J : Fin 512 → Finset ℕ)
    (B9 B10 B11 : S8192x128.Idx → Ideal .f32) : Prop :=
  ∀ hd x, Inv (sc (Q hd x) kr) (vl kr) (J x) (fun t => B9 (row hd x t)) (fun t => B10 (row hd x t)) (fun t => B11 (row hd x t))

theorem Good.congr {Q : Fin 16 → Fin 512 → Fin 256 → ℝ} {kr : ℕ → Fin 256 → ℝ} {J J' : Fin 512 → Finset ℕ}
    {B9 B10 B11 : S8192x128.Idx → Ideal .f32} (h : Good Q kr J B9 B10 B11) (e : ∀ x j, j ∈ J x ↔ j ∈ J' x) : Good Q kr J' B9 B10 B11 := by
  have : J = J' := funext fun x => Finset.ext (e x)
  exact this ▸ h

variable {Q : Fin 16 → Fin 512 → Fin 256 → ℝ} {kr : ℕ → Fin 256 → ℝ}
  {q : Memref sig .tc .vmem S1x16x512x256 .bf16} {X2 : q.view.ty.Contents (Elt Ideal)}
  (hQ : ∀ n x d, (q.view.read (Elt Ideal) X2 (ix4 (0 : Fin 1) n x d) : EReal) = ((Q n x d : ℝ) : EReal))

include hQ in
theorem qSlab_apply {R lo : ℕ} (hR : lo + R ≤ 512) (n : Fin 16) (y : Fin R) (x : Fin 512) (hx : x.val = lo + y.val) (d : Fin 256) :
    (qSlab (F := Ideal) q X2 hR n (ix4 (0 : Fin 1) (0 : Fin 1) y d) : EReal) = ((Q n x d : ℝ) : EReal) := by
  refine Eq.trans ?_ (hQ n x d)
  unfold qSlab
  refine congrArg (q.view.read (Elt Ideal) X2) (funext fun a => Fin.ext ?_)
  fin_cases a
  · show 0 + 1 * 0 = 0; omega
  · show n.val + 1 * 0 = n.val; omega
  · show lo + 1 * y.val = x.val; omega
  · show 0 + 1 * d.val = d.val; omega

theorem kSlab_apply {k : Memref sig .tc .vmem S1x4096x256 .bf16} {X3 : k.view.ty.Contents (Elt Ideal)}
    (hK : ∀ (j : Fin 4096) d, (k.view.read (Elt Ideal) X3 (ix3 (0 : Fin 1) j d) : EReal) = ((kr j.val d : ℝ) : EReal))
    (N : ℕ) (off : Fin 3 → ℕ) (inb) (o : ℕ) (h : off = ![0, o, 0]) (n : Fin N) (d : Fin 256) :
    (kSlab (F := Ideal) k X3 N off inb (ix3 (0 : Fin 1) n d) : EReal) = ((kr (o + n.val) d : ℝ) : EReal) := by
  subst h
  have hlt : o + N ≤ 4096 := inb 1
  have := n.isLt
  refine Eq.trans ?_ (hK ⟨o + n.val, by omega⟩ d)
  unfold kSlab
  refine congrArg (k.view.read (Elt Ideal) X3) (funext fun a => Fin.ext ?_)
  fin_cases a
  · show 0 + 1 * 0 = 0; omega
  · show o + 1 * n.val = o + n.val; omega
  · show 0 + 1 * d.val = d.val; omega

variable {A9 A10 A11 B9 B10 B11 : S8192x128.Idx → Ideal .f32}

theorem masked_row {R N K : ℕ} (h : BlkFacts R N K) (hN : N ≤ 4096) (hRN : R ≤ 4096) {s : FVec Ideal (Mat R N) .f32} {f : Fin N → ℝ} (r : Fin R)
    (hs : ∀ n, (s (ix2 r n) : EReal) = ((f n : ℝ) : EReal)) :
    Row (fun n => (masked (F := Ideal) h s (ix2 r n) : EReal)) (Finset.univ.filter fun n => n.val ≤ r.val) f := by
  intro n
  dsimp only
  rw [masked_apply h hN hRN, hs]
  by_cases hc : n.val ≤ r.val
  · have hm : n ∈ Finset.univ.filter fun n : Fin N => n.val ≤ r.val := Finset.mem_filter.2 ⟨Finset.mem_univ _, hc⟩
    rw [if_pos hc, if_pos hm]
  · have hm : n ∉ Finset.univ.filter fun n : Fin N => n.val ≤ r.val := fun hm => hc (Finset.mem_filter.1 hm).2
    rw [if_neg hc, if_neg hm]

include hQ in
/-- The diagonal's first block. -/
theorem good_first {k : Vec Ideal ⟨3, ![1, 256, 256]⟩ .bf16} {o : ℕ}
    (hk : ∀ n d, (k (ix3 (0 : Fin 1) n d) : EReal) = ((kr (o + n.val) d : ℝ) : EReal))
    (hs : Stepped hlo0 (P1 (F := Ideal) q X2 k) 16 A9 A10 A11 B9 B10 B11) :
    Good Q kr (fun x => keys o ((Finset.univ : Finset (Fin 256)).filter fun n => n.val ≤ x.val)) B9 B10 B11 := by
  intro hd x
  have e := fun t => hs.same hd x t x hd.isLt (by omega)
  have := first_inv f512x256 (masked (F := Ideal) f512x256 (scores (F := Ideal) f512x256 (qSlab q X2 (R := 512) (lo := 0) (by omega) hd) k)) k (by norm_num) (by norm_num) x
    (masked_row f512x256 (by norm_num) (by norm_num) x
      (scores_row f512x256 _ k (qr := Q hd x) (fun d => qSlab_apply hQ _ hd x x (by omega) d) hk)) ⟨0, by simp⟩ hk
  have e1 : (fun t => B9 (row hd x t)) = _ := funext fun t => (e t).1
  have e2 : (fun t => B10 (row hd x t)) = _ := funext fun t => (e t).2.1
  have e3 : (fun t => B11 (row hd x t)) = _ := funext fun t => (e t).2.2
  rw [e1, e2, e3]
  exact this

include hQ in
/-- The diagonal's second block, on the rows from 256 on. -/
theorem good_second {k : Vec Ideal ⟨3, ![1, 256, 256]⟩ .bf16} {o : ℕ} {J : Fin 512 → Finset ℕ}
    (hk : ∀ n d, (k (ix3 (0 : Fin 1) n d) : EReal) = ((kr (o + n.val) d : ℝ) : EReal))
    (hJ : ∀ x j, j ∈ J x → j < o) (hA : Good Q kr J A9 A10 A11)
    (hs : Stepped hlo256 (fun n => P2 (F := Ideal) q X2 k n (rowsOf hlo256 A9 n) (rowsOf hlo256 A10 n) (rowsOf hlo256 A11 n)) 16 A9 A10 A11 B9 B10 B11) :
    Good Q kr (fun x => if x.val < 256 then J x else J x ∪ keys o ((Finset.univ : Finset (Fin 256)).filter fun n => n.val ≤ x.val - 256)) B9 B10 B11 := by
  intro hd x
  by_cases hx : x.val < 256
  · have e := fun t => hs.other hd x t (.inr (.inl hx))
    have e1 : (fun t => B9 (row hd x t)) = _ := funext fun t => (e t).1
    have e2 : (fun t => B10 (row hd x t)) = _ := funext fun t => (e t).2.1
    have e3 : (fun t => B11 (row hd x t)) = _ := funext fun t => (e t).2.2
    rw [e1, e2, e3]
    dsimp only
    rw [if_pos hx]
    exact hA hd x
  · have hxl := x.isLt
    obtain ⟨y, hy⟩ : ∃ y : Fin 256, y.val = x.val - 256 := ⟨⟨x.val - 256, by omega⟩, rfl⟩
    have hxy : x = ⟨256 + y.val, by omega⟩ := Fin.ext (by show x.val = 256 + y.val; omega)
    have e := fun t => hs.same hd y t x hd.isLt (by omega)
    have := later_inv f256x256 (masked (F := Ideal) f256x256 (scores (F := Ideal) f256x256 (qSlab q X2 (R := 256) (lo := 256) (by omega) hd) k)) k (by norm_num) (by norm_num) y
      (masked_row f256x256 (by norm_num) (by norm_num) y
        (scores_row f256x256 _ k (qr := Q hd x) (fun d => qSlab_apply hQ _ hd y x (by omega) d) hk))
      (J := J x) (Finset.disjoint_left.2 fun j h1 h2 => by
        have := hJ x j h1
        have := ((mem_keys_le _ _ _).1 h2).1
        omega) hk (m := rowsOf hlo256 A9 hd) (l := rowsOf hlo256 A10 hd) (a := rowsOf hlo256 A11 hd) (by
        have := hA hd x
        rw [hxy] at this ⊢
        exact this)
    have e1 : (fun t => B9 (row hd x t)) = _ := funext fun t => (e t).1
    have e2 : (fun t => B10 (row hd x t)) = _ := funext fun t => (e t).2.1
    have e3 : (fun t => B11 (row hd x t)) = _ := funext fun t => (e t).2.2
    rw [e1, e2, e3]
    dsimp only
    rw [if_neg hx, ← hy]
    exact this

include hQ in
/-- A full block. -/
theorem good_full {N K : ℕ} (h : BlkFacts 512 N K) (hNK : N = K * 128) {k : Vec Ideal ⟨3, ![1, N, 256]⟩ .bf16} {o : ℕ} {J : Fin 512 → Finset ℕ}
    (hk : ∀ n d, (k (ix3 (0 : Fin 1) n d) : EReal) = ((kr (o + n.val) d : ℝ) : EReal))
    (hJ : ∀ x j, j ∈ J x → ¬(o ≤ j ∧ j < o + N)) (hA : Good Q kr J A9 A10 A11)
    (hs : Stepped hlo0 (fun n => PW (F := Ideal) h q X2 k n (rowsOf hlo0 A9 n) (rowsOf hlo0 A10 n) (rowsOf hlo0 A11 n)) 16 A9 A10 A11 B9 B10 B11) :
    Good Q kr (fun x => J x ∪ keys o (Finset.univ : Finset (Fin N))) B9 B10 B11 := by
  intro hd x
  have hxx : x = ⟨0 + x.val, by omega⟩ := Fin.ext (by show x.val = 0 + x.val; omega)
  have e := fun t => hs.same hd x t x hd.isLt (by omega)
  have := later_inv h (scores (F := Ideal) h (qSlab q X2 (R := 512) (lo := 0) (by omega) hd) k) k hNK (by norm_num) x
    (sr := sc (Q hd x) kr) (kr := kr) (o := o) (A := Finset.univ) (fun n => by
      dsimp only
      rw [if_pos (Finset.mem_univ n)]
      exact scores_row h _ k (qr := Q hd x) (fun d => qSlab_apply hQ _ hd x x (by omega) d) hk n)
    (J := J x) (Finset.disjoint_left.2 fun j h1 h2 => hJ x j h1 ((mem_keys_univ _ _).1 h2)) hk
    (m := rowsOf hlo0 A9 hd) (l := rowsOf hlo0 A10 hd) (a := rowsOf hlo0 A11 hd) (by
      have := hA hd ⟨0 + x.val, by omega⟩
      rw [← hxx] at this
      have e1 : ∀ A : S8192x128.Idx → Ideal .f32, (fun t => rowsOf hlo0 A hd (ix2 x t)) = fun t => A (row hd x t) := fun A => funext fun t => by
        show A (row hd ⟨0 + x.val, _⟩ t) = _
        rw [← hxx]
      rw [e1, e1, e1]
      exact this)
  have e1 : (fun t => B9 (row hd x t)) = _ := funext fun t => (e t).1
  have e2 : (fun t => B10 (row hd x t)) = _ := funext fun t => (e t).2.1
  have e3 : (fun t => B11 (row hd x t)) = _ := funext fun t => (e t).2.2
  rw [e1, e2, e3]
  exact this

end Cert.Attn

end
-- ==== Proof.Offsets.lean ====
module

public import proofs.«01_k».proof.Proof.Gen.KernelIdeal.Frame

@[expose] public section

namespace Cert.Attn

open Idealize.ShloMosaic Cert.KernelIdeal Cert.KernelIdeal.Gen

/-! Which keys each load of a point takes, from the point's number of its block of queries. -/

theorem off1_eq : ∀ i : grid0.Coords, k0_off1 i = ![0, 512 * (i 1).val, 0] := by decide +kernel
theorem off2_eq : ∀ i : grid0.Coords, k0_off2 i = ![0, 512 * (i 1).val + 256, 0] := by decide +kernel
theorem trips1_eq : ∀ i : grid0.Coords, (k0_t1_loop i).trips = (i 1).val / 3 := by decide +kernel
theorem trips2_eq : ∀ i : grid0.Coords, (k0_t2_loop i).trips = 0 := fun i => Nat.le_zero.1 (k0_t2_abs i).2.1
theorem off3_eq : ∀ (i : grid0.Coords) (k : Fin (k0_t1_loop i).trips), k0_off3 i k = ![0, 1536 * k.val, 0] := by decide +kernel
theorem off5_eq : ∀ i : grid0.Coords, k0_off5 i = ![0, 1536 * ((i 1).val / 3), 0] := by decide +kernel
theorem off6_eq : ∀ i : grid0.Coords, k0_off6 i = ![0, 1536 * ((i 1).val / 3) + 512, 0] := by decide +kernel
theorem cond0_iff : ∀ i : grid0.Coords, cond0_0 i ↔ (i 1).val % 3 ≠ 0 := by decide +kernel
theorem cond1_iff : ∀ i : grid0.Coords, cond0_1 i ↔ (i 1).val % 3 = 2 := by decide +kernel

end Cert.Attn
-- ==== Proof.Final.lean ====
module

public import proofs.«01_k».proof.Proof.State
public import proofs.«01_k».proof.Proof.Offsets

@[expose] public section

noncomputable section

namespace Cert.Attn

open Idealize.ShloMosaic hiding ix1 ix2 ix3 ix4
open Idealize.ShloMosaic.ValueIdx Cert.KernelIdeal Cert.KernelIdeal.Gen Idealize.SL.Sem

variable (c : Dev nD) (i : grid0.Coords)
  (arg2 : Memref sig .tc .vmem S1x16x512x256 .bf16) (harg2 : arg2.IsWhole) (arg3 : Memref sig .tc .vmem S1x4096x256 .bf16) (harg3 : arg3.IsWhole) (arg4 : Memref sig .tc .vmem S1x16x4096 .f32) (harg4 : arg4.IsWhole) (arg5 : Memref sig .tc .vmem S1x64x1024 .f32) (harg5 : arg5.IsWhole) (arg6 : Memref sig .tc .vmem S1x512x2048 .bf16) (harg6 : arg6.IsWhole) (arg7 : Memref sig .tc .vmem S16x4096 .bf16) (harg7 : arg7.IsWhole) (arg8 : Memref sig .tc .vmem S64x1024 .bf16) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x128 .f32) (harg11 : arg11.IsWhole)
  {Q : Fin 16 → Fin 512 → Fin 256 → ℝ} {kr : ℕ → Fin 256 → ℝ}
  {X2 : arg2.view.ty.Contents (Elt Ideal)} {X3 : arg3.view.ty.Contents (Elt Ideal)}
  (hQ : ∀ n x d, (arg2.view.read (Elt Ideal) X2 (ix4 (0 : Fin 1) n x d) : EReal) = ((Q n x d : ℝ) : EReal))
  (hK : ∀ (j : Fin 4096) d, (arg3.view.read (Elt Ideal) X3 (ix3 (0 : Fin 1) j d) : EReal) = ((kr j.val d : ℝ) : EReal))

attribute [local irreducible] laterPieces firstPieces

/-- The invariant of the three buffers after the pieces `L`. -/
def St (Q : Fin 16 → Fin 512 → Fin 256 → ℝ) (kr : ℕ → Fin 256 → ℝ) (v9 v10 v11 : View sig .tc .vmem S8192x128 .f32)
    (L : Pieces Ideal) (J : Fin 512 → Finset ℕ) : Prop :=
  Good Q kr J (rd v9 v9.junk L.1) (rd v10 v10.junk L.2.1) (rd v11 v11.junk L.2.2)

/-- The keys of the diagonal that row `x` may see. -/
def diagKeys (x : Fin 512) : Finset ℕ := Finset.Ico (512 * (i 1).val) (512 * (i 1).val + x.val + 1)

/-- Those, and the keys before `e`. -/
def seen (e : ℕ) (x : Fin 512) : Finset ℕ := Finset.Ico 0 e ∪ diagKeys i x

include hQ hK in
theorem diag_good : St Q kr arg9.view arg10.view arg11.view (diagPieces (F := Ideal) i arg2 arg3 arg9 arg10 arg11 X2 X3) (seen i 0) := by
  have h1 := good_first hQ (kSlab_apply hK 256 (k0_off1 i) (k0_off1_inb i) (512 * (i 1).val) (off1_eq i))
    (stepped_first arg9.view arg10.view arg11.view arg9.view.junk arg10.view.junk arg11.view.junk hlo0
      (P1 (F := Ideal) arg2 X2 (kSlab arg3 X3 256 (k0_off1 i) (k0_off1_inb i))) 16 le_rfl)
  have h2 := good_second hQ (kSlab_apply hK 256 (k0_off2 i) (k0_off2_inb i) (512 * (i 1).val + 256) (off2_eq i))
    (fun x j hj => by have := (mem_keys_le _ _ _).1 hj; omega) h1
    (stepped_later arg9.view arg10.view arg11.view arg9.view.junk arg10.view.junk arg11.view.junk hlo256
      (P2 (F := Ideal) arg2 X2 (kSlab arg3 X3 256 (k0_off2 i) (k0_off2_inb i)))
      (firstPieces hlo0 (P1 (F := Ideal) arg2 X2 (kSlab arg3 X3 256 (k0_off1 i) (k0_off1_inb i))) 16 le_rfl) 16 le_rfl)
  refine h2.congr fun x j => ?_
  have hx := x.isLt
  dsimp only
  unfold seen diagKeys
  rw [Finset.mem_union, Finset.mem_Ico, Finset.mem_Ico]
  by_cases hc : x.val < 256
  · rw [if_pos hc, mem_keys_le]; omega
  · rw [if_neg hc, Finset.mem_union, mem_keys_le, mem_keys_le]; omega

include hQ hK in
/-- One turn over a wide block. -/
theorem turn_good (n : ℕ) (hlt : 3 * (n + 1) ≤ (i 1).val) (off : Fin 3 → ℕ) (inb) (ho : off = ![0, 1536 * n, 0])
    (G9 : arg9.view.ty.Contents (Elt Ideal)) (G10 : arg10.view.ty.Contents (Elt Ideal)) (G11 : arg11.view.ty.Contents (Elt Ideal))
    (p T : Pieces Ideal)
    (hT : T = tripPieces arg9.view arg10.view arg11.view (PW (F := Ideal) f512x1536 arg2 X2 (kSlab arg3 X3 1536 off inb))
      (arg9.view.writes (Elt Ideal) G9 p.1) (arg10.view.writes (Elt Ideal) G10 p.2.1) (arg11.view.writes (Elt Ideal) G11 p.2.2))
    (ih : Good Q kr (seen i (1536 * n)) (rd arg9.view G9 p.1) (rd arg10.view G10 p.2.1) (rd arg11.view G11 p.2.2)) :
    Good Q kr (seen i (1536 * (n + 1))) (rd arg9.view G9 (T.1 ++ p.1)) (rd arg10.view G10 (T.2.1 ++ p.2.1)) (rd arg11.view G11 (T.2.2 ++ p.2.2)) := by
  unfold rd
  rw [View.writes_append, View.writes_append, View.writes_append, hT]
  have h1 := stepped_trip arg9.view arg10.view arg11.view (arg9.view.writes (Elt Ideal) G9 p.1) (arg10.view.writes (Elt Ideal) G10 p.2.1)
    (arg11.view.writes (Elt Ideal) G11 p.2.2) (PW (F := Ideal) f512x1536 arg2 X2 (kSlab arg3 X3 1536 off inb))
  have h2 := good_full hQ f512x1536 (by norm_num) (kSlab_apply hK 1536 off inb (1536 * n) ho) (J := seen i (1536 * n)) (fun x j hj => by
    unfold seen diagKeys at hj
    rw [Finset.mem_union, Finset.mem_Ico, Finset.mem_Ico] at hj
    omega) ih h1
  exact h2.congr fun x j => by
    unfold seen diagKeys
    simp only [Finset.mem_union, Finset.mem_Ico, mem_keys_univ]
    omega

include hQ hK in
/-- The wide blocks' turns before `n`. -/
theorem turns_good (w : BitVec 32) (a : FVec Ideal S256x128 .f32) (b : FVec Ideal S256x256 .f32)
    (G9 : arg9.view.ty.Contents (Elt Ideal)) (G10 : arg10.view.ty.Contents (Elt Ideal)) (G11 : arg11.view.ty.Contents (Elt Ideal))
    (h : Good Q kr (seen i 0) (arg9.view.read (Elt Ideal) G9) (arg10.view.read (Elt Ideal) G10) (arg11.view.read (Elt Ideal) G11)) (n : ℕ)
    (hn : n ≤ (k0_t1_loop i).trips) :
    Good Q kr (seen i (1536 * n))
      (rd arg9.view G9 (pb_k0_t1 (F := Ideal) Variants.none c none i arg2 harg2 arg3 harg3 arg4 harg4 arg5 harg5 arg6 harg6 arg7 harg7 arg8 harg8 arg9 harg9 arg10 harg10 arg11 harg11 w a b X2 X3 G9 G10 G11 n).1)
      (rd arg10.view G10 (pb_k0_t1 (F := Ideal) Variants.none c none i arg2 harg2 arg3 harg3 arg4 harg4 arg5 harg5 arg6 harg6 arg7 harg7 arg8 harg8 arg9 harg9 arg10 harg10 arg11 harg11 w a b X2 X3 G9 G10 G11 n).2.1)
      (rd arg11.view G11 (pb_k0_t1 (F := Ideal) Variants.none c none i arg2 harg2 arg3 harg3 arg4 harg4 arg5 harg5 arg6 harg6 arg7 harg7 arg8 harg8 arg9 harg9 arg10 harg10 arg11 harg11 w a b X2 X3 G9 G10 G11 n).2.2) := by
  induction n with
  | zero => exact h
  | succ n ih =>
    have ih := ih (Nat.le_of_succ_le hn)
    have hlt : 3 * (n + 1) ≤ (i 1).val := by
      have := trips1_eq i
      omega
    obtain ⟨inb, ht⟩ := trip_eq (F := Ideal) Variants.none c none i arg2 harg2 arg3 harg3 arg4 harg4 arg5 harg5 arg6 harg6 arg7 harg7 arg8 harg8 arg9 harg9 arg10 harg10 arg11 harg11 w a b X2 X3 ⟨n, hn⟩
      (arg9.view.writes (Elt Ideal) G9 (pb_k0_t1 (F := Ideal) Variants.none c none i arg2 harg2 arg3 harg3 arg4 harg4 arg5 harg5 arg6 harg6 arg7 harg7 arg8 harg8 arg9 harg9 arg10 harg10 arg11 harg11 w a b X2 X3 G9 G10 G11 n).1)
      (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 w a b X2 X3 G9 G10 G11 n).2.1)
      (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 w a b X2 X3 G9 G10 G11 n).2.2)
    have := turn_good i arg2 arg3 arg9 arg10 arg11 hQ hK n hlt (k0_off3 i ⟨n, hn⟩) inb (off3_eq i ⟨n, hn⟩) G9 G10 G11 _ _ ht ih
    rw [pb_k0_t1_succ (F := Ideal) Variants.none c none i arg2 harg2 arg3 harg3 arg4 harg4 arg5 harg5 arg6 harg6 arg7 harg7 arg8 harg8 arg9 harg9 arg10 harg10 arg11 harg11 w a b X2 X3 G9 G10 G11 ⟨n, hn⟩]
    exact this

include hQ hK in
theorem wide1_good (a : FVec Ideal S256x128 .f32) (b : FVec Ideal S256x256 .f32) (L : Pieces Ideal)
    (h : St Q kr arg9.view arg10.view arg11.view L (seen i 0)) :
    St Q kr arg9.view arg10.view arg11.view (wide1 (F := Ideal) c i arg2 harg2 arg3 harg3 arg4 harg4 arg5 harg5 arg6 harg6 arg7 harg7 arg8 harg8 arg9 harg9 arg10 harg10 arg11 harg11 a b X2 X3 L) (seen i (1536 * ((i 1).val / 3))) := by
  have := turns_good c i arg2 harg2 arg3 harg3 arg4 harg4 arg5 harg5 arg6 harg6 arg7 harg7 arg8 harg8 arg9 harg9 arg10 harg10 arg11 harg11 hQ hK (BitVec.ofNat 32 (i 1).val) a b _ _ _ h (k0_t1_loop i).trips le_rfl
  rw [trips1_eq] at this
  unfold St wide1
  dsimp only [rd]
  rw [View.writes_append, View.writes_append, View.writes_append]
  have e : Scf.trips (k0_t1_loop i).lb (k0_t1_loop i).ub (k0_t1_loop i).st = (i 1).val / 3 := trips1_eq i
  rw [e]
  exact this

theorem wide2_good (a : FVec Ideal S256x128 .f32) (b : FVec Ideal S256x256 .f32) (w : BitVec 32) (L : Pieces Ideal) (J : Fin 512 → Finset ℕ)
    (h : St Q kr arg9.view arg10.view arg11.view L J) :
    St Q kr arg9.view arg10.view arg11.view (wide2 (F := Ideal) c i arg2 harg2 arg3 harg3 arg4 harg4 arg5 harg5 arg6 harg6 arg7 harg7 arg8 harg8 arg9 harg9 arg10 harg10 arg11 harg11 a b w X2 X3 L) J := by
  have e : Scf.trips (k0_t2_loop i).lb (k0_t2_loop i).ub (k0_t2_loop i).st = 0 := trips2_eq i
  unfold St wide2
  dsimp only [rd]
  rw [e]
  exact h

include hQ hK in
theorem endA_good (a : FVec Ideal S256x128 .f32) (b : FVec Ideal S256x256 .f32) (w : BitVec 32) :
    St Q kr arg9.view arg10.view arg11.view (endA (F := Ideal) c i arg2 harg2 arg3 harg3 arg4 harg4 arg5 harg5 arg6 harg6 arg7 harg7 arg8 harg8 arg9 harg9 arg10 harg10 arg11 harg11 a b w X2 X3) (seen i (1536 * ((i 1).val / 3))) :=
  wide2_good c i arg2 harg2 arg3 harg3 arg4 harg4 arg5 harg5 arg6 harg6 arg7 harg7 arg8 harg8 arg9 harg9 arg10 harg10 arg11 harg11 a b w _ _ (wide1_good c i arg2 harg2 arg3 harg3 arg4 harg4 arg5 harg5 arg6 harg6 arg7 harg7 arg8 harg8 arg9 harg9 arg10 harg10 arg11 harg11 hQ hK a b _ (diag_good i arg2 arg3 arg9 arg10 arg11 hQ hK))

include hQ hK in
theorem full_good (off : Fin 3 → ℕ) (inb) (e : ℕ) (he : off = ![0, e, 0]) (hle : e + 512 ≤ 512 * (i 1).val) (L : Pieces Ideal)
    (h : St Q kr arg9.view arg10.view arg11.view L (seen i e)) :
    St Q kr arg9.view arg10.view arg11.view (fullPieces (F := Ideal) arg2 arg9 arg10 arg11 X2 (kSlab arg3 X3 512 off inb) L) (seen i (e + 512)) := by
  have h1 := stepped_later arg9.view arg10.view arg11.view arg9.view.junk arg10.view.junk arg11.view.junk hlo0
    (PW (F := Ideal) f512x512 arg2 X2 (kSlab arg3 X3 512 off inb)) L 16 le_rfl
  have h2 := good_full hQ f512x512 (by norm_num) (kSlab_apply hK 512 off inb e he) (J := seen i e) (fun x j hj => by
    unfold seen diagKeys at hj
    rw [Finset.mem_union, Finset.mem_Ico, Finset.mem_Ico] at hj
    omega) h h1
  exact h2.congr fun x j => by
    unfold seen diagKeys
    simp only [Finset.mem_union, Finset.mem_Ico, mem_keys_univ]
    omega

/-- The attention of one row over the reals: the values of the keys `J`, weighted. -/
def attn (s : ℕ → ℝ) (v : ℕ → Fin 128 → ℝ) (J : Finset ℕ) (t : Fin 128) : ℝ := (∑ j ∈ J, p2 (s j) * v j t) / ∑ j ∈ J, p2 (s j)

theorem attn_shift (s : ℕ → ℝ) (v : ℕ → Fin 128 → ℝ) (J : Finset ℕ) (M : ℝ) (t : Fin 128) :
    (∑ j ∈ J, p2 (s j - M) * v j t) / ∑ j ∈ J, p2 (s j - M) = attn s v J t := by
  have e : ∀ j, p2 (s j - M) = p2 (-M) * p2 (s j) := fun j => by rw [← p2_add]; ring_nf
  unfold attn
  simp only [e, mul_assoc, ← Finset.mul_sum]
  exact mul_div_mul_left _ _ (p2_pos _).ne'

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The invariant's quotient of accumulator by sum. -/
theorem Inv.quot {s : ℕ → ℝ} {v : ℕ → Fin 128 → ℝ} {J : Finset ℕ} {m l a : Fin 128 → EReal} (h : Inv s v J m l a) (hJ : J.Nonempty) (t : Fin 128) :
    Ideal.div (a t) (l t) = ((attn s v J t : ℝ) : EReal) := by
  obtain ⟨M, hM⟩ := h
  rw [(hM t).2.1, (hM t).2.2, div_real _ _ (Finset.sum_pos (fun j _ => p2_pos _) hJ).ne', attn_shift]

/-- What the output block holds at row `r`, head `n`, lane `t`. -/
theorem out_read (v : View sig .tc .vmem S1x512x2048 .bf16) (f : v.ty.Contents (Elt Ideal)) (v9 v10 v11 : View sig .tc .vmem S8192x128 .f32) (L : Pieces Ideal)
    (J : Fin 512 → Finset ℕ) (h : St Q kr v9 v10 v11 L J) (hJ : ∀ x, (J x).Nonempty) (n : Fin 16) (r : Fin 512) (t : Fin 128) :
    (v.read (Elt Ideal) (v.writes (Elt Ideal) f (outPieces v9 v10 v11 L 16 le_rfl))
      (ix3 (0 : Fin 1) r (⟨n.val * 128 + t.val, by omega⟩ : Fin 2048)) : EReal) = ((attn (sc (Q n r) kr) (vl kr) (J r) t : ℝ) : EReal) := by
  unfold outPieces
  rw [View.read_tilePieces v f _ _ _ _ 16 le_rfl _ n n.isLt (ix3 (0 : Fin 1) r t) (by
    intro a
    fin_cases a
    · rfl
    · show r.val = 0 + r.val; omega
    · rfl) (2 : Fin 3) (by
    intro i' hi'
    have : i'.val ≠ n.val := fun e => hi' (Fin.ext e)
    show n.val * 128 + t.val < i'.val * 128 ∨ i'.val * 128 + 128 ≤ n.val * 128 + t.val
    omega)]
  rw [readAt_rows, readAt_rows]
  unfold outVal
  rw [shapeCast_apply _ _ _ (ix2 r t) (by
    rw [rowMajor_val3 _ (512 * 128) 128 rfl rfl, rowMajor_val2 _ 128 rfl]
    show r.val * 128 + t.val = 0 * (512 * 128) + r.val * 128 + t.val
    omega)]
  refine Eq.trans ?_ ((h n r).quot (hJ r) t)
  have hr : r = ⟨0 + r.val, by omega⟩ := Fin.ext (by show r.val = 0 + r.val; omega)
  show Ideal.div (rd v11 v11.junk L.2.2 (row n ⟨0 + r.val, _⟩ t)) (rd v10 v10.junk L.2.1 (row n ⟨0 + r.val, _⟩ t)) = _
  rw [← hr]

theorem seen_full (e : ℕ) (he : e = 512 * (i 1).val) (x : Fin 512) : seen i e x = Finset.range (512 * (i 1).val + x.val + 1) := by
  ext j
  unfold seen diagKeys
  rw [Finset.mem_union, Finset.mem_Ico, Finset.mem_Ico, Finset.mem_range]
  omega

end Cert.Attn

end
-- ==== Proof.RunA.lean ====
module

public import proofs.«01_k».proof.Proof.Lists

@[expose] public section

set_option maxHeartbeats 1000000
set_option maxRecDepth 5000

noncomputable section

namespace Cert.Attn

open Idealize.ShloMosaic Idealize.SL.Sem Cert.KernelIdeal Cert.KernelIdeal.Gen

variable {F : FTy → Type} [FloatOps F] [Named F]

variable (c : Dev nD) (i : grid0.Coords)
  (arg2 : Memref sig .tc .vmem S1x16x512x256 .bf16) (harg2 : arg2.IsWhole) (arg3 : Memref sig .tc .vmem S1x4096x256 .bf16) (harg3 : arg3.IsWhole) (arg4 : Memref sig .tc .vmem S1x16x4096 .f32) (harg4 : arg4.IsWhole) (arg5 : Memref sig .tc .vmem S1x64x1024 .f32) (harg5 : arg5.IsWhole) (arg6 : Memref sig .tc .vmem S1x512x2048 .bf16) (harg6 : arg6.IsWhole) (arg7 : Memref sig .tc .vmem S16x4096 .bf16) (harg7 : arg7.IsWhole) (arg8 : Memref sig .tc .vmem S64x1024 .bf16) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x128 .f32) (harg11 : arg11.IsWhole)

  (x0 : Vec F S1x16x512x256 .bf16) (x1 : Vec F S1x4096x256 .bf16)

theorem firstA0 : (firstPieces hlo0 (P1 arg2 (harg2.unread x0) (kSlab arg3 (harg3.unread x1) 256 (k0_off1 i) (k0_off1_inb i))) 16 le_rfl).1 = kernelRun0_A.sl.HS0_16 c i arg2 harg2 arg3 harg3 x0 x1 := by
  rw [firstList0]
  dsimp only [P1, first]
  exact rfl

theorem firstA1 : (firstPieces hlo0 (P1 arg2 (harg2.unread x0) (kSlab arg3 (harg3.unread x1) 256 (k0_off1 i) (k0_off1_inb i))) 16 le_rfl).2.1 = kernelRun0_A.sl.HS1_16 c i arg2 harg2 arg3 harg3 x0 x1 := by
  rw [firstList1]
  dsimp only [P1, first]
  exact rfl

theorem firstA2 : (firstPieces hlo0 (P1 arg2 (harg2.unread x0) (kSlab arg3 (harg3.unread x1) 256 (k0_off1 i) (k0_off1_inb i))) 16 le_rfl).2.2 = kernelRun0_A.sl.HS2_16 c i arg2 harg2 arg3 harg3 x0 x1 := by
  rw [firstList2]
  dsimp only [P1, first]
  exact rfl

/-- The diagonal's two blocks' pieces. -/
theorem diagA : diagPieces i arg2 arg3 arg9 arg10 arg11 (harg2.unread x0) (harg3.unread x1) = (kernelRun0_A.sl.HS0_32 c i arg2 harg2 arg3 harg3 arg9 x0 x1, kernelRun0_A.sl.HS1_32 c i arg2 harg2 arg3 harg3 arg9 arg10 x0 x1, kernelRun0_A.sl.HS2_32 c i arg2 harg2 arg3 harg3 arg9 arg11 x0 x1) := by
  unfold diagPieces
  refine later_step (kernelRun0_A.sl.HS0_31 c i arg2 harg2 arg3 harg3 arg9 x0 x1) (kernelRun0_A.sl.HS1_31 c i arg2 harg2 arg3 harg3 arg9 arg10 x0 x1) (kernelRun0_A.sl.HS2_31 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_30 c i arg2 harg2 arg3 harg3 arg9 x0 x1) (kernelRun0_A.sl.HS1_30 c i arg2 harg2 arg3 harg3 arg9 arg10 x0 x1) (kernelRun0_A.sl.HS2_30 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_29 c i arg2 harg2 arg3 harg3 arg9 x0 x1) (kernelRun0_A.sl.HS1_29 c i arg2 harg2 arg3 harg3 arg9 arg10 x0 x1) (kernelRun0_A.sl.HS2_29 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_28 c i arg2 harg2 arg3 harg3 arg9 x0 x1) (kernelRun0_A.sl.HS1_28 c i arg2 harg2 arg3 harg3 arg9 arg10 x0 x1) (kernelRun0_A.sl.HS2_28 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_27 c i arg2 harg2 arg3 harg3 arg9 x0 x1) (kernelRun0_A.sl.HS1_27 c i arg2 harg2 arg3 harg3 arg9 arg10 x0 x1) (kernelRun0_A.sl.HS2_27 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_26 c i arg2 harg2 arg3 harg3 arg9 x0 x1) (kernelRun0_A.sl.HS1_26 c i arg2 harg2 arg3 harg3 arg9 arg10 x0 x1) (kernelRun0_A.sl.HS2_26 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_25 c i arg2 harg2 arg3 harg3 arg9 x0 x1) (kernelRun0_A.sl.HS1_25 c i arg2 harg2 arg3 harg3 arg9 arg10 x0 x1) (kernelRun0_A.sl.HS2_25 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_24 c i arg2 harg2 arg3 harg3 arg9 x0 x1) (kernelRun0_A.sl.HS1_24 c i arg2 harg2 arg3 harg3 arg9 arg10 x0 x1) (kernelRun0_A.sl.HS2_24 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_23 c i arg2 harg2 arg3 harg3 arg9 x0 x1) (kernelRun0_A.sl.HS1_23 c i arg2 harg2 arg3 harg3 arg9 arg10 x0 x1) (kernelRun0_A.sl.HS2_23 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_22 c i arg2 harg2 arg3 harg3 arg9 x0 x1) (kernelRun0_A.sl.HS1_22 c i arg2 harg2 arg3 harg3 arg9 arg10 x0 x1) (kernelRun0_A.sl.HS2_22 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_21 c i arg2 harg2 arg3 harg3 arg9 x0 x1) (kernelRun0_A.sl.HS1_21 c i arg2 harg2 arg3 harg3 arg9 arg10 x0 x1) (kernelRun0_A.sl.HS2_21 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_20 c i arg2 harg2 arg3 harg3 arg9 x0 x1) (kernelRun0_A.sl.HS1_20 c i arg2 harg2 arg3 harg3 arg9 arg10 x0 x1) (kernelRun0_A.sl.HS2_20 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_19 c i arg2 harg2 arg3 harg3 arg9 x0 x1) (kernelRun0_A.sl.HS1_19 c i arg2 harg2 arg3 harg3 arg9 arg10 x0 x1) (kernelRun0_A.sl.HS2_19 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_18 c i arg2 harg2 arg3 harg3 arg9 x0 x1) (kernelRun0_A.sl.HS1_18 c i arg2 harg2 arg3 harg3 arg9 arg10 x0 x1) (kernelRun0_A.sl.HS2_18 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_17 c i arg2 harg2 arg3 harg3 arg9 x0 x1) (kernelRun0_A.sl.HS1_17 c i arg2 harg2 arg3 harg3 arg9 arg10 x0 x1) (kernelRun0_A.sl.HS2_17 c i arg2 harg2 arg3 harg3 arg9 arg11 x0 x1) ?_ (by dsimp only [headStep, P2, later]; exact rfl) (by dsimp only [headStep, P2, later]; exact rfl) (by dsimp only [headStep, P2, later]; exact rfl)
  refine later_step (kernelRun0_A.sl.HS0_16 c i arg2 harg2 arg3 harg3 x0 x1) (kernelRun0_A.sl.HS1_16 c i arg2 harg2 arg3 harg3 x0 x1) (kernelRun0_A.sl.HS2_16 c i arg2 harg2 arg3 harg3 x0 x1) ?_ (by dsimp only [headStep, P2, later]; exact rfl) (by dsimp only [headStep, P2, later]; exact rfl) (by dsimp only [headStep, P2, later]; exact rfl)
  exact Prod.ext (firstA0 ..) (Prod.ext (firstA1 ..) (firstA2 ..))

/-- What a point stores in the attention's block. -/
theorem runA_eq (hc0 : ¬cond0_0 i) (hc1 : ¬cond0_1 i) (x2 : Vec F S1x16x4096 .f32) (x3 : Vec F S1x64x1024 .f32) :
    ∃ a b w, (kernelRun0_A c i arg2 harg2 arg3 harg3 arg4 harg4 arg5 harg5 arg6 harg6 arg7 harg7 arg8 harg8 arg9 harg9 arg10 harg10 arg11 harg11 hc0 hc1 x0 x1 x2 x3).1
      = outPieces arg9.view arg10.view arg11.view (endA c i arg2 harg2 arg3 harg3 arg4 harg4 arg5 harg5 arg6 harg6 arg7 harg7 arg8 harg8 arg9 harg9 arg10 harg10 arg11 harg11 a b w (harg2.unread x0) (harg3.unread x1)) 16 le_rfl := by
  refine ⟨kernelRun0_A.sl.r_90 c i arg2 harg2 arg3 harg3 arg9 x0 x1, kernelRun0_A.sl.r_91 c i arg2 harg2 arg3 harg3 arg9 x0 x1, kernelRun0_A.sl.v1122 i, ?_⟩
  unfold endA outPieces
  rw [diagA, outList]
  unfold kernelRun0_A
  dsimp only [outVal, wide1, wide2]
  exact rfl

end Cert.Attn

end
-- ==== Proof.RunB.lean ====
module

public import proofs.«01_k».proof.Proof.Lists

@[expose] public section

set_option maxHeartbeats 1000000
set_option maxRecDepth 5000

noncomputable section

namespace Cert.Attn

open Idealize.ShloMosaic Idealize.SL.Sem Cert.KernelIdeal Cert.KernelIdeal.Gen

variable {F : FTy → Type} [FloatOps F] [Named F]

variable (c : Dev nD) (i : grid0.Coords)
  (arg2 : Memref sig .tc .vmem S1x16x512x256 .bf16) (harg2 : arg2.IsWhole) (arg3 : Memref sig .tc .vmem S1x4096x256 .bf16) (harg3 : arg3.IsWhole) (arg4 : Memref sig .tc .vmem S1x16x4096 .f32) (harg4 : arg4.IsWhole) (arg5 : Memref sig .tc .vmem S1x64x1024 .f32) (harg5 : arg5.IsWhole) (arg6 : Memref sig .tc .vmem S1x512x2048 .bf16) (harg6 : arg6.IsWhole) (arg7 : Memref sig .tc .vmem S16x4096 .bf16) (harg7 : arg7.IsWhole) (arg8 : Memref sig .tc .vmem S64x1024 .bf16) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x128 .f32) (harg11 : arg11.IsWhole)

  (x0 : Vec F S1x16x512x256 .bf16) (x1 : Vec F S1x4096x256 .bf16)

theorem firstB0 : (firstPieces hlo0 (P1 arg2 (harg2.unread x0) (kSlab arg3 (harg3.unread x1) 256 (k0_off1 i) (k0_off1_inb i))) 16 le_rfl).1 = kernelRun0_B.sl.HS0_16 c i arg2 harg2 arg3 harg3 x0 x1 := by
  rw [firstList0]
  dsimp only [P1, first]
  exact rfl

theorem firstB1 : (firstPieces hlo0 (P1 arg2 (harg2.unread x0) (kSlab arg3 (harg3.unread x1) 256 (k0_off1 i) (k0_off1_inb i))) 16 le_rfl).2.1 = kernelRun0_B.sl.HS1_16 c i arg2 harg2 arg3 harg3 x0 x1 := by
  rw [firstList1]
  dsimp only [P1, first]
  exact rfl

theorem firstB2 : (firstPieces hlo0 (P1 arg2 (harg2.unread x0) (kSlab arg3 (harg3.unread x1) 256 (k0_off1 i) (k0_off1_inb i))) 16 le_rfl).2.2 = kernelRun0_B.sl.HS2_16 c i arg2 harg2 arg3 harg3 x0 x1 := by
  rw [firstList2]
  dsimp only [P1, first]
  exact rfl

/-- The diagonal's two blocks' pieces. -/
theorem diagB : diagPieces i arg2 arg3 arg9 arg10 arg11 (harg2.unread x0) (harg3.unread x1) = (kernelRun0_B.sl.HS0_32 c i arg2 harg2 arg3 harg3 arg9 x0 x1, kernelRun0_B.sl.HS1_32 c i arg2 harg2 arg3 harg3 arg9 arg10 x0 x1, kernelRun0_B.sl.HS2_32 c i arg2 harg2 arg3 harg3 arg9 arg11 x0 x1) := by
  unfold diagPieces
  refine later_step (kernelRun0_B.sl.HS0_31 c i arg2 harg2 arg3 harg3 arg9 x0 x1) (kernelRun0_B.sl.HS1_31 c i arg2 harg2 arg3 harg3 arg9 arg10 x0 x1) (kernelRun0_B.sl.HS2_31 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_30 c i arg2 harg2 arg3 harg3 arg9 x0 x1) (kernelRun0_B.sl.HS1_30 c i arg2 harg2 arg3 harg3 arg9 arg10 x0 x1) (kernelRun0_B.sl.HS2_30 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_29 c i arg2 harg2 arg3 harg3 arg9 x0 x1) (kernelRun0_B.sl.HS1_29 c i arg2 harg2 arg3 harg3 arg9 arg10 x0 x1) (kernelRun0_B.sl.HS2_29 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_28 c i arg2 harg2 arg3 harg3 arg9 x0 x1) (kernelRun0_B.sl.HS1_28 c i arg2 harg2 arg3 harg3 arg9 arg10 x0 x1) (kernelRun0_B.sl.HS2_28 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_27 c i arg2 harg2 arg3 harg3 arg9 x0 x1) (kernelRun0_B.sl.HS1_27 c i arg2 harg2 arg3 harg3 arg9 arg10 x0 x1) (kernelRun0_B.sl.HS2_27 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_26 c i arg2 harg2 arg3 harg3 arg9 x0 x1) (kernelRun0_B.sl.HS1_26 c i arg2 harg2 arg3 harg3 arg9 arg10 x0 x1) (kernelRun0_B.sl.HS2_26 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_25 c i arg2 harg2 arg3 harg3 arg9 x0 x1) (kernelRun0_B.sl.HS1_25 c i arg2 harg2 arg3 harg3 arg9 arg10 x0 x1) (kernelRun0_B.sl.HS2_25 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_24 c i arg2 harg2 arg3 harg3 arg9 x0 x1) (kernelRun0_B.sl.HS1_24 c i arg2 harg2 arg3 harg3 arg9 arg10 x0 x1) (kernelRun0_B.sl.HS2_24 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_23 c i arg2 harg2 arg3 harg3 arg9 x0 x1) (kernelRun0_B.sl.HS1_23 c i arg2 harg2 arg3 harg3 arg9 arg10 x0 x1) (kernelRun0_B.sl.HS2_23 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_22 c i arg2 harg2 arg3 harg3 arg9 x0 x1) (kernelRun0_B.sl.HS1_22 c i arg2 harg2 arg3 harg3 arg9 arg10 x0 x1) (kernelRun0_B.sl.HS2_22 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_21 c i arg2 harg2 arg3 harg3 arg9 x0 x1) (kernelRun0_B.sl.HS1_21 c i arg2 harg2 arg3 harg3 arg9 arg10 x0 x1) (kernelRun0_B.sl.HS2_21 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_20 c i arg2 harg2 arg3 harg3 arg9 x0 x1) (kernelRun0_B.sl.HS1_20 c i arg2 harg2 arg3 harg3 arg9 arg10 x0 x1) (kernelRun0_B.sl.HS2_20 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_19 c i arg2 harg2 arg3 harg3 arg9 x0 x1) (kernelRun0_B.sl.HS1_19 c i arg2 harg2 arg3 harg3 arg9 arg10 x0 x1) (kernelRun0_B.sl.HS2_19 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_18 c i arg2 harg2 arg3 harg3 arg9 x0 x1) (kernelRun0_B.sl.HS1_18 c i arg2 harg2 arg3 harg3 arg9 arg10 x0 x1) (kernelRun0_B.sl.HS2_18 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_17 c i arg2 harg2 arg3 harg3 arg9 x0 x1) (kernelRun0_B.sl.HS1_17 c i arg2 harg2 arg3 harg3 arg9 arg10 x0 x1) (kernelRun0_B.sl.HS2_17 c i arg2 harg2 arg3 harg3 arg9 arg11 x0 x1) ?_ (by dsimp only [headStep, P2, later]; exact rfl) (by dsimp only [headStep, P2, later]; exact rfl) (by dsimp only [headStep, P2, later]; exact rfl)
  refine later_step (kernelRun0_B.sl.HS0_16 c i arg2 harg2 arg3 harg3 x0 x1) (kernelRun0_B.sl.HS1_16 c i arg2 harg2 arg3 harg3 x0 x1) (kernelRun0_B.sl.HS2_16 c i arg2 harg2 arg3 harg3 x0 x1) ?_ (by dsimp only [headStep, P2, later]; exact rfl) (by dsimp only [headStep, P2, later]; exact rfl) (by dsimp only [headStep, P2, later]; exact rfl)
  exact Prod.ext (firstB0 ..) (Prod.ext (firstB1 ..) (firstB2 ..))

/-- The first conditional block's pieces. -/
theorem fullB (hc0 : cond0_0 i) : ∃ a, fullPieces arg2 arg9 arg10 arg11 (harg2.unread x0) (kSlab arg3 (harg3.unread x1) 512 (k0_off5 i) (k0_off5_inb i hc0)) (wide2 c i arg2 harg2 arg3 harg3 arg4 harg4 arg5 harg5 arg6 harg6 arg7 harg7 arg8 harg8 arg9 harg9 arg10 harg10 arg11 harg11 (kernelRun0_B.sl.r_90 c i arg2 harg2 arg3 harg3 arg9 x0 x1) (kernelRun0_B.sl.r_91 c i arg2 harg2 arg3 harg3 arg9 x0 x1) (kernelRun0_B.sl.v1122 i) (harg2.unread x0) (harg3.unread x1) (wide1 c i arg2 harg2 arg3 harg3 arg4 harg4 arg5 harg5 arg6 harg6 arg7 harg7 arg8 harg8 arg9 harg9 arg10 harg10 arg11 harg11 (kernelRun0_B.sl.r_90 c i arg2 harg2 arg3 harg3 arg9 x0 x1) (kernelRun0_B.sl.r_91 c i arg2 harg2 arg3 harg3 arg9 x0 x1) (harg2.unread x0) (harg3.unread x1) (kernelRun0_B.sl.HS0_32 c i arg2 harg2 arg3 harg3 arg9 x0 x1, kernelRun0_B.sl.HS1_32 c i arg2 harg2 arg3 harg3 arg9 arg10 x0 x1, kernelRun0_B.sl.HS2_32 c i arg2 harg2 arg3 harg3 arg9 arg11 x0 x1))) = (a, kernelRun0_B.sl.HS1_16_1 c i arg2 harg2 arg3 harg3 arg4 harg4 arg5 harg5 arg6 harg6 arg7 harg7 arg8 harg8 arg9 harg9 arg10 harg10 arg11 harg11 hc0 x0 x1, kernelRun0_B.sl.HS2_16_1 c i arg2 harg2 arg3 harg3 arg4 harg4 arg5 harg5 arg6 harg6 arg7 harg7 arg8 harg8 arg9 harg9 arg10 harg10 arg11 harg11 hc0 x0 x1) := by
  unfold fullPieces
  refine ⟨_, later_step (kernelRun0_B.sl.HS0_15 c i arg2 harg2 arg3 harg3 arg4 harg4 arg5 harg5 arg6 harg6 arg7 harg7 arg8 harg8 arg9 harg9 arg10 harg10 arg11 harg11 hc0 x0 x1) (kernelRun0_B.sl.HS1_15 c i arg2 harg2 arg3 harg3 arg4 harg4 arg5 harg5 arg6 harg6 arg7 harg7 arg8 harg8 arg9 harg9 arg10 harg10 arg11 harg11 hc0 x0 x1) (kernelRun0_B.sl.HS2_15 c i arg2 harg2 arg3 harg3 arg4 harg4 arg5 harg5 arg6 harg6 arg7 harg7 arg8 harg8 arg9 harg9 arg10 harg10 arg11 harg11 hc0 x0 x1) ?_ rfl (by dsimp only [headStep, PW, later]; exact rfl) (by dsimp only [headStep, PW, later]; exact rfl)⟩
  refine later_step (kernelRun0_B.sl.HS0_14 c i arg2 harg2 arg3 harg3 arg4 harg4 arg5 harg5 arg6 harg6 arg7 harg7 arg8 harg8 arg9 harg9 arg10 harg10 arg11 harg11 hc0 x0 x1) (kernelRun0_B.sl.HS1_14 c i arg2 harg2 arg3 harg3 arg4 harg4 arg5 harg5 arg6 harg6 arg7 harg7 arg8 harg8 arg9 harg9 arg10 harg10 arg11 harg11 hc0 x0 x1) (kernelRun0_B.sl.HS2_14 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_13 c i arg2 harg2 arg3 harg3 arg4 harg4 arg5 harg5 arg6 harg6 arg7 harg7 arg8 harg8 arg9 harg9 arg10 harg10 arg11 harg11 hc0 x0 x1) (kernelRun0_B.sl.HS1_13 c i arg2 harg2 arg3 harg3 arg4 harg4 arg5 harg5 arg6 harg6 arg7 harg7 arg8 harg8 arg9 harg9 arg10 harg10 arg11 harg11 hc0 x0 x1) (kernelRun0_B.sl.HS2_13 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_12 c i arg2 harg2 arg3 harg3 arg4 harg4 arg5 harg5 arg6 harg6 arg7 harg7 arg8 harg8 arg9 harg9 arg10 harg10 arg11 harg11 hc0 x0 x1) (kernelRun0_B.sl.HS1_12 c i arg2 harg2 arg3 harg3 arg4 harg4 arg5 harg5 arg6 harg6 arg7 harg7 arg8 harg8 arg9 harg9 arg10 harg10 arg11 harg11 hc0 x0 x1) (kernelRun0_B.sl.HS2_12 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_11 c i arg2 harg2 arg3 harg3 arg4 harg4 arg5 harg5 arg6 harg6 arg7 harg7 arg8 harg8 arg9 harg9 arg10 harg10 arg11 harg11 hc0 x0 x1) (kernelRun0_B.sl.HS1_11 c i arg2 harg2 arg3 harg3 arg4 harg4 arg5 harg5 arg6 harg6 arg7 harg7 arg8 harg8 arg9 harg9 arg10 harg10 arg11 harg11 hc0 x0 x1) (kernelRun0_B.sl.HS2_11 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_10 c i arg2 harg2 arg3 harg3 arg4 harg4 arg5 harg5 arg6 harg6 arg7 harg7 arg8 harg8 arg9 harg9 arg10 harg10 arg11 harg11 hc0 x0 x1) (kernelRun0_B.sl.HS1_10 c i arg2 harg2 arg3 harg3 arg4 harg4 arg5 harg5 arg6 harg6 arg7 harg7 arg8 harg8 arg9 harg9 arg10 harg10 arg11 harg11 hc0 x0 x1) (kernelRun0_B.sl.HS2_10 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_9 c i arg2 harg2 arg3 harg3 arg4 harg4 arg5 harg5 arg6 harg6 arg7 harg7 arg8 harg8 arg9 harg9 arg10 harg10 arg11 harg11 hc0 x0 x1) (kernelRun0_B.sl.HS1_9 c i arg2 harg2 arg3 harg3 arg4 harg4 arg5 harg5 arg6 harg6 arg7 harg7 arg8 harg8 arg9 harg9 arg10 harg10 arg11 harg11 hc0 x0 x1) (kernelRun0_B.sl.HS2_9 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_8 c i arg2 harg2 arg3 harg3 arg4 harg4 arg5 harg5 arg6 harg6 arg7 harg7 arg8 harg8 arg9 harg9 arg10 harg10 arg11 harg11 hc0 x0 x1) (kernelRun0_B.sl.HS1_8 c i arg2 harg2 arg3 harg3 arg4 harg4 arg5 harg5 arg6 harg6 arg7 harg7 arg8 harg8 arg9 harg9 arg10 harg10 arg11 harg11 hc0 x0 x1) (kernelRun0_B.sl.HS2_8 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_7 c i arg2 harg2 arg3 harg3 arg4 harg4 arg5 harg5 arg6 harg6 arg7 harg7 arg8 harg8 arg9 harg9 arg10 harg10 arg11 harg11 hc0 x0 x1) (kernelRun0_B.sl.HS1_7 c i arg2 harg2 arg3 harg3 arg4 harg4 arg5 harg5 arg6 harg6 arg7 harg7 arg8 harg8 arg9 harg9 arg10 harg10 arg11 harg11 hc0 x0 x1) (kernelRun0_B.sl.HS2_7 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_6 c i arg2 harg2 arg3 harg3 arg4 harg4 arg5 harg5 arg6 harg6 arg7 harg7 arg8 harg8 arg9 harg9 arg10 harg10 arg11 harg11 hc0 x0 x1) (kernelRun0_B.sl.HS1_6 c i arg2 harg2 arg3 harg3 arg4 harg4 arg5 harg5 arg6 harg6 arg7 harg7 arg8 harg8 arg9 harg9 arg10 harg10 arg11 harg11 hc0 x0 x1) (kernelRun0_B.sl.HS2_6 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_5 c i arg2 harg2 arg3 harg3 arg4 harg4 arg5 harg5 arg6 harg6 arg7 harg7 arg8 harg8 arg9 harg9 arg10 harg10 arg11 harg11 hc0 x0 x1) (kernelRun0_B.sl.HS1_5 c i arg2 harg2 arg3 harg3 arg4 harg4 arg5 harg5 arg6 harg6 arg7 harg7 arg8 harg8 arg9 harg9 arg10 harg10 arg11 harg11 hc0 x0 x1) (kernelRun0_B.sl.HS2_5 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_4 c i arg2 harg2 arg3 harg3 arg4 harg4 arg5 harg5 arg6 harg6 arg7 harg7 arg8 harg8 arg9 harg9 arg10 harg10 arg11 harg11 hc0 x0 x1) (kernelRun0_B.sl.HS1_4 c i arg2 harg2 arg3 harg3 arg4 harg4 arg5 harg5 arg6 harg6 arg7 harg7 arg8 harg8 arg9 harg9 arg10 harg10 arg11 harg11 hc0 x0 x1) (kernelRun0_B.sl.HS2_4 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_3 c i arg2 harg2 arg3 harg3 arg4 harg4 arg5 harg5 arg6 harg6 arg7 harg7 arg8 harg8 arg9 harg9 arg10 harg10 arg11 harg11 hc0 x0 x1) (kernelRun0_B.sl.HS1_3 c i arg2 harg2 arg3 harg3 arg4 harg4 arg5 harg5 arg6 harg6 arg7 harg7 arg8 harg8 arg9 harg9 arg10 harg10 arg11 harg11 hc0 x0 x1) (kernelRun0_B.sl.HS2_3 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_2 c i arg2 harg2 arg3 harg3 arg4 harg4 arg5 harg5 arg6 harg6 arg7 harg7 arg8 harg8 arg9 harg9 arg10 harg10 arg11 harg11 hc0 x0 x1) (kernelRun0_B.sl.HS1_2 c i arg2 harg2 arg3 harg3 arg4 harg4 arg5 harg5 arg6 harg6 arg7 harg7 arg8 harg8 arg9 harg9 arg10 harg10 arg11 harg11 hc0 x0 x1) (kernelRun0_B.sl.HS2_2 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_B.sl.HS0_1 c i arg2 harg2 arg3 harg3 arg4 harg4 arg5 harg5 arg6 harg6 arg7 harg7 arg8 harg8 arg9 harg9 arg10 harg10 arg11 harg11 hc0 x0 x1) (kernelRun0_B.sl.HS1_1 c i arg2 harg2 arg3 harg3 arg4 harg4 arg5 harg5 arg6 harg6 arg7 harg7 arg8 harg8 arg9 harg9 arg10 harg10 arg11 harg11 hc0 x0 x1) (kernelRun0_B.sl.HS2_1 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  exact later_step (wide2 c i arg2 harg2 arg3 harg3 arg4 harg4 arg5 harg5 arg6 harg6 arg7 harg7 arg8 harg8 arg9 harg9 arg10 harg10 arg11 harg11 (kernelRun0_B.sl.r_90 c i arg2 harg2 arg3 harg3 arg9 x0 x1) (kernelRun0_B.sl.r_91 c i arg2 harg2 arg3 harg3 arg9 x0 x1) (kernelRun0_B.sl.v1122 i) (harg2.unread x0) (harg3.unread x1) (wide1 c i arg2 harg2 arg3 harg3 arg4 harg4 arg5 harg5 arg6 harg6 arg7 harg7 arg8 harg8 arg9 harg9 arg10 harg10 arg11 harg11 (kernelRun0_B.sl.r_90 c i arg2 harg2 arg3 harg3 arg9 x0 x1) (kernelRun0_B.sl.r_91 c i arg2 harg2 arg3 harg3 arg9 x0 x1) (harg2.unread x0) (harg3.unread x1) (kernelRun0_B.sl.HS0_32 c i arg2 harg2 arg3 harg3 arg9 x0 x1, kernelRun0_B.sl.HS1_32 c i arg2 harg2 arg3 harg3 arg9 arg10 x0 x1, kernelRun0_B.sl.HS2_32 c i arg2 harg2 arg3 harg3 arg9 arg11 x0 x1))).1 (wide2 c i arg2 harg2 arg3 harg3 arg4 harg4 arg5 harg5 arg6 harg6 arg7 harg7 arg8 harg8 arg9 harg9 arg10 harg10 arg11 harg11 (kernelRun0_B.sl.r_90 c i arg2 harg2 arg3 harg3 arg9 x0 x1) (kernelRun0_B.sl.r_91 c i arg2 harg2 arg3 harg3 arg9 x0 x1) (kernelRun0_B.sl.v1122 i) (harg2.unread x0) (harg3.unread x1) (wide1 c i arg2 harg2 arg3 harg3 arg4 harg4 arg5 harg5 arg6 harg6 arg7 harg7 arg8 harg8 arg9 harg9 arg10 harg10 arg11 harg11 (kernelRun0_B.sl.r_90 c i arg2 harg2 arg3 harg3 arg9 x0 x1) (kernelRun0_B.sl.r_91 c i arg2 harg2 arg3 harg3 arg9 x0 x1) (harg2.unread x0) (harg3.unread x1) (kernelRun0_B.sl.HS0_32 c i arg2 harg2 arg3 harg3 arg9 x0 x1, kernelRun0_B.sl.HS1_32 c i arg2 harg2 arg3 harg3 arg9 arg10 x0 x1, kernelRun0_B.sl.HS2_32 c i arg2 harg2 arg3 harg3 arg9 arg11 x0 x1))).2.1 (wide2 c i arg2 harg2 arg3 harg3 arg4 harg4 arg5 harg5 arg6 harg6 arg7 harg7 arg8 harg8 arg9 harg9 arg10 harg10 arg11 harg11 (kernelRun0_B.sl.r_90 c i arg2 harg2 arg3 harg3 arg9 x0 x1) (kernelRun0_B.sl.r_91 c i arg2 harg2 arg3 harg3 arg9 x0 x1) (kernelRun0_B.sl.v1122 i) (harg2.unread x0) (harg3.unread x1) (wide1 c i arg2 harg2 arg3 harg3 arg4 harg4 arg5 harg5 arg6 harg6 arg7 harg7 arg8 harg8 arg9 harg9 arg10 harg10 arg11 harg11 (kernelRun0_B.sl.r_90 c i arg2 harg2 arg3 harg3 arg9 x0 x1) (kernelRun0_B.sl.r_91 c i arg2 harg2 arg3 harg3 arg9 x0 x1) (harg2.unread x0) (harg3.unread x1) (kernelRun0_B.sl.HS0_32 c i arg2 harg2 arg3 harg3 arg9 x0 x1, kernelRun0_B.sl.HS1_32 c i arg2 harg2 arg3 harg3 arg9 arg10 x0 x1, kernelRun0_B.sl.HS2_32 c i arg2 harg2 arg3 harg3 arg9 arg11 x0 x1))).2.2 rfl (by dsimp only [headStep, PW, later, wide1, wide2]; exact rfl) (by dsimp only [headStep, PW, later, wide1, wide2]; exact rfl) (by dsimp only [headStep, PW, later, wide1, wide2]; exact rfl)

/-- What a point stores in the attention's block. -/
theorem runB_eq (hc0 : cond0_0 i) (hc1 : ¬cond0_1 i) (x2 : Vec F S1x16x4096 .f32) (x3 : Vec F S1x64x1024 .f32) :
    ∃ a b w, (kernelRun0_B c i arg2 harg2 arg3 harg3 arg4 harg4 arg5 harg5 arg6 harg6 arg7 harg7 arg8 harg8 arg9 harg9 arg10 harg10 arg11 harg11 hc0 hc1 x0 x1 x2 x3).1
      = outPieces arg9.view arg10.view arg11.view (fullPieces arg2 arg9 arg10 arg11 (harg2.unread x0) (kSlab arg3 (harg3.unread x1) 512 (k0_off5 i) (k0_off5_inb i hc0)) (endA c i arg2 harg2 arg3 harg3 arg4 harg4 arg5 harg5 arg6 harg6 arg7 harg7 arg8 harg8 arg9 harg9 arg10 harg10 arg11 harg11 a b w (harg2.unread x0) (harg3.unread x1))) 16 le_rfl := by
  refine ⟨kernelRun0_B.sl.r_90 c i arg2 harg2 arg3 harg3 arg9 x0 x1, kernelRun0_B.sl.r_91 c i arg2 harg2 arg3 harg3 arg9 x0 x1, kernelRun0_B.sl.v1122 i, ?_⟩
  unfold endA outPieces
  rw [diagB, outList]
  obtain ⟨a, h⟩ := fullB c i arg2 harg2 arg3 harg3 arg4 harg4 arg5 harg5 arg6 harg6 arg7 harg7 arg8 harg8 arg9 harg9 arg10 harg10 arg11 harg11 x0 x1 hc0
  rw [h]
  unfold kernelRun0_B
  dsimp only [outVal, wide1, wide2]
  exact rfl

end Cert.Attn

end
-- ==== Proof.RunC.lean ====
module

public import proofs.«01_k».proof.Proof.Lists

@[expose] public section

set_option maxHeartbeats 1000000
set_option maxRecDepth 5000

noncomputable section

namespace Cert.Attn

open Idealize.ShloMosaic Idealize.SL.Sem Cert.KernelIdeal Cert.KernelIdeal.Gen

variable {F : FTy → Type} [FloatOps F] [Named F]

variable (c : Dev nD) (i : grid0.Coords)
  (arg2 : Memref sig .tc .vmem S1x16x512x256 .bf16) (harg2 : arg2.IsWhole) (arg3 : Memref sig .tc .vmem S1x4096x256 .bf16) (harg3 : arg3.IsWhole) (arg4 : Memref sig .tc .vmem S1x16x4096 .f32) (harg4 : arg4.IsWhole) (arg5 : Memref sig .tc .vmem S1x64x1024 .f32) (harg5 : arg5.IsWhole) (arg6 : Memref sig .tc .vmem S1x512x2048 .bf16) (harg6 : arg6.IsWhole) (arg7 : Memref sig .tc .vmem S16x4096 .bf16) (harg7 : arg7.IsWhole) (arg8 : Memref sig .tc .vmem S64x1024 .bf16) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x128 .f32) (harg11 : arg11.IsWhole)

  (x0 : Vec F S1x16x512x256 .bf16) (x1 : Vec F S1x4096x256 .bf16)

theorem firstC0 : (firstPieces hlo0 (P1 arg2 (harg2.unread x0) (kSlab arg3 (harg3.unread x1) 256 (k0_off1 i) (k0_off1_inb i))) 16 le_rfl).1 = kernelRun0_C.sl.HS0_16 c i arg2 harg2 arg3 harg3 x0 x1 := by
  rw [firstList0]
  dsimp only [P1, first]
  exact rfl

theorem firstC1 : (firstPieces hlo0 (P1 arg2 (harg2.unread x0) (kSlab arg3 (harg3.unread x1) 256 (k0_off1 i) (k0_off1_inb i))) 16 le_rfl).2.1 = kernelRun0_C.sl.HS1_16 c i arg2 harg2 arg3 harg3 x0 x1 := by
  rw [firstList1]
  dsimp only [P1, first]
  exact rfl

theorem firstC2 : (firstPieces hlo0 (P1 arg2 (harg2.unread x0) (kSlab arg3 (harg3.unread x1) 256 (k0_off1 i) (k0_off1_inb i))) 16 le_rfl).2.2 = kernelRun0_C.sl.HS2_16 c i arg2 harg2 arg3 harg3 x0 x1 := by
  rw [firstList2]
  dsimp only [P1, first]
  exact rfl

/-- The diagonal's two blocks' pieces. -/
theorem diagC : diagPieces i arg2 arg3 arg9 arg10 arg11 (harg2.unread x0) (harg3.unread x1) = (kernelRun0_C.sl.HS0_32 c i arg2 harg2 arg3 harg3 arg9 x0 x1, kernelRun0_C.sl.HS1_32 c i arg2 harg2 arg3 harg3 arg9 arg10 x0 x1, kernelRun0_C.sl.HS2_32 c i arg2 harg2 arg3 harg3 arg9 arg11 x0 x1) := by
  unfold diagPieces
  refine later_step (kernelRun0_C.sl.HS0_31 c i arg2 harg2 arg3 harg3 arg9 x0 x1) (kernelRun0_C.sl.HS1_31 c i arg2 harg2 arg3 harg3 arg9 arg10 x0 x1) (kernelRun0_C.sl.HS2_31 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_30 c i arg2 harg2 arg3 harg3 arg9 x0 x1) (kernelRun0_C.sl.HS1_30 c i arg2 harg2 arg3 harg3 arg9 arg10 x0 x1) (kernelRun0_C.sl.HS2_30 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_29 c i arg2 harg2 arg3 harg3 arg9 x0 x1) (kernelRun0_C.sl.HS1_29 c i arg2 harg2 arg3 harg3 arg9 arg10 x0 x1) (kernelRun0_C.sl.HS2_29 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_28 c i arg2 harg2 arg3 harg3 arg9 x0 x1) (kernelRun0_C.sl.HS1_28 c i arg2 harg2 arg3 harg3 arg9 arg10 x0 x1) (kernelRun0_C.sl.HS2_28 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_27 c i arg2 harg2 arg3 harg3 arg9 x0 x1) (kernelRun0_C.sl.HS1_27 c i arg2 harg2 arg3 harg3 arg9 arg10 x0 x1) (kernelRun0_C.sl.HS2_27 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_26 c i arg2 harg2 arg3 harg3 arg9 x0 x1) (kernelRun0_C.sl.HS1_26 c i arg2 harg2 arg3 harg3 arg9 arg10 x0 x1) (kernelRun0_C.sl.HS2_26 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_25 c i arg2 harg2 arg3 harg3 arg9 x0 x1) (kernelRun0_C.sl.HS1_25 c i arg2 harg2 arg3 harg3 arg9 arg10 x0 x1) (kernelRun0_C.sl.HS2_25 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_24 c i arg2 harg2 arg3 harg3 arg9 x0 x1) (kernelRun0_C.sl.HS1_24 c i arg2 harg2 arg3 harg3 arg9 arg10 x0 x1) (kernelRun0_C.sl.HS2_24 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_23 c i arg2 harg2 arg3 harg3 arg9 x0 x1) (kernelRun0_C.sl.HS1_23 c i arg2 harg2 arg3 harg3 arg9 arg10 x0 x1) (kernelRun0_C.sl.HS2_23 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_22 c i arg2 harg2 arg3 harg3 arg9 x0 x1) (kernelRun0_C.sl.HS1_22 c i arg2 harg2 arg3 harg3 arg9 arg10 x0 x1) (kernelRun0_C.sl.HS2_22 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_21 c i arg2 harg2 arg3 harg3 arg9 x0 x1) (kernelRun0_C.sl.HS1_21 c i arg2 harg2 arg3 harg3 arg9 arg10 x0 x1) (kernelRun0_C.sl.HS2_21 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_20 c i arg2 harg2 arg3 harg3 arg9 x0 x1) (kernelRun0_C.sl.HS1_20 c i arg2 harg2 arg3 harg3 arg9 arg10 x0 x1) (kernelRun0_C.sl.HS2_20 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_19 c i arg2 harg2 arg3 harg3 arg9 x0 x1) (kernelRun0_C.sl.HS1_19 c i arg2 harg2 arg3 harg3 arg9 arg10 x0 x1) (kernelRun0_C.sl.HS2_19 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_18 c i arg2 harg2 arg3 harg3 arg9 x0 x1) (kernelRun0_C.sl.HS1_18 c i arg2 harg2 arg3 harg3 arg9 arg10 x0 x1) (kernelRun0_C.sl.HS2_18 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_17 c i arg2 harg2 arg3 harg3 arg9 x0 x1) (kernelRun0_C.sl.HS1_17 c i arg2 harg2 arg3 harg3 arg9 arg10 x0 x1) (kernelRun0_C.sl.HS2_17 c i arg2 harg2 arg3 harg3 arg9 arg11 x0 x1) ?_ (by dsimp only [headStep, P2, later]; exact rfl) (by dsimp only [headStep, P2, later]; exact rfl) (by dsimp only [headStep, P2, later]; exact rfl)
  refine later_step (kernelRun0_C.sl.HS0_16 c i arg2 harg2 arg3 harg3 x0 x1) (kernelRun0_C.sl.HS1_16 c i arg2 harg2 arg3 harg3 x0 x1) (kernelRun0_C.sl.HS2_16 c i arg2 harg2 arg3 harg3 x0 x1) ?_ (by dsimp only [headStep, P2, later]; exact rfl) (by dsimp only [headStep, P2, later]; exact rfl) (by dsimp only [headStep, P2, later]; exact rfl)
  exact Prod.ext (firstC0 ..) (Prod.ext (firstC1 ..) (firstC2 ..))

/-- The first conditional block's pieces. -/
theorem fullC (hc0 : cond0_0 i) : fullPieces arg2 arg9 arg10 arg11 (harg2.unread x0) (kSlab arg3 (harg3.unread x1) 512 (k0_off5 i) (k0_off5_inb i hc0)) (wide2 c i arg2 harg2 arg3 harg3 arg4 harg4 arg5 harg5 arg6 harg6 arg7 harg7 arg8 harg8 arg9 harg9 arg10 harg10 arg11 harg11 (kernelRun0_C.sl.r_90 c i arg2 harg2 arg3 harg3 arg9 x0 x1) (kernelRun0_C.sl.r_91 c i arg2 harg2 arg3 harg3 arg9 x0 x1) (kernelRun0_C.sl.v1122 i) (harg2.unread x0) (harg3.unread x1) (wide1 c i arg2 harg2 arg3 harg3 arg4 harg4 arg5 harg5 arg6 harg6 arg7 harg7 arg8 harg8 arg9 harg9 arg10 harg10 arg11 harg11 (kernelRun0_C.sl.r_90 c i arg2 harg2 arg3 harg3 arg9 x0 x1) (kernelRun0_C.sl.r_91 c i arg2 harg2 arg3 harg3 arg9 x0 x1) (harg2.unread x0) (harg3.unread x1) (kernelRun0_C.sl.HS0_32 c i arg2 harg2 arg3 harg3 arg9 x0 x1, kernelRun0_C.sl.HS1_32 c i arg2 harg2 arg3 harg3 arg9 arg10 x0 x1, kernelRun0_C.sl.HS2_32 c i arg2 harg2 arg3 harg3 arg9 arg11 x0 x1))) = (kernelRun0_C.sl.HS0_16_1 c i arg2 harg2 arg3 harg3 arg4 harg4 arg5 harg5 arg6 harg6 arg7 harg7 arg8 harg8 arg9 harg9 arg10 harg10 arg11 harg11 hc0 x0 x1, kernelRun0_C.sl.HS1_16_1 c i arg2 harg2 arg3 harg3 arg4 harg4 arg5 harg5 arg6 harg6 arg7 harg7 arg8 harg8 arg9 harg9 arg10 harg10 arg11 harg11 hc0 x0 x1, kernelRun0_C.sl.HS2_16_1 c i arg2 harg2 arg3 harg3 arg4 harg4 arg5 harg5 arg6 harg6 arg7 harg7 arg8 harg8 arg9 harg9 arg10 harg10 arg11 harg11 hc0 x0 x1) := by
  unfold fullPieces
  refine later_step (kernelRun0_C.sl.HS0_15 c i arg2 harg2 arg3 harg3 arg4 harg4 arg5 harg5 arg6 harg6 arg7 harg7 arg8 harg8 arg9 harg9 arg10 harg10 arg11 harg11 hc0 x0 x1) (kernelRun0_C.sl.HS1_15 c i arg2 harg2 arg3 harg3 arg4 harg4 arg5 harg5 arg6 harg6 arg7 harg7 arg8 harg8 arg9 harg9 arg10 harg10 arg11 harg11 hc0 x0 x1) (kernelRun0_C.sl.HS2_15 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_14 c i arg2 harg2 arg3 harg3 arg4 harg4 arg5 harg5 arg6 harg6 arg7 harg7 arg8 harg8 arg9 harg9 arg10 harg10 arg11 harg11 hc0 x0 x1) (kernelRun0_C.sl.HS1_14 c i arg2 harg2 arg3 harg3 arg4 harg4 arg5 harg5 arg6 harg6 arg7 harg7 arg8 harg8 arg9 harg9 arg10 harg10 arg11 harg11 hc0 x0 x1) (kernelRun0_C.sl.HS2_14 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_13 c i arg2 harg2 arg3 harg3 arg4 harg4 arg5 harg5 arg6 harg6 arg7 harg7 arg8 harg8 arg9 harg9 arg10 harg10 arg11 harg11 hc0 x0 x1) (kernelRun0_C.sl.HS1_13 c i arg2 harg2 arg3 harg3 arg4 harg4 arg5 harg5 arg6 harg6 arg7 harg7 arg8 harg8 arg9 harg9 arg10 harg10 arg11 harg11 hc0 x0 x1) (kernelRun0_C.sl.HS2_13 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_12 c i arg2 harg2 arg3 harg3 arg4 harg4 arg5 harg5 arg6 harg6 arg7 harg7 arg8 harg8 arg9 harg9 arg10 harg10 arg11 harg11 hc0 x0 x1) (kernelRun0_C.sl.HS1_12 c i arg2 harg2 arg3 harg3 arg4 harg4 arg5 harg5 arg6 harg6 arg7 harg7 arg8 harg8 arg9 harg9 arg10 harg10 arg11 harg11 hc0 x0 x1) (kernelRun0_C.sl.HS2_12 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_11 c i arg2 harg2 arg3 harg3 arg4 harg4 arg5 harg5 arg6 harg6 arg7 harg7 arg8 harg8 arg9 harg9 arg10 harg10 arg11 harg11 hc0 x0 x1) (kernelRun0_C.sl.HS1_11 c i arg2 harg2 arg3 harg3 arg4 harg4 arg5 harg5 arg6 harg6 arg7 harg7 arg8 harg8 arg9 harg9 arg10 harg10 arg11 harg11 hc0 x0 x1) (kernelRun0_C.sl.HS2_11 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_10 c i arg2 harg2 arg3 harg3 arg4 harg4 arg5 harg5 arg6 harg6 arg7 harg7 arg8 harg8 arg9 harg9 arg10 harg10 arg11 harg11 hc0 x0 x1) (kernelRun0_C.sl.HS1_10 c i arg2 harg2 arg3 harg3 arg4 harg4 arg5 harg5 arg6 harg6 arg7 harg7 arg8 harg8 arg9 harg9 arg10 harg10 arg11 harg11 hc0 x0 x1) (kernelRun0_C.sl.HS2_10 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_9 c i arg2 harg2 arg3 harg3 arg4 harg4 arg5 harg5 arg6 harg6 arg7 harg7 arg8 harg8 arg9 harg9 arg10 harg10 arg11 harg11 hc0 x0 x1) (kernelRun0_C.sl.HS1_9 c i arg2 harg2 arg3 harg3 arg4 harg4 arg5 harg5 arg6 harg6 arg7 harg7 arg8 harg8 arg9 harg9 arg10 harg10 arg11 harg11 hc0 x0 x1) (kernelRun0_C.sl.HS2_9 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_8 c i arg2 harg2 arg3 harg3 arg4 harg4 arg5 harg5 arg6 harg6 arg7 harg7 arg8 harg8 arg9 harg9 arg10 harg10 arg11 harg11 hc0 x0 x1) (kernelRun0_C.sl.HS1_8 c i arg2 harg2 arg3 harg3 arg4 harg4 arg5 harg5 arg6 harg6 arg7 harg7 arg8 harg8 arg9 harg9 arg10 harg10 arg11 harg11 hc0 x0 x1) (kernelRun0_C.sl.HS2_8 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_7 c i arg2 harg2 arg3 harg3 arg4 harg4 arg5 harg5 arg6 harg6 arg7 harg7 arg8 harg8 arg9 harg9 arg10 harg10 arg11 harg11 hc0 x0 x1) (kernelRun0_C.sl.HS1_7 c i arg2 harg2 arg3 harg3 arg4 harg4 arg5 harg5 arg6 harg6 arg7 harg7 arg8 harg8 arg9 harg9 arg10 harg10 arg11 harg11 hc0 x0 x1) (kernelRun0_C.sl.HS2_7 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_6 c i arg2 harg2 arg3 harg3 arg4 harg4 arg5 harg5 arg6 harg6 arg7 harg7 arg8 harg8 arg9 harg9 arg10 harg10 arg11 harg11 hc0 x0 x1) (kernelRun0_C.sl.HS1_6 c i arg2 harg2 arg3 harg3 arg4 harg4 arg5 harg5 arg6 harg6 arg7 harg7 arg8 harg8 arg9 harg9 arg10 harg10 arg11 harg11 hc0 x0 x1) (kernelRun0_C.sl.HS2_6 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_5 c i arg2 harg2 arg3 harg3 arg4 harg4 arg5 harg5 arg6 harg6 arg7 harg7 arg8 harg8 arg9 harg9 arg10 harg10 arg11 harg11 hc0 x0 x1) (kernelRun0_C.sl.HS1_5 c i arg2 harg2 arg3 harg3 arg4 harg4 arg5 harg5 arg6 harg6 arg7 harg7 arg8 harg8 arg9 harg9 arg10 harg10 arg11 harg11 hc0 x0 x1) (kernelRun0_C.sl.HS2_5 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_4 c i arg2 harg2 arg3 harg3 arg4 harg4 arg5 harg5 arg6 harg6 arg7 harg7 arg8 harg8 arg9 harg9 arg10 harg10 arg11 harg11 hc0 x0 x1) (kernelRun0_C.sl.HS1_4 c i arg2 harg2 arg3 harg3 arg4 harg4 arg5 harg5 arg6 harg6 arg7 harg7 arg8 harg8 arg9 harg9 arg10 harg10 arg11 harg11 hc0 x0 x1) (kernelRun0_C.sl.HS2_4 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_3 c i arg2 harg2 arg3 harg3 arg4 harg4 arg5 harg5 arg6 harg6 arg7 harg7 arg8 harg8 arg9 harg9 arg10 harg10 arg11 harg11 hc0 x0 x1) (kernelRun0_C.sl.HS1_3 c i arg2 harg2 arg3 harg3 arg4 harg4 arg5 harg5 arg6 harg6 arg7 harg7 arg8 harg8 arg9 harg9 arg10 harg10 arg11 harg11 hc0 x0 x1) (kernelRun0_C.sl.HS2_3 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_2 c i arg2 harg2 arg3 harg3 arg4 harg4 arg5 harg5 arg6 harg6 arg7 harg7 arg8 harg8 arg9 harg9 arg10 harg10 arg11 harg11 hc0 x0 x1) (kernelRun0_C.sl.HS1_2 c i arg2 harg2 arg3 harg3 arg4 harg4 arg5 harg5 arg6 harg6 arg7 harg7 arg8 harg8 arg9 harg9 arg10 harg10 arg11 harg11 hc0 x0 x1) (kernelRun0_C.sl.HS2_2 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  refine later_step (kernelRun0_C.sl.HS0_1 c i arg2 harg2 arg3 harg3 arg4 harg4 arg5 harg5 arg6 harg6 arg7 harg7 arg8 harg8 arg9 harg9 arg10 harg10 arg11 harg11 hc0 x0 x1) (kernelRun0_C.sl.HS1_1 c i arg2 harg2 arg3 harg3 arg4 harg4 arg5 harg5 arg6 harg6 arg7 harg7 arg8 harg8 arg9 harg9 arg10 harg10 arg11 harg11 hc0 x0 x1) (kernelRun0_C.sl.HS2_1 c i arg2 harg2 arg3 harg3 arg4 harg4 arg5 harg5 arg6 harg6 arg7 harg7 arg8 harg8 arg9 harg9 arg10 harg10 arg11 harg11 hc0 x0 x1) ?_ (by dsimp only [headStep, PW, later]; exact rfl) (by dsimp only [headStep, PW, later]; exact rfl) (by dsimp only [headStep, PW, later]; exact rfl)
  exact later_step (wide2 c i arg2 harg2 arg3 harg3 arg4 harg4 arg5 harg5 arg6 harg6 arg7 harg7 arg8 harg8 arg9 harg9 arg10 harg10 arg11 harg11 (kernelRun0_C.sl.r_90 c i arg2 harg2 arg3 harg3 arg9 x0 x1) (kernelRun0_C.sl.r_91 c i arg2 harg2 arg3 harg3 arg9 x0 x1) (kernelRun0_C.sl.v1122 i) (harg2.unread x0) (harg3.unread x1) (wide1 c i arg2 harg2 arg3 harg3 arg4 harg4 arg5 harg5 arg6 harg6 arg7 harg7 arg8 harg8 arg9 harg9 arg10 harg10 arg11 harg11 (kernelRun0_C.sl.r_90 c i arg2 harg2 arg3 harg3 arg9 x0 x1) (kernelRun0_C.sl.r_91 c i arg2 harg2 arg3 harg3 arg9 x0 x1) (harg2.unread x0) (harg3.unread x1) (kernelRun0_C.sl.HS0_32 c i arg2 harg2 arg3 harg3 arg9 x0 x1, kernelRun0_C.sl.HS1_32 c i arg2 harg2 arg3 harg3 arg9 arg10 x0 x1, kernelRun0_C.sl.HS2_32 c i arg2 harg2 arg3 harg3 arg9 arg11 x0 x1))).1 (wide2 c i arg2 harg2 arg3 harg3 arg4 harg4 arg5 harg5 arg6 harg6 arg7 harg7 arg8 harg8 arg9 harg9 arg10 harg10 arg11 harg11 (kernelRun0_C.sl.r_90 c i arg2 harg2 arg3 harg3 arg9 x0 x1) (kernelRun0_C.sl.r_91 c i arg2 harg2 arg3 harg3 arg9 x0 x1) (kernelRun0_C.sl.v1122 i) (harg2.unread x0) (harg3.unread x1) (wide1 c i arg2 harg2 arg3 harg3 arg4 harg4 arg5 harg5 arg6 harg6 arg7 harg7 arg8 harg8 arg9 harg9 arg10 harg10 arg11 harg11 (kernelRun0_C.sl.r_90 c i arg2 harg2 arg3 harg3 arg9 x0 x1) (kernelRun0_C.sl.r_91 c i arg2 harg2 arg3 harg3 arg9 x0 x1) (harg2.unread x0) (harg3.unread x1) (kernelRun0_C.sl.HS0_32 c i arg2 harg2 arg3 harg3 arg9 x0 x1, kernelRun0_C.sl.HS1_32 c i arg2 harg2 arg3 harg3 arg9 arg10 x0 x1, kernelRun0_C.sl.HS2_32 c i arg2 harg2 arg3 harg3 arg9 arg11 x0 x1))).2.1 (wide2 c i arg2 harg2 arg3 harg3 arg4 harg4 arg5 harg5 arg6 harg6 arg7 harg7 arg8 harg8 arg9 harg9 arg10 harg10 arg11 harg11 (kernelRun0_C.sl.r_90 c i arg2 harg2 arg3 harg3 arg9 x0 x1) (kernelRun0_C.sl.r_91 c i arg2 harg2 arg3 harg3 arg9 x0 x1) (kernelRun0_C.sl.v1122 i) (harg2.unread x0) (harg3.unread x1) (wide1 c i arg2 harg2 arg3 harg3 arg4 harg4 arg5 harg5 arg6 harg6 arg7 harg7 arg8 harg8 arg9 harg9 arg10 harg10 arg11 harg11 (kernelRun0_C.sl.r_90 c i arg2 harg2 arg3 harg3 arg9 x0 x1) (kernelRun0_C.sl.r_91 c i arg2 harg2 arg3 harg3 arg9 x0 x1) (harg2.unread x0) (harg3.unread x1) (kernelRun0_C.sl.HS0_32 c i arg2 harg2 arg3 harg3 arg9 x0 x1, kernelRun0_C.sl.HS1_32 c i arg2 harg2 arg3 harg3 arg9 arg10 x0 x1, kernelRun0_C.sl.HS2_32 c i arg2 harg2 arg3 harg3 arg9 arg11 x0 x1))).2.2 rfl (by dsimp only [headStep, PW, later, wide1, wide2]; exact rfl) (by dsimp only [headStep, PW, later, wide1, wide2]; exact rfl) (by dsimp only [headStep, PW, later, wide1, wide2]; exact rfl)

/-- The second conditional block's pieces. -/
theorem fullC2 (hc0 : cond0_0 i) (hc1 : cond0_1 i) : ∃ a, fullPieces arg2 arg9 arg10 arg11 (harg2.unread x0) (kSlab arg3 (harg3.unread x1) 512 (k0_off6 i) (k0_off6_inb i hc1)) (kernelRun0_C.sl.HS0_16_1 c i arg2 harg2 arg3 harg3 arg4 harg4 arg5 harg5 arg6 harg6 arg7 harg7 arg8 harg8 arg9 harg9 arg10 harg10 arg11 harg11 hc0 x0 x1, kernelRun0_C.sl.HS1_16_1 c i arg2 harg2 arg3 harg3 arg4 harg4 arg5 harg5 arg6 harg6 arg7 harg7 arg8 harg8 arg9 harg9 arg10 harg10 arg11 harg11 hc0 x0 x1, kernelRun0_C.sl.HS2_16_1 c i arg2 harg2 arg3 harg3 arg4 harg4 arg5 harg5 arg6 harg6 arg7 harg7 arg8 harg8 arg9 harg9 arg10 harg10 arg11 harg11 hc0 x0 x1) = (a, kernelRun0_C.sl.HS1_32_1 c i arg2 harg2 arg3 harg3 arg4 harg4 arg5 harg5 arg6 harg6 arg7 harg7 arg8 harg8 arg9 harg9 arg10 harg10 arg11 harg11 hc0 hc1 x0 x1, kernelRun0_C.sl.HS2_32_1 c i arg2 harg2 arg3 harg3 arg4 harg4 arg5 harg5 arg6 harg6 arg7 harg7 arg8 harg8 arg9 harg9 arg10 harg10 arg11 harg11 hc0 hc1 x0 x1) := by
  unfold fullPieces
  refine ⟨_, later_step (kernelRun0_C.sl.HS0_31_1 c i arg2 harg2 arg3 harg3 arg4 harg4 arg5 harg5 arg6 harg6 arg7 harg7 arg8 harg8 arg9 harg9 arg10 harg10 arg11 harg11 hc0 hc1 x0 x1) (kernelRun0_C.sl.HS1_31_1 c i arg2 harg2 arg3 harg3 arg4 harg4 arg5 harg5 arg6 harg6 arg7 harg7 arg8 harg8 arg9 harg9 arg10 harg10 arg11 harg11 hc0 hc1 x0 x1) (kernelRun0_C.sl.HS2_31_1 c i arg2 harg2 arg3 harg3 arg4 harg4 arg5 harg5 arg6 harg6 arg7 harg7 arg8 harg8 arg9 harg9 arg10 harg10 arg11 harg11 hc0 hc1 x0 x1) ?_ rfl (by dsimp only [headStep, PW, later]; exact rfl) (by dsimp only [headStep, PW, later]; exact rfl)⟩
  refine later_step (kernelRun0_C.sl.HS0_30_1 c i arg2 harg2 arg3 harg3 arg4 harg4 arg5 harg5 arg6 harg6 arg7 harg7 arg8 harg8 arg9 harg9 arg10 harg10 arg11 harg11 hc0 hc1 x0 x1) (kernelRun0_C.sl.HS1_30_1 c i arg2 harg2 arg3 harg3 arg4 harg4 arg5 harg5 arg6 harg6 arg7 harg7 arg8 harg8 arg9 harg9 arg10 harg10 arg11 harg11 hc0 hc1 x0 x1) (kernelRun0_C.sl.HS2_30_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_29_1 c i arg2 harg2 arg3 harg3 arg4 harg4 arg5 harg5 arg6 harg6 arg7 harg7 arg8 harg8 arg9 harg9 arg10 harg10 arg11 harg11 hc0 hc1 x0 x1) (kernelRun0_C.sl.HS1_29_1 c i arg2 harg2 arg3 harg3 arg4 harg4 arg5 harg5 arg6 harg6 arg7 harg7 arg8 harg8 arg9 harg9 arg10 harg10 arg11 harg11 hc0 hc1 x0 x1) (kernelRun0_C.sl.HS2_29_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_28_1 c i arg2 harg2 arg3 harg3 arg4 harg4 arg5 harg5 arg6 harg6 arg7 harg7 arg8 harg8 arg9 harg9 arg10 harg10 arg11 harg11 hc0 hc1 x0 x1) (kernelRun0_C.sl.HS1_28_1 c i arg2 harg2 arg3 harg3 arg4 harg4 arg5 harg5 arg6 harg6 arg7 harg7 arg8 harg8 arg9 harg9 arg10 harg10 arg11 harg11 hc0 hc1 x0 x1) (kernelRun0_C.sl.HS2_28_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_27_1 c i arg2 harg2 arg3 harg3 arg4 harg4 arg5 harg5 arg6 harg6 arg7 harg7 arg8 harg8 arg9 harg9 arg10 harg10 arg11 harg11 hc0 hc1 x0 x1) (kernelRun0_C.sl.HS1_27_1 c i arg2 harg2 arg3 harg3 arg4 harg4 arg5 harg5 arg6 harg6 arg7 harg7 arg8 harg8 arg9 harg9 arg10 harg10 arg11 harg11 hc0 hc1 x0 x1) (kernelRun0_C.sl.HS2_27_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_26_1 c i arg2 harg2 arg3 harg3 arg4 harg4 arg5 harg5 arg6 harg6 arg7 harg7 arg8 harg8 arg9 harg9 arg10 harg10 arg11 harg11 hc0 hc1 x0 x1) (kernelRun0_C.sl.HS1_26_1 c i arg2 harg2 arg3 harg3 arg4 harg4 arg5 harg5 arg6 harg6 arg7 harg7 arg8 harg8 arg9 harg9 arg10 harg10 arg11 harg11 hc0 hc1 x0 x1) (kernelRun0_C.sl.HS2_26_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_25_1 c i arg2 harg2 arg3 harg3 arg4 harg4 arg5 harg5 arg6 harg6 arg7 harg7 arg8 harg8 arg9 harg9 arg10 harg10 arg11 harg11 hc0 hc1 x0 x1) (kernelRun0_C.sl.HS1_25_1 c i arg2 harg2 arg3 harg3 arg4 harg4 arg5 harg5 arg6 harg6 arg7 harg7 arg8 harg8 arg9 harg9 arg10 harg10 arg11 harg11 hc0 hc1 x0 x1) (kernelRun0_C.sl.HS2_25_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_24_1 c i arg2 harg2 arg3 harg3 arg4 harg4 arg5 harg5 arg6 harg6 arg7 harg7 arg8 harg8 arg9 harg9 arg10 harg10 arg11 harg11 hc0 hc1 x0 x1) (kernelRun0_C.sl.HS1_24_1 c i arg2 harg2 arg3 harg3 arg4 harg4 arg5 harg5 arg6 harg6 arg7 harg7 arg8 harg8 arg9 harg9 arg10 harg10 arg11 harg11 hc0 hc1 x0 x1) (kernelRun0_C.sl.HS2_24_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_23_1 c i arg2 harg2 arg3 harg3 arg4 harg4 arg5 harg5 arg6 harg6 arg7 harg7 arg8 harg8 arg9 harg9 arg10 harg10 arg11 harg11 hc0 hc1 x0 x1) (kernelRun0_C.sl.HS1_23_1 c i arg2 harg2 arg3 harg3 arg4 harg4 arg5 harg5 arg6 harg6 arg7 harg7 arg8 harg8 arg9 harg9 arg10 harg10 arg11 harg11 hc0 hc1 x0 x1) (kernelRun0_C.sl.HS2_23_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_22_1 c i arg2 harg2 arg3 harg3 arg4 harg4 arg5 harg5 arg6 harg6 arg7 harg7 arg8 harg8 arg9 harg9 arg10 harg10 arg11 harg11 hc0 hc1 x0 x1) (kernelRun0_C.sl.HS1_22_1 c i arg2 harg2 arg3 harg3 arg4 harg4 arg5 harg5 arg6 harg6 arg7 harg7 arg8 harg8 arg9 harg9 arg10 harg10 arg11 harg11 hc0 hc1 x0 x1) (kernelRun0_C.sl.HS2_22_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_21_1 c i arg2 harg2 arg3 harg3 arg4 harg4 arg5 harg5 arg6 harg6 arg7 harg7 arg8 harg8 arg9 harg9 arg10 harg10 arg11 harg11 hc0 hc1 x0 x1) (kernelRun0_C.sl.HS1_21_1 c i arg2 harg2 arg3 harg3 arg4 harg4 arg5 harg5 arg6 harg6 arg7 harg7 arg8 harg8 arg9 harg9 arg10 harg10 arg11 harg11 hc0 hc1 x0 x1) (kernelRun0_C.sl.HS2_21_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_20_1 c i arg2 harg2 arg3 harg3 arg4 harg4 arg5 harg5 arg6 harg6 arg7 harg7 arg8 harg8 arg9 harg9 arg10 harg10 arg11 harg11 hc0 hc1 x0 x1) (kernelRun0_C.sl.HS1_20_1 c i arg2 harg2 arg3 harg3 arg4 harg4 arg5 harg5 arg6 harg6 arg7 harg7 arg8 harg8 arg9 harg9 arg10 harg10 arg11 harg11 hc0 hc1 x0 x1) (kernelRun0_C.sl.HS2_20_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_19_1 c i arg2 harg2 arg3 harg3 arg4 harg4 arg5 harg5 arg6 harg6 arg7 harg7 arg8 harg8 arg9 harg9 arg10 harg10 arg11 harg11 hc0 hc1 x0 x1) (kernelRun0_C.sl.HS1_19_1 c i arg2 harg2 arg3 harg3 arg4 harg4 arg5 harg5 arg6 harg6 arg7 harg7 arg8 harg8 arg9 harg9 arg10 harg10 arg11 harg11 hc0 hc1 x0 x1) (kernelRun0_C.sl.HS2_19_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_18_1 c i arg2 harg2 arg3 harg3 arg4 harg4 arg5 harg5 arg6 harg6 arg7 harg7 arg8 harg8 arg9 harg9 arg10 harg10 arg11 harg11 hc0 hc1 x0 x1) (kernelRun0_C.sl.HS1_18_1 c i arg2 harg2 arg3 harg3 arg4 harg4 arg5 harg5 arg6 harg6 arg7 harg7 arg8 harg8 arg9 harg9 arg10 harg10 arg11 harg11 hc0 hc1 x0 x1) (kernelRun0_C.sl.HS2_18_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  refine later_step (kernelRun0_C.sl.HS0_17_1 c i arg2 harg2 arg3 harg3 arg4 harg4 arg5 harg5 arg6 harg6 arg7 harg7 arg8 harg8 arg9 harg9 arg10 harg10 arg11 harg11 hc0 hc1 x0 x1) (kernelRun0_C.sl.HS1_17_1 c i arg2 harg2 arg3 harg3 arg4 harg4 arg5 harg5 arg6 harg6 arg7 harg7 arg8 harg8 arg9 harg9 arg10 harg10 arg11 harg11 hc0 hc1 x0 x1) (kernelRun0_C.sl.HS2_17_1 c i arg2 harg2 arg3 harg3 arg4 harg4 arg5 harg5 arg6 harg6 arg7 harg7 arg8 harg8 arg9 harg9 arg10 harg10 arg11 harg11 hc0 hc1 x0 x1) ?_ (by dsimp only [headStep, PW, later]; exact rfl) (by dsimp only [headStep, PW, later]; exact rfl) (by dsimp only [headStep, PW, later]; exact rfl)
  exact later_step (kernelRun0_C.sl.HS0_16_1 c i arg2 harg2 arg3 harg3 arg4 harg4 arg5 harg5 arg6 harg6 arg7 harg7 arg8 harg8 arg9 harg9 arg10 harg10 arg11 harg11 hc0 x0 x1) (kernelRun0_C.sl.HS1_16_1 c i arg2 harg2 arg3 harg3 arg4 harg4 arg5 harg5 arg6 harg6 arg7 harg7 arg8 harg8 arg9 harg9 arg10 harg10 arg11 harg11 hc0 x0 x1) (kernelRun0_C.sl.HS2_16_1 c i arg2 harg2 arg3 harg3 arg4 harg4 arg5 harg5 arg6 harg6 arg7 harg7 arg8 harg8 arg9 harg9 arg10 harg10 arg11 harg11 hc0 x0 x1) rfl (by dsimp only [headStep, PW, later]; exact rfl) (by dsimp only [headStep, PW, later]; exact rfl) (by dsimp only [headStep, PW, later]; exact rfl)

/-- What a point stores in the attention's block. -/
theorem runC_eq (hc0 : cond0_0 i) (hc1 : cond0_1 i) (x2 : Vec F S1x16x4096 .f32) (x3 : Vec F S1x64x1024 .f32) :
    ∃ a b w, (kernelRun0_C c i arg2 harg2 arg3 harg3 arg4 harg4 arg5 harg5 arg6 harg6 arg7 harg7 arg8 harg8 arg9 harg9 arg10 harg10 arg11 harg11 hc0 hc1 x0 x1 x2 x3).1
      = outPieces arg9.view arg10.view arg11.view (fullPieces arg2 arg9 arg10 arg11 (harg2.unread x0) (kSlab arg3 (harg3.unread x1) 512 (k0_off6 i) (k0_off6_inb i hc1)) (fullPieces arg2 arg9 arg10 arg11 (harg2.unread x0) (kSlab arg3 (harg3.unread x1) 512 (k0_off5 i) (k0_off5_inb i hc0)) (endA c i arg2 harg2 arg3 harg3 arg4 harg4 arg5 harg5 arg6 harg6 arg7 harg7 arg8 harg8 arg9 harg9 arg10 harg10 arg11 harg11 a b w (harg2.unread x0) (harg3.unread x1)))) 16 le_rfl := by
  refine ⟨kernelRun0_C.sl.r_90 c i arg2 harg2 arg3 harg3 arg9 x0 x1, kernelRun0_C.sl.r_91 c i arg2 harg2 arg3 harg3 arg9 x0 x1, kernelRun0_C.sl.v1122 i, ?_⟩
  unfold endA outPieces
  rw [diagC, outList]
  obtain ⟨a, h⟩ := fullC2 c i arg2 harg2 arg3 harg3 arg4 harg4 arg5 harg5 arg6 harg6 arg7 harg7 arg8 harg8 arg9 harg9 arg10 harg10 arg11 harg11 x0 x1 hc0 hc1
  rw [fullC c i arg2 harg2 arg3 harg3 arg4 harg4 arg5 harg5 arg6 harg6 arg7 harg7 arg8 harg8 arg9 harg9 arg10 harg10 arg11 harg11 x0 x1 hc0, h]
  unfold kernelRun0_C
  dsimp only [outVal, wide1, wide2]
  exact rfl

end Cert.Attn

end
-- ==== Proof.Cases.lean ====
module

public import proofs.«01_k».proof.Proof.Final
public import proofs.«01_k».proof.Proof.RunA
public import proofs.«01_k».proof.Proof.RunB
public import proofs.«01_k».proof.Proof.RunC

@[expose] public section

noncomputable section

namespace Cert.Attn

open Idealize.ShloMosaic hiding ix1 ix2 ix3 ix4
open Idealize.ShloMosaic.ValueIdx Cert.KernelIdeal Cert.KernelIdeal.Gen Idealize.SL.Sem

variable (c : Dev nD) (i : grid0.Coords)
  (arg2 : Memref sig .tc .vmem S1x16x512x256 .bf16) (harg2 : arg2.IsWhole) (arg3 : Memref sig .tc .vmem S1x4096x256 .bf16) (harg3 : arg3.IsWhole) (arg4 : Memref sig .tc .vmem S1x16x4096 .f32) (harg4 : arg4.IsWhole) (arg5 : Memref sig .tc .vmem S1x64x1024 .f32) (harg5 : arg5.IsWhole) (arg6 : Memref sig .tc .vmem S1x512x2048 .bf16) (harg6 : arg6.IsWhole) (arg7 : Memref sig .tc .vmem S16x4096 .bf16) (harg7 : arg7.IsWhole) (arg8 : Memref sig .tc .vmem S64x1024 .bf16) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x128 .f32) (harg11 : arg11.IsWhole)
  {Q : Fin 16 → Fin 512 → Fin 256 → ℝ} {kr : ℕ → Fin 256 → ℝ} (x0 : Vec Ideal S1x16x512x256 .bf16) (x1 : Vec Ideal S1x4096x256 .bf16)
  (hx0 : ∀ n x d, (x0 (ix4 (0 : Fin 1) n x d) : EReal) = ((Q n x d : ℝ) : EReal))
  (hx1 : ∀ (j : Fin 4096) d, (x1 (ix3 (0 : Fin 1) j d) : EReal) = ((kr j.val d : ℝ) : EReal))

attribute [local irreducible] laterPieces firstPieces outPieces fullPieces endA

include hx0 hx1

/-- What a block of case A holds. -/
theorem outA (hc0 : ¬cond0_0 i) (hc1 : ¬cond0_1 i) (x2 : Vec Ideal S1x16x4096 .f32) (x3 : Vec Ideal S1x64x1024 .f32) (n : Fin 16) (r : Fin 512) (t : Fin 128) :
    (out0_A_4 (F := Ideal) c i arg2 harg2 arg3 harg3 arg4 harg4 arg5 harg5 arg6 harg6 arg7 harg7 arg8 harg8 arg9 harg9 arg10 harg10 arg11 harg11 hc0 hc1 x0 x1 x2 x3 (ix3 (0 : Fin 1) r (⟨n.val * 128 + t.val, by omega⟩ : Fin 2048)) : EReal)
      = ((attn (sc (Q n r) kr) (vl kr) (Finset.range (512 * (i 1).val + r.val + 1)) t : ℝ) : EReal) := by
  have hQ : ∀ n x d, (arg2.view.read (Elt Ideal) (harg2.unread x0) (ix4 (0 : Fin 1) n x d) : EReal) = ((Q n x d : ℝ) : EReal) := by
    rw [harg2.read_unread]; exact hx0
  have hK : ∀ (j : Fin 4096) d, (arg3.view.read (Elt Ideal) (harg3.unread x1) (ix3 (0 : Fin 1) j d) : EReal) = ((kr j.val d : ℝ) : EReal) := by
    rw [harg3.read_unread]; exact hx1
  unfold out0_A_4
  obtain ⟨a, b, w, e⟩ := runA_eq (F := Ideal) c i arg2 harg2 arg3 harg3 arg4 harg4 arg5 harg5 arg6 harg6 arg7 harg7 arg8 harg8 arg9 harg9 arg10 harg10 arg11 harg11 x0 x1 hc0 hc1 x2 x3
  rw [e]
  have h := endA_good c i arg2 harg2 arg3 harg3 arg4 harg4 arg5 harg5 arg6 harg6 arg7 harg7 arg8 harg8 arg9 harg9 arg10 harg10 arg11 harg11 hQ hK a b w
  have h3 : (i 1).val % 3 = 0 := by
    by_contra h3
    exact hc0 ((cond0_iff i).2 h3)
  have he : 1536 * ((i 1).val / 3) = 512 * (i 1).val := by omega
  rw [← seen_full i _ he r]
  exact out_read _ _ _ _ _ _ _ h (fun x => by rw [seen_full i _ he x]; exact ⟨0, by simp⟩) n r t

/-- What a block of case B holds. -/
theorem outB (hc0 : cond0_0 i) (hc1 : ¬cond0_1 i) (x2 : Vec Ideal S1x16x4096 .f32) (x3 : Vec Ideal S1x64x1024 .f32) (n : Fin 16) (r : Fin 512) (t : Fin 128) :
    (out0_B_4 (F := Ideal) c i arg2 harg2 arg3 harg3 arg4 harg4 arg5 harg5 arg6 harg6 arg7 harg7 arg8 harg8 arg9 harg9 arg10 harg10 arg11 harg11 hc0 hc1 x0 x1 x2 x3 (ix3 (0 : Fin 1) r (⟨n.val * 128 + t.val, by omega⟩ : Fin 2048)) : EReal)
      = ((attn (sc (Q n r) kr) (vl kr) (Finset.range (512 * (i 1).val + r.val + 1)) t : ℝ) : EReal) := by
  have hQ : ∀ n x d, (arg2.view.read (Elt Ideal) (harg2.unread x0) (ix4 (0 : Fin 1) n x d) : EReal) = ((Q n x d : ℝ) : EReal) := by
    rw [harg2.read_unread]; exact hx0
  have hK : ∀ (j : Fin 4096) d, (arg3.view.read (Elt Ideal) (harg3.unread x1) (ix3 (0 : Fin 1) j d) : EReal) = ((kr j.val d : ℝ) : EReal) := by
    rw [harg3.read_unread]; exact hx1
  unfold out0_B_4
  obtain ⟨a, b, w, e⟩ := runB_eq (F := Ideal) c i arg2 harg2 arg3 harg3 arg4 harg4 arg5 harg5 arg6 harg6 arg7 harg7 arg8 harg8 arg9 harg9 arg10 harg10 arg11 harg11 x0 x1 hc0 hc1 x2 x3
  rw [e]
  have h := endA_good c i arg2 harg2 arg3 harg3 arg4 harg4 arg5 harg5 arg6 harg6 arg7 harg7 arg8 harg8 arg9 harg9 arg10 harg10 arg11 harg11 hQ hK a b w
  have h3 := (cond0_iff i).1 hc0
  have h3' : (i 1).val % 3 ≠ 2 := fun h3' => hc1 ((cond1_iff i).2 h3')
  have he : 1536 * ((i 1).val / 3) + 512 = 512 * (i 1).val := by omega
  replace h := full_good i arg2 arg3 arg9 arg10 arg11 hQ hK (k0_off5 i) (k0_off5_inb i hc0) _ (off5_eq i) (by omega) _ h
  rw [← seen_full i _ he r]
  exact out_read _ _ _ _ _ _ _ h (fun x => by rw [seen_full i _ he x]; exact ⟨0, by simp⟩) n r t

/-- What a block of case C holds. -/
theorem outC (hc0 : cond0_0 i) (hc1 : cond0_1 i) (x2 : Vec Ideal S1x16x4096 .f32) (x3 : Vec Ideal S1x64x1024 .f32) (n : Fin 16) (r : Fin 512) (t : Fin 128) :
    (out0_C_4 (F := Ideal) c i arg2 harg2 arg3 harg3 arg4 harg4 arg5 harg5 arg6 harg6 arg7 harg7 arg8 harg8 arg9 harg9 arg10 harg10 arg11 harg11 hc0 hc1 x0 x1 x2 x3 (ix3 (0 : Fin 1) r (⟨n.val * 128 + t.val, by omega⟩ : Fin 2048)) : EReal)
      = ((attn (sc (Q n r) kr) (vl kr) (Finset.range (512 * (i 1).val + r.val + 1)) t : ℝ) : EReal) := by
  have hQ : ∀ n x d, (arg2.view.read (Elt Ideal) (harg2.unread x0) (ix4 (0 : Fin 1) n x d) : EReal) = ((Q n x d : ℝ) : EReal) := by
    rw [harg2.read_unread]; exact hx0
  have hK : ∀ (j : Fin 4096) d, (arg3.view.read (Elt Ideal) (harg3.unread x1) (ix3 (0 : Fin 1) j d) : EReal) = ((kr j.val d : ℝ) : EReal) := by
    rw [harg3.read_unread]; exact hx1
  unfold out0_C_4
  obtain ⟨a, b, w, e⟩ := runC_eq (F := Ideal) c i arg2 harg2 arg3 harg3 arg4 harg4 arg5 harg5 arg6 harg6 arg7 harg7 arg8 harg8 arg9 harg9 arg10 harg10 arg11 harg11 x0 x1 hc0 hc1 x2 x3
  rw [e]
  have h := endA_good c i arg2 harg2 arg3 harg3 arg4 harg4 arg5 harg5 arg6 harg6 arg7 harg7 arg8 harg8 arg9 harg9 arg10 harg10 arg11 harg11 hQ hK a b w
  have h3 := (cond1_iff i).1 hc1
  have he : 1536 * ((i 1).val / 3) + 512 + 512 = 512 * (i 1).val := by omega
  replace h := full_good i arg2 arg3 arg9 arg10 arg11 hQ hK (k0_off5 i) (k0_off5_inb i hc0) _ (off5_eq i) (by omega) _ h
  replace h := full_good i arg2 arg3 arg9 arg10 arg11 hQ hK (k0_off6 i) (k0_off6_inb i hc1) _ (off6_eq i) (by omega) _ h
  rw [← seen_full i _ he r]
  exact out_read _ _ _ _ _ _ _ h (fun x => by rw [seen_full i _ he x]; exact ⟨0, by simp⟩) n r t

end Cert.Attn

end
-- ==== Proof.RefSide.lean ====
module

public import proofs.«01_k».proof.Proof.Gen.ReferenceIdeal.Run
public import proofs.«01_k».proof.Proof.Row
public import Idealize.ShloMosaic.Lib.Pointwise
public import Idealize.ShloMosaic.Lib.WordCmp

@[expose] public section

noncomputable section

namespace Cert.Attn.Ref

open Idealize.ShloMosaic Cert.ReferenceIdeal Cert.ReferenceIdeal.Gen

/-- The reference's masked scores. -/
def rs (q : FVec Ideal S8x16x4096x256 .bf16) (kv : FVec Ideal S8x4096x256 .bf16) : FVec Ideal S8x16x4096x4096 .f32 :=
  select (broadcastInDim S8x16x4096x4096 ![0, 1, 2, 3] bcast_S1x1x4096x4096_S8x16x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (Host.dotGeneral dot_S8x16x4096x256_S8x4096x256_S8x16x4096x4096_3_2_12_1_0_0 none q kv) (broadcastInDim S8x16x4096x4096 ![] bcast_S_S8x16x4096x4096 (id (constant S_ .f32 0xFF800000#32)))

/-- Its rows' maxima. -/
def rmax (s : FVec Ideal S8x16x4096x4096 .f32) : FVec Ideal S8x16x4096 .f32 :=
  Host.reduce FloatOps.maximumf s (constant S_ .f32 0xFF800000#32) reducesTo_S8x16x4096x4096_S8x16x4096_d3 h_S_

/-- Its weights. -/
def rp (s : FVec Ideal S8x16x4096x4096 .f32) : FVec Ideal S8x16x4096x4096 .f32 :=
  Host.powf (broadcastInDim S8x16x4096x4096 ![] bcast_S_S8x16x4096x4096 (constant S_ .f32 0x40000000#32)) (subf s (broadcastInDim S8x16x4096x4096 ![0, 1, 2, 3] bcast_S8x16x4096x1_S8x16x4096x4096_0_1_2_3 (broadcastInDim S8x16x4096x1 ![0, 1, 2] bcast_S8x16x4096_S8x16x4096x1_0_1_2 (rmax s))))

/-- Its normalised weights. -/
def rn (p : FVec Ideal S8x16x4096x4096 .f32) : FVec Ideal S8x16x4096x4096 .f32 :=
  Host.divf p (broadcastInDim S8x16x4096x4096 ![0, 1, 2, 3] bcast_S8x16x4096x1_S8x16x4096x4096_0_1_2_3 (broadcastInDim S8x16x4096x1 ![0, 1, 2] bcast_S8x16x4096_S8x16x4096x1_0_1_2 (Host.reduceAdd p (constant S_ .f32 0x00000000#32) reducesTo_S8x16x4096x4096_S8x16x4096_d3 h_S_)))

/-- Its weighted values, heads side by side. -/
def ro (kv : FVec Ideal S8x4096x256 .bf16) (p : FVec Ideal S8x16x4096x4096 .f32) : FVec Ideal S8x4096x2048 .bf16 :=
  shapeCast _ (truncf .bf16 (transpose S8x4096x16x128 [0, 3, 2, 1] (Host.dotGeneral dot_S8x4096x128_S8x16x4096x4096_S8x128x16x4096_1_3_2_12_0_0 none (extractStridedSlice S8x4096x128 ![0, 0, 0] kv slices_S8x4096x256_S8x4096x128_0_0_0) (truncf .bf16 p bitsLt_bf16_f32)) transposes_S8x128x16x4096_S8x4096x16x128_0_3_2_1) bitsLt_bf16_f32) shapeCasts_S8x4096x16x128_S8x4096x2048

theorem res_eq (m : (ℓ : Loc nD τ sig) → Buf (Elt Ideal) ℓ) (c : Dev nD) :
    Value.res_out0 m c = ro (m ((c.tc : Thread nD τ).loc main_arg1)) (rn (rp (rs (m ((c.tc : Thread nD τ).loc main_arg0)) (m ((c.tc : Thread nD τ).loc main_arg1))))) := rfl

theorem rs_apply (q : FVec Ideal S8x16x4096x256 .bf16) (kv : FVec Ideal S8x4096x256 .bf16) (b : Fin 8) (h : Fin 16) (i k : Fin 4096) :
    (rs q kv (ix4 b h i k) : EReal) = if k.val ≤ i.val then ∑ d : Fin 256, (q (ix4 b h i d) : EReal) * (kv (ix3 b k d) : EReal) else ⊥ := by
  pointwise [rs]
  rw [show (id (constant S_ .f32 0xFF800000#32) ix0 : Ideal .f32) = (⊥ : EReal) from by
    show Ideal.ofBits .f32 0xFF800000#32 = ⊥
    simp [Ideal.ofBits, Ideal.ieee]]
  have hi := i.isLt
  have hk := k.isLt
  rw [WordCmp.cmpi_sle_ofNat (w := 32) (by norm_num; omega) (by norm_num; omega)]
  by_cases hle : k.val ≤ i.val
  · rw [if_pos hle]; simp [hle, Scalar.select]
  · rw [if_neg hle]; simp [hle, Scalar.select]

theorem rmax_apply (s : FVec Ideal S8x16x4096x4096 .f32) (b : Fin 8) (h : Fin 16) (i : Fin 4096) :
    (rmax s (ix3 b h i) : EReal) = (Finset.univ : Finset (Fin 4096)).fold max ⊥ fun k => (s (ix4 b h i k) : EReal) := by
  pointwise [rmax]
  rw [show Ideal.ofBits .f32 0xFF800000#32 = ⊥ from by simp [Ideal.ofBits, Ideal.ieee]]

theorem rp_apply (s : FVec Ideal S8x16x4096x4096 .f32) (b : Fin 8) (h : Fin 16) (i k : Fin 4096) :
    (rp s (ix4 b h i k) : EReal) = Ideal.pow ((2 : ℝ) : EReal) ((s (ix4 b h i k) : EReal) - (rmax s (ix3 b h i) : EReal)) := by
  pointwise [rp]
  rw [show Ideal.ofBits .f32 0x40000000#32 = ((2 : ℝ) : EReal) from by
    simp [Ideal.ofBits, Ideal.ieee]
    rw [← EReal.coe_mul]
    norm_num]

theorem rn_apply (p : FVec Ideal S8x16x4096x4096 .f32) (b : Fin 8) (h : Fin 16) (i k : Fin 4096) :
    (rn p (ix4 b h i k) : EReal) = Ideal.div (p (ix4 b h i k)) (∑ k : Fin 4096, (p (ix4 b h i k) : EReal)) := by
  pointwise [rn]

theorem ro_apply (kv : FVec Ideal S8x4096x256 .bf16) (p : FVec Ideal S8x16x4096x4096 .f32) (b : Fin 8) (h : Fin 16) (i : Fin 4096) (t : Fin 128) :
    (ro kv p (ix3 b i (⟨h.val * 128 + t.val, by omega⟩ : Fin 2048)) : EReal) = ∑ k : Fin 4096, (kv (ix3 b k (⟨t.val, by omega⟩ : Fin 256)) : EReal) * (p (ix4 b h i k) : EReal) := by
  pointwise [ro]

end Cert.Attn.Ref

end
-- ==== Proof.RefVal.lean ====
module

public import proofs.«01_k».proof.Proof.RefSide
public import proofs.«01_k».proof.Proof.Final

@[expose] public section

noncomputable section

namespace Cert.Attn.Ref

open Idealize.ShloMosaic Cert.ReferenceIdeal

/-- A quotient of weights by their sum, both real, or zero. -/
theorem div_weight {P : Prop} [Decidable P] (x y : ℝ) (hy : y ≠ 0) :
    Ideal.div (if P then (x : EReal) else 0) (y : EReal) = if P then ((x / y : ℝ) : EReal) else 0 := by
  by_cases h : P
  · rw [if_pos h, if_pos h, div_real x y hy]
  · rw [if_neg h, if_neg h]
    have := div_real 0 y hy
    rw [zero_div, EReal.coe_zero] at this
    exact this

/-- The reference's result: the attention over the keys up to the query's own position. -/
theorem ref_val (q : FVec Ideal S8x16x4096x256 .bf16) (kv : FVec Ideal S8x4096x256 .bf16) (b : Fin 8) (h : Fin 16) (i : Fin 4096) (t : Fin 128)
    {qr : Fin 256 → ℝ} {kr : ℕ → Fin 256 → ℝ} (hq : ∀ d, (q (ix4 b h i d) : EReal) = ((qr d : ℝ) : EReal))
    (hk : ∀ (j : Fin 4096) d, (kv (ix3 b j d) : EReal) = ((kr j.val d : ℝ) : EReal)) :
    (ro kv (rn (rp (rs q kv))) (ix3 b i (⟨h.val * 128 + t.val, by omega⟩ : Fin 2048)) : EReal)
      = ((attn (sc qr kr) (vl kr) (Finset.range (i.val + 1)) t : ℝ) : EReal) := by
  have hrow : Row (fun k => (rs q kv (ix4 b h i k) : EReal)) ((Finset.univ : Finset (Fin 4096)).filter fun k => k.val ≤ i.val)
      fun k => sc qr kr (0 + k.val) := by
    intro k
    dsimp only
    rw [rs_apply]
    have e : ∑ d : Fin 256, (q (ix4 b h i d) : EReal) * (kv (ix3 b k d) : EReal) = ((sc qr kr (0 + k.val) : ℝ) : EReal) := by
      unfold sc
      rw [coe_sum, Nat.zero_add]
      exact Finset.sum_congr rfl fun d _ => by rw [hq, hk, EReal.coe_mul]
    rw [e]
    simp
  obtain ⟨M, hM⟩ := max_row hrow ⟨0, by simp⟩
  have hp : ∀ k, (rp (rs q kv) (ix4 b h i k) : EReal) = if k.val ≤ i.val then ((p2 (sc qr kr (0 + k.val) - M) : ℝ) : EReal) else 0 := by
    intro k
    have hr := hrow k
    dsimp only at hr
    rw [rp_apply, rmax_apply, hM, hr]
    by_cases hc : k.val ≤ i.val
    · have hm : k ∈ (Finset.univ : Finset (Fin 4096)).filter fun k => k.val ≤ i.val := Finset.mem_filter.2 ⟨Finset.mem_univ _, hc⟩
      rw [if_pos hm, if_pos hc, ← EReal.coe_sub, Ideal.pow_coe_coe]
    · have hm : k ∉ (Finset.univ : Finset (Fin 4096)).filter fun k => k.val ≤ i.val := fun hm => hc (Finset.mem_filter.1 hm).2
      rw [if_neg hm, if_neg hc, EReal.bot_sub, Ideal.pow_coe_bot, if_neg (by norm_num), if_pos (by norm_num)]
  have hkeys : keys 0 ((Finset.univ : Finset (Fin 4096)).filter fun k => k.val ≤ i.val) = Finset.range (i.val + 1) := by
    ext j
    rw [mem_keys_le, Finset.mem_range]
    have := i.isLt
    omega
  have hl : ∑ k : Fin 4096, (rp (rs q kv) (ix4 b h i k) : EReal) = ((∑ j ∈ Finset.range (i.val + 1), p2 (sc qr kr j - M) : ℝ) : EReal) := by
    rw [← hkeys, sum_keys, coe_sum, Finset.sum_filter]
    exact Finset.sum_congr rfl fun k _ => hp k
  have hpos : (∑ j ∈ Finset.range (i.val + 1), p2 (sc qr kr j - M)) ≠ 0 :=
    (Finset.sum_pos (fun j _ => p2_pos _) ⟨0, by simp⟩).ne'
  rw [ro_apply, ← attn_shift _ _ _ M, Finset.sum_div, ← hkeys, sum_keys, coe_sum, Finset.sum_filter]
  refine Finset.sum_congr rfl fun k _ => ?_
  rw [rn_apply, hl, hp, div_weight _ _ hpos, hk]
  by_cases hc : k.val ≤ i.val
  · rw [if_pos hc, if_pos hc, hkeys, ← EReal.coe_mul, Nat.zero_add]
    unfold vl
    congr 1
    ring
  · rw [if_neg hc, if_neg hc, mul_zero]

end Cert.Attn.Ref

end
-- ==== Proof.Arrays.lean ====
module

public import proofs.«01_k».proof.Proof.Cases
public import proofs.«01_k».proof.Proof.RefVal
public import proofs.«01_k».proof.Proof.Gen.KernelIdeal.Value
public import Idealize.ShloMosaic.Lib.Pipeline.ValueKit
public import Idealize.ShloMosaic.Lib.Pointwise

@[expose] public section

noncomputable section

namespace Cert.Attn

open Idealize.ShloMosaic hiding ix1 ix2 ix3 ix4
open Idealize.ShloMosaic.ValueIdx Cert.KernelIdeal Cert.KernelIdeal.Gen Idealize.SL.Sem
open Idealize.ShloMosaic.TcCoe

variable (m : (ℓ : Loc nD τ sig) → Buf (Elt Ideal) ℓ) (c : Dev nD)

theorem idx0 : ∀ t : Fin cfg0.N, win0_0.index t = ![(grid0.coords t 0).val, 0, (grid0.coords t 1).val, 0] := by decide +kernel
theorem idx1 : ∀ t : Fin cfg0.N, win0_1.index t = ![(grid0.coords t 0).val, 0, 0] := by decide +kernel
theorem idx2 : ∀ t : Fin cfg0.N, win0_2.index t = ![3, t.val, 0] := by decide +kernel
theorem idx3 : ∀ t : Fin cfg0.N, win0_3.index t = ![3, t.val, 0] := by decide +kernel
theorem idx4 : ∀ t : Fin cfg0.N, win0_4.index t = ![(grid0.coords t 0).val, (grid0.coords t 1).val, 0] := by decide +kernel
theorem idx5 : ∀ t : Fin cfg0.N, win0_5.index t = ![t.val, 0] := by decide +kernel
theorem idx6 : ∀ t : Fin cfg0.N, win0_6.index t = ![t.val, 0] := by decide +kernel

theorem iblk0_apply (t : Fin cfg0.N) (n : Fin 16) (x : Fin 512) (d : Fin 256) :
    (iblk m c 0 t : Vec Ideal S1x16x512x256 .bf16) (ix4 (0 : Fin 1) n x d)
      = (m ((c : Thread nD τ).loc main_arg0)) (ix4 (grid0.coords t 0) n ⟨512 * (grid0.coords t 1).val + x.val, by have := (grid0.coords t 1).isLt; show _ < 4096; change _ < 8 at this; omega⟩ d) := by
  blk_ext [iblk, V_main_arg0, idx0 t]
  show (grid0.coords t 1).val * 512 + x.val = _
  omega

theorem iblk1_apply (t : Fin cfg0.N) (j : Fin 4096) (d : Fin 256) :
    (iblk m c 1 t : Vec Ideal S1x4096x256 .bf16) (ix3 (0 : Fin 1) j d) = (m ((c : Thread nD τ).loc main_arg1)) (ix3 (grid0.coords t 0) j d) := by
  blk_ext [iblk, V_main_arg1, idx1 t]

attribute [local irreducible] out0_A_4 out0_B_4 out0_C_4

/-- A block's index, by row, head and lane. -/
theorem split_idx (y : S1x512x2048.Idx) : ∃ (r : Fin 512) (n : Fin 16) (l : Fin 128), y = ix3 (0 : Fin 1) r (⟨n.val * 128 + l.val, by omega⟩ : Fin 2048) := by
  have h0 : (y 0).val < 1 := (y 0).isLt
  have h2 : (y 2).val < 2048 := (y 2).isLt
  refine ⟨y 1, ⟨(y 2).val / 128, by omega⟩, ⟨(y 2).val % 128, by omega⟩, ?_⟩
  funext a
  apply Fin.ext
  fin_cases a
  · show (y 0).val = 0
    omega
  · rfl
  · show (y 2).val = (y 2).val / 128 * 128 + (y 2).val % 128
    omega

/-- The attention's array after the run is any array that holds the attention over the reals. -/
theorem arr4 {qr : Fin 8 → Fin 16 → Fin 4096 → Fin 256 → ℝ} {kr : Fin 8 → ℕ → Fin 256 → ℝ}
    (hq : ∀ b n i d, ((m ((c : Thread nD τ).loc main_arg0)) (ix4 b n i d) : EReal) = ((qr b n i d : ℝ) : EReal))
    (hk : ∀ b (j : Fin 4096) d, ((m ((c : Thread nD τ).loc main_arg1)) (ix3 b j d) : EReal) = ((kr b j.val d : ℝ) : EReal))
    (G : S8x4096x2048.Idx → Ideal .bf16)
    (hG : ∀ (b : Fin 8) (n : Fin 16) (i : Fin 4096) (l : Fin 128), (G (ix3 b i (⟨n.val * 128 + l.val, by omega⟩ : Fin 2048)) : EReal)
      = ((attn (sc (qr b n i) (kr b)) (vl (kr b)) (Finset.range (i.val + 1)) l : ℝ) : EReal)) :
    (dats m 0 c).arrAt 4 cfg0.N = G := by
  refine (dats m 0 c).arrAt_eq_of_covers 4 _ (by decide +kernel) fun t hf y => ?_
  blk_simp
  have hi1 : (grid0.coords t 1).val < 8 := (grid0.coords t 1).isLt
  obtain ⟨r, n, l, rfl⟩ := split_idx y
  have e : (win0_4.blk t).view.emb (ix3 (0 : Fin 1) r (⟨n.val * 128 + l.val, by omega⟩ : Fin 2048))
      = ix3 (grid0.coords t 0) (⟨512 * (grid0.coords t 1).val + r.val, by omega⟩ : Fin 4096) (⟨n.val * 128 + l.val, by omega⟩ : Fin 2048) := by
    blk_ext [idx4 t]
    show (grid0.coords t 1).val * 512 + r.val = _
    omega
  rw [e, after0_4]
  refine Eq.trans ?_ (hG (grid0.coords t 0) n ⟨512 * (grid0.coords t 1).val + r.val, by omega⟩ l).symm
  have hx0 : ∀ n (x : Fin 512) d, ((iblk m c 0 t : Vec Ideal S1x16x512x256 .bf16) (ix4 (0 : Fin 1) n x d) : EReal)
      = (((fun n (x : Fin 512) d => qr (grid0.coords t 0) n ⟨512 * (grid0.coords t 1).val + x.val, by omega⟩ d) n x d : ℝ) : EReal) :=
    fun n x d => (iblk0_apply m c t n x d).trans (hq _ _ _ _)
  have hx1 : ∀ (j : Fin 4096) d, ((iblk m c 1 t : Vec Ideal S1x4096x256 .bf16) (ix3 (0 : Fin 1) j d) : EReal) = ((kr (grid0.coords t 0) j.val d : ℝ) : EReal) :=
    fun j d => (iblk1_apply m c t j d).trans (hk _ _ _)
  by_cases h1 : t.val % 8 = 2 ∨ t.val % 8 = 5
  · have h0 : ¬(t.val % 8 = 0 ∨ t.val % 8 = 3 ∨ t.val % 8 = 6) := by omega
    rw [outsAt0_C m c t h0 h1]
    dsimp only
    exact outC _ _ _ _ _ _ _ _ _ _ _ _ _ _ _ _ _ _ _ _ _ _ _ _ hx0 hx1 _ _ _ _ n r l
  · by_cases h0 : t.val % 8 = 0 ∨ t.val % 8 = 3 ∨ t.val % 8 = 6
    · rw [outsAt0_A m c t (not_not.2 h0) h1]
      dsimp only
      exact outA _ _ _ _ _ _ _ _ _ _ _ _ _ _ _ _ _ _ _ _ _ _ _ _ hx0 hx1 _ _ _ _ n r l
    · rw [outsAt0_B m c t h0 h1]
      dsimp only
      exact outB _ _ _ _ _ _ _ _ _ _ _ _ _ _ _ _ _ _ _ _ _ _ _ _ hx0 hx1 _ _ _ _ n r l

/-- The cast weights' array after the run is the argument's slice. -/
theorem arr5 (G : S1024x4096.Idx → Ideal .bf16)
    (hG : ∀ (a : Fin 1024) (b : Fin 4096), G (ix2 a b) = (m ((c : Thread nD τ).loc main_arg2)) (ix3 (3 : Fin 4) a b)) :
    (dats m 0 c).arrAt 5 cfg0.N = G := by
  have hpay : ∀ (x : Vec Ideal S1x16x4096 .f32) (r : Fin 16) (l : Fin 4096), k0_pay629 (F := Ideal) x (ix2 r l) = x (ix3 (0 : Fin 1) r l) := by
    intro x r l
    pointwise [k0_pay629]
    congr 1
  refine (dats m 0 c).arrAt_eq_of_covers 5 _ (by decide +kernel) fun t hf y => ?_
  have ht : t.val < 64 := t.isLt
  blk_simp
  obtain ⟨r, l, rfl⟩ : ∃ (r : Fin 16) (l : Fin 4096), y = ix2 r l := ⟨y 0, y 1, by funext a; fin_cases a <;> rfl⟩
  have e : (win0_5.blk t).view.emb (ix2 r l) = ix2 (⟨16 * t.val + r.val, by omega⟩ : Fin 1024) l := by
    blk_ext [idx5 t]
    show t.val * 16 + r.val = _
    omega
  rw [e, hG, after0_5]
  have hx : (iblk m c 2 t : Vec Ideal S1x16x4096 .f32) (ix3 (0 : Fin 1) r l) = (m ((c : Thread nD τ).loc main_arg2)) (ix3 (3 : Fin 4) (⟨16 * t.val + r.val, by omega⟩ : Fin 1024) l) := by
    blk_ext [iblk, V_main_arg2, idx2 t]
    all_goals first
      | rfl
      | (show t.val * 16 + r.val = _; omega)
  refine Eq.trans ?_ ((hpay _ r l).trans hx)
  by_cases h1 : t.val % 8 = 2 ∨ t.val % 8 = 5
  · have h0 : ¬(t.val % 8 = 0 ∨ t.val % 8 = 3 ∨ t.val % 8 = 6) := by omega
    rw [outsAt0_C m c t h0 h1]
    frame_out
  · by_cases h0 : t.val % 8 = 0 ∨ t.val % 8 = 3 ∨ t.val % 8 = 6
    · rw [outsAt0_A m c t (not_not.2 h0) h1]
      frame_out
    · rw [outsAt0_B m c t h0 h1]
      frame_out

/-- The cast weights' array after the run is the argument's slice. -/
theorem arr6 (G : S4096x1024.Idx → Ideal .bf16)
    (hG : ∀ (a : Fin 4096) (b : Fin 1024), G (ix2 a b) = (m ((c : Thread nD τ).loc main_arg3)) (ix3 (3 : Fin 4) a b)) :
    (dats m 0 c).arrAt 6 cfg0.N = G := by
  have hpay : ∀ (x : Vec Ideal S1x64x1024 .f32) (r : Fin 64) (l : Fin 1024), k0_pay630 (F := Ideal) x (ix2 r l) = x (ix3 (0 : Fin 1) r l) := by
    intro x r l
    pointwise [k0_pay630]
    congr 1
  refine (dats m 0 c).arrAt_eq_of_covers 6 _ (by decide +kernel) fun t hf y => ?_
  have ht : t.val < 64 := t.isLt
  blk_simp
  obtain ⟨r, l, rfl⟩ : ∃ (r : Fin 64) (l : Fin 1024), y = ix2 r l := ⟨y 0, y 1, by funext a; fin_cases a <;> rfl⟩
  have e : (win0_6.blk t).view.emb (ix2 r l) = ix2 (⟨64 * t.val + r.val, by omega⟩ : Fin 4096) l := by
    blk_ext [idx6 t]
    show t.val * 64 + r.val = _
    omega
  rw [e, hG, after0_6]
  have hx : (iblk m c 3 t : Vec Ideal S1x64x1024 .f32) (ix3 (0 : Fin 1) r l) = (m ((c : Thread nD τ).loc main_arg3)) (ix3 (3 : Fin 4) (⟨64 * t.val + r.val, by omega⟩ : Fin 4096) l) := by
    blk_ext [iblk, V_main_arg3, idx3 t]
    all_goals first
      | rfl
      | (show t.val * 64 + r.val = _; omega)
  refine Eq.trans ?_ ((hpay _ r l).trans hx)
  by_cases h1 : t.val % 8 = 2 ∨ t.val % 8 = 5
  · have h0 : ¬(t.val % 8 = 0 ∨ t.val % 8 = 3 ∨ t.val % 8 = 6) := by omega
    rw [outsAt0_C m c t h0 h1]
    frame_out
  · by_cases h0 : t.val % 8 = 0 ∨ t.val % 8 = 3 ∨ t.val % 8 = 6
    · rw [outsAt0_A m c t (not_not.2 h0) h1]
      frame_out
    · rw [outsAt0_B m c t h0 h1]
      frame_out

end Cert.Attn

end
-- ==== Proof.Finite.lean ====
module

public import proofs.«01_k».proof.Proof.Gen.Pre_finite
public import Idealize.ShloMosaic.Lib.Pointwise
public import Idealize.ShloMosaic.Lib.ReduceAll

@[expose] public section

noncomputable section

namespace Cert.Attn

open Idealize.ShloMosaic Cert.Pre_finite

/-- A number whose absolute value compares below plus infinity is real. -/
theorem real_of_abs (x : Ideal .f32) (h : BitVec.ofBool (decide (FloatOps.absf x < Ideal.ofBits .f32 0x7F800000#32)) = 1#1) : ∃ r : ℝ, (x : EReal) = (r : EReal) := by
  have e : Ideal.ofBits .f32 0x7F800000#32 = ⊤ := by simp [Ideal.ofBits, Ideal.ieee]
  rw [e] at h
  have h' : max (x : EReal) (-x : EReal) < ⊤ := by
    by_contra hn
    have : ¬ (FloatOps.absf x : EReal) < ⊤ := hn
    rw [decide_eq_false this] at h
    exact absurd h (by decide)
  change EReal at x
  induction x with
  | bot => simp at h'
  | top => simp at h'
  | coe r => exact ⟨r, rfl⟩

/-- Under the precondition every query and every key is real. -/
theorem real_of_pre (q : FVec Ideal S8x16x4096x256 .bf16) (kv : FVec Ideal S8x4096x256 .bf16) (w1 : FVec Ideal S4x1024x4096 .f32) (w2 : FVec Ideal S4x4096x1024 .f32)
    (h : Cert.Pre_finite.fn (F := Ideal) q kv w1 w2 = fun _ => 1#1) :
    (∀ b n i d, ∃ x : ℝ, (q (ix4 b n i d) : EReal) = (x : EReal)) ∧ ∀ b j d, ∃ x : ℝ, (kv (ix3 b j d) : EReal) = (x : EReal) := by
  have h0 := congrFun h ix0
  dsimp only [Cert.Pre_finite.fn] at h0
  obtain ⟨h1, h2⟩ := IntOp.andi_eq_one.1 h0
  have : Subsingleton S_.Idx := ⟨fun a b => by funext k; exact k.elim0⟩
  refine ⟨fun b n i d => ?_, fun b j d => ?_⟩
  · have h3 := Host.reduce_andi_all _ _ _ _ _ h1 (ix4 b n i d)
    pointwise at h3
    exact real_of_abs _ h3
  · have h3 := Host.reduce_andi_all _ _ _ _ _ h2 (ix3 b j d)
    pointwise at h3
    exact real_of_abs _ h3

end Cert.Attn

end
-- ==== Proof.Algebraic.lean ====
module

public import proofs.«01_k».proof.Defs
public import proofs.«01_k».proof.Proof.Arrays
public import proofs.«01_k».proof.Proof.Finite

@[expose] public section

noncomputable section

namespace Cert.Attn

open Idealize.ShloMosaic hiding ix1 ix2 ix3 ix4
open Idealize.ShloMosaic.ValueIdx Idealize.SL.Sem

/-- The two ways of writing an index of a rank agree. -/
theorem ix2_eq {a b : ℕ} (i : Fin a) (j : Fin b) : Idealize.ShloMosaic.ix2 i j = ix2 i j := by funext k; fin_cases k <;> rfl
theorem ix3_eq {a b d : ℕ} (i : Fin a) (j : Fin b) (k : Fin d) : Idealize.ShloMosaic.ix3 i j k = ix3 i j k := by funext k; fin_cases k <;> rfl
theorem ix4_eq {a b d e : ℕ} (i : Fin a) (j : Fin b) (k : Fin d) (l : Fin e) : Idealize.ShloMosaic.ix4 i j k l = ix4 i j k l := by funext k; fin_cases k <;> rfl

/-- The reference's first cast, entry by entry. -/
theorem cast1 (x : FVec Ideal Cert.ReferenceIdeal.S4x1024x4096 .f32) (a : Fin 1024) (b : Fin 4096) :
    (truncf .bf16 (shapeCast Cert.ReferenceIdeal.S1024x4096 (extractStridedSlice Cert.ReferenceIdeal.S1x1024x4096 ![3, 0, 0] x Cert.ReferenceIdeal.Facts₀.slices_S4x1024x4096_S1x1024x4096_3_0_0) Cert.ReferenceIdeal.Facts₀.shapeCasts_S1x1024x4096_S1024x4096) Cert.ReferenceIdeal.Facts₀.bitsLt_bf16_f32 : FVec Ideal Cert.ReferenceIdeal.S1024x4096 .bf16) (ix2 a b)
      = x (ix3 (3 : Fin 4) a b) := by
  rw [← ix2_eq, ← ix3_eq]
  pointwise

theorem cast2 (x : FVec Ideal Cert.ReferenceIdeal.S4x4096x1024 .f32) (a : Fin 4096) (b : Fin 1024) :
    (truncf .bf16 (shapeCast Cert.ReferenceIdeal.S4096x1024 (extractStridedSlice Cert.ReferenceIdeal.S1x4096x1024 ![3, 0, 0] x Cert.ReferenceIdeal.Facts₀.slices_S4x4096x1024_S1x4096x1024_3_0_0) Cert.ReferenceIdeal.Facts₀.shapeCasts_S1x4096x1024_S4096x1024) Cert.ReferenceIdeal.Facts₀.bitsLt_bf16_f32 : FVec Ideal Cert.ReferenceIdeal.S4096x1024 .bf16) (ix2 a b)
      = x (ix3 (3 : Fin 4) a b) := by
  rw [← ix2_eq, ← ix3_eq]
  pointwise

/-- The kernel computes the reference's values over the extended reals, from finite queries and keys. -/
theorem algebraic : Cert.algebraic_KernelIdeal_ReferenceIdeal_pre_finite := by
  intro m g m' g' hpre hag
  refine ⟨_, _, _, ?_, (θ_run _ _ _).mono (fun r h c => h c) (Cert.ReferenceIdeal.Value.run m' g')⟩
  refine (θ_run _ _ _).mono (fun r h c => ?_) (Cert.KernelIdeal.Value.run_blocks m g)
  obtain ⟨h0, h1, h2, k0, k1, k2, k3⟩ := h c
  obtain ⟨a0, a1, a2, a3⟩ := hag c
  obtain ⟨hq, hk⟩ := real_of_pre _ _ _ _ (hpre c)
  choose qr hq using hq
  choose kr hk using hk
  refine ⟨h0.trans ?_, h1.trans ?_, h2.trans ?_, k0, k1, k2, k3⟩
  · refine arr4 m c (qr := qr) (kr := fun b j d => if h : j < 4096 then kr b ⟨j, h⟩ d else 0) (fun b n i d => ?_) (fun b j d => ?_) _ fun b n i l => ?_
    · rw [← ix4_eq]; exact hq b n i d
    · rw [← ix3_eq, dif_pos j.isLt]; exact hk b j d
    · show (Cert.ReferenceIdeal.Value.res_out0 m' c (ix3 b i _) : EReal) = _
      rw [Ref.res_eq, a0, a1, ← ix3_eq]
      exact Ref.ref_val _ _ b n i l (hq b n i) (fun j d => by rw [dif_pos j.isLt]; exact hk b j d)
  · refine arr5 m c _ fun a b => ?_
    rw [a2]
    exact cast1 _ a b
  · refine arr6 m c _ fun a b => ?_
    rw [a3]
    exact cast2 _ a b

end Cert.Attn

end
-- ==== Proof.Ffn.lean ====
module

public import Idealize.ShloMosaic.Lib.Pointwise
public import Idealize.ShloMosaic.Lib.ValueIdx

@[expose] public section

noncomputable section

/-! The channel mixer of one token, over the extended reals, and its sum over the hidden units in four parts. -/

namespace Cert.Ffn

open Idealize.ShloMosaic

/-- A token's normalised and modulated features. -/
def hid (X g sh sc : Fin 1024 → EReal) (k : Fin 1024) : EReal :=
  X k * Ideal.rsqrt (Ideal.div (∑ j, X j * X j) (Ideal.ofBits FTy.f32 1149239296#32) + Ideal.ofBits FTy.f32 897988541#32) * g k * (1 + sc k) + sh k

/-- What a hidden unit with the weights `u` adds to a feature, by the weight `w` of its square. -/
def unit (h u : Fin 1024 → EReal) (w : EReal) : EReal :=
  max (∑ k, h k * u k) 0 * max (∑ k, h k * u k) 0 * w

/-- The mixer's result with the token added. -/
def ffn (X g sh sc gt : Fin 1024 → EReal) (w1 : Fin 1024 → Fin 4096 → EReal) (w2 : Fin 4096 → Fin 1024 → EReal) (d : Fin 1024) : EReal :=
  X d + gt d * ∑ f, unit (hid X g sh sc) (fun k => w1 k f) (w2 f d)

/-- The hidden unit of a part. -/
def at4 (p : Fin 4) (f : Fin 1024) : Fin 4096 := ⟨1024 * p.val + f.val, by omega⟩

/-- A sum over the hidden units, part after part. -/
theorem sum_parts (t : Fin 4096 → EReal) :
    ∑ f, t (at4 0 f) + ∑ f, t (at4 1 f) + ∑ f, t (at4 2 f) + ∑ f, t (at4 3 f) = ∑ f, t f := by
  have e : ∑ f : Fin 4096, t f = ∑ p : Fin 4 × Fin 1024, t (at4 p.1 p.2) := by
    refine (Fintype.sum_equiv (finProdFinEquiv (m := 4) (n := 1024)) _ _ fun p => ?_).symm
    refine congrArg t (Fin.ext ?_)
    show 1024 * p.1.val + p.2.val = p.2.val + 1024 * p.1.val
    omega
  rw [e, Fintype.sum_prod_type, Fin.sum_univ_four]

end Cert.Ffn

end
-- ==== Proof.MlpBlock.lean ====
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import proofs.«01_k».proof.Proof.Ffn

@[expose] public section

set_option maxRecDepth 16384

noncomputable section

namespace Cert.MlpVal

open Idealize.ShloMosaic Cert.MlpIdeal Cert.MlpIdeal.Gen

/-- The first half's normalised rows. -/
theorem hid_first (v : Vec Ideal S1x512x1024 .f32) (g : Vec Ideal S1x1024 .f32) (sh sc : Vec Ideal S1x1x1x1024 .f32) (r : Fin 512) (k : Fin 1024) :
    (k0_pay4 (F := Ideal) v g sh sc (ix2 r k) : EReal)
      = Ffn.hid (fun k => v (ix3 0 r k)) (fun k => g (ix2 0 k)) (fun k => sh (ix4 0 0 0 k)) (fun k => sc (ix4 0 0 0 k)) k := by
  pointwise [k0_pay4, k0_pay2]
  rfl

/-- The second half's normalised rows. -/
theorem hid_second (v : Vec Ideal S1x512x1024 .f32) (g : Vec Ideal S1x1024 .f32) (sh sc : Vec Ideal S1x1x1x1024 .f32) (r : Fin 512) (k : Fin 1024) :
    (k0_pay13 (F := Ideal) (k0_pay6 v) (k0_pay8 g) (k0_pay9 sh) (k0_pay10 sc) (k0_pay11 v) k0_pay12 (ix2 r k) : EReal)
      = Ffn.hid (fun k => v (ix3 0 r k)) (fun k => g (ix2 0 k)) (fun k => sh (ix4 0 0 0 k)) (fun k => sc (ix4 0 0 0 k)) k := by
  pointwise [k0_pay13, k0_pay6, k0_pay8, k0_pay9, k0_pay10, k0_pay11, k0_pay12]
  rfl

/-- What a part of the hidden units gives. -/
def part (h : Vec Ideal S512x1024 .bf16) (a b : Vec Ideal S1024x1024 .bf16) (r : Fin 512) (d : Fin 1024) : EReal :=
  ∑ f : Fin 1024, Ffn.unit (fun k => h (ix2 r k)) (fun k => a (ix2 k f)) (b (ix2 f d))

section
variable (h : Vec Ideal S512x1024 .bf16) (a b : Vec Ideal S1024x1024 .bf16) (acc : Vec Ideal S512x1024 .f32) (r : Fin 512) (d : Fin 1024)

theorem pay5_apply : (k0_pay5 (F := Ideal) h a b (ix2 r d) : EReal) = part h a b r d := by pointwise [k0_pay5]; rfl
theorem pay16_apply : (k0_pay16 (F := Ideal) (k0_pay15 h a) b (ix2 r d) : EReal) = part h a b r d := by pointwise [k0_pay16, k0_pay15]; rfl
theorem pay14_apply : (k0_pay14 (F := Ideal) h a b acc (ix2 r d) : EReal) = acc (ix2 r d) + part h a b r d := by pointwise [k0_pay14]; rfl
theorem pay17_apply : (k0_pay17 (F := Ideal) h a b acc (ix2 r d) : EReal) = acc (ix2 r d) + part h a b r d := by pointwise [k0_pay17]; rfl
theorem pay20_apply : (k0_pay20 (F := Ideal) h a b acc (ix2 r d) : EReal) = acc (ix2 r d) + part h a b r d := by pointwise [k0_pay20]; rfl
theorem pay24_apply : (k0_pay24 (F := Ideal) h a b acc (ix2 r d) : EReal) = acc (ix2 r d) + part h a b r d := by pointwise [k0_pay24]; rfl
theorem pay19_apply : (k0_pay19 (F := Ideal) (k0_pay18 h a b) acc (ix2 r d) : EReal) = acc (ix2 r d) + part h a b r d := by pointwise [k0_pay19, k0_pay18]; rfl
theorem pay22_apply : (k0_pay22 (F := Ideal) (k0_pay21 h a b acc) (ix2 r d) : EReal) = acc (ix2 r d) + part h a b r d := by pointwise [k0_pay22, k0_pay21]; rfl
end

/-- The first half's last stage. -/
theorem last_first (v : Vec Ideal S1x512x1024 .f32) (gt : Vec Ideal S1x1x1x1024 .f32) (acc : Vec Ideal S512x1024 .f32) (r : Fin 512) (d : Fin 1024) :
    (k0_pay23 (F := Ideal) (k0_pay3 v) gt acc (ix3 0 r d) : EReal) = v (ix3 0 r d) + gt (ix4 0 0 0 d) * acc (ix2 r d) := by
  pointwise [k0_pay23, k0_pay3, k0_pay2]

/-- The second half's last stage. -/
theorem last_second (v : Vec Ideal S1x512x1024 .f32) (gt : Vec Ideal S1x1x1x1024 .f32) (acc : Vec Ideal S512x1024 .f32) (r : Fin 512) (d : Fin 1024) :
    (k0_pay1 (F := Ideal) (k0_pay7 v) gt acc (ix3 0 r d) : EReal) = v (ix3 0 r d) + gt (ix4 0 0 0 d) * acc (ix2 r d) := by
  pointwise [k0_pay1, k0_pay7, k0_pay6]

/-- The four parts of a row, with weights read from the whole arrays. -/
theorem parts (h : Vec Ideal S512x1024 .bf16) (a b : Fin 4 → Vec Ideal S1024x1024 .bf16) (r : Fin 512) (d : Fin 1024)
    {H : Fin 1024 → EReal} {w1 : Fin 1024 → Fin 4096 → EReal} {w2 : Fin 4096 → Fin 1024 → EReal}
    (hH : ∀ k, (h (ix2 r k) : EReal) = H k)
    (ha : ∀ p k f, (a p (ix2 k f) : EReal) = w1 k (Ffn.at4 p f)) (hb : ∀ p f, (b p (ix2 f d) : EReal) = w2 (Ffn.at4 p f) d) :
    part h (a 0) (b 0) r d + part h (a 1) (b 1) r d + part h (a 2) (b 2) r d + part h (a 3) (b 3) r d
      = ∑ f, Ffn.unit H (fun k => w1 k f) (w2 f d) := by
  have e : ∀ p, part h (a p) (b p) r d = ∑ f, Ffn.unit H (fun k => w1 k (Ffn.at4 p f)) (w2 (Ffn.at4 p f) d) := fun p => by
    unfold part
    refine Finset.sum_congr rfl fun f _ => ?_
    simp only [hH, ha, hb]
  rw [e, e, e, e]
  exact Ffn.sum_parts fun f => Ffn.unit H (fun k => w1 k f) (w2 f d)

section
variable (v : Vec Ideal S1x512x1024 .f32) (g : Vec Ideal S1x1024 .f32) (sh sc gt : Vec Ideal S1x1x1x1024 .f32) (a b : Fin 4 → Vec Ideal S1024x1024 .bf16)
  (r : Fin 512) (d : Fin 1024) {X sh' sc' gt' : Fin 1024 → EReal} {w1 : Fin 1024 → Fin 4096 → EReal} {w2 : Fin 4096 → Fin 1024 → EReal}
  (hv : ∀ k, (v (ix3 0 r k) : EReal) = X k) (hsh : ∀ k, (sh (ix4 0 0 0 k) : EReal) = sh' k) (hsc : ∀ k, (sc (ix4 0 0 0 k) : EReal) = sc' k)
  (hgt : ∀ k, (gt (ix4 0 0 0 k) : EReal) = gt' k)
  (ha : ∀ p k f, (a p (ix2 k f) : EReal) = w1 k (Ffn.at4 p f)) (hb : ∀ p f d, (b p (ix2 f d) : EReal) = w2 (Ffn.at4 p f) d)

include hv hsh hsc hgt ha hb

/-- What the first half's last store holds. -/
theorem first_half :
    (k0_pay23 (F := Ideal) (k0_pay3 v) gt (k0_pay20 (k0_pay4 v g sh sc) (a 3) (b 3) (k0_pay17 (k0_pay4 v g sh sc) (a 2) (b 2)
      (k0_pay14 (k0_pay4 v g sh sc) (a 1) (b 1) (k0_pay5 (k0_pay4 v g sh sc) (a 0) (b 0))))) (ix3 0 r d) : EReal)
      = Ffn.ffn X (fun k => g (ix2 0 k)) sh' sc' gt' w1 w2 d := by
  rw [last_first, pay20_apply, pay17_apply, pay14_apply, pay5_apply,
    parts _ a b r d (fun k => hid_first v g sh sc r k) ha (fun p f => hb p f d)]
  simp only [hv, hsh, hsc, hgt]
  rfl

/-- What the second half's last store holds. -/
theorem second_half :
    (k0_pay1 (F := Ideal) (k0_pay7 v) gt (k0_pay24 (k0_pay13 (k0_pay6 v) (k0_pay8 g) (k0_pay9 sh) (k0_pay10 sc) (k0_pay11 v) k0_pay12) (a 3) (b 3)
      (k0_pay22 (k0_pay21 (k0_pay13 (k0_pay6 v) (k0_pay8 g) (k0_pay9 sh) (k0_pay10 sc) (k0_pay11 v) k0_pay12) (a 2) (b 2)
      (k0_pay19 (k0_pay18 (k0_pay13 (k0_pay6 v) (k0_pay8 g) (k0_pay9 sh) (k0_pay10 sc) (k0_pay11 v) k0_pay12) (a 1) (b 1))
      (k0_pay16 (k0_pay15 (k0_pay13 (k0_pay6 v) (k0_pay8 g) (k0_pay9 sh) (k0_pay10 sc) (k0_pay11 v) k0_pay12) (a 0)) (b 0)))))) (ix3 0 r d) : EReal)
      = Ffn.ffn X (fun k => g (ix2 0 k)) sh' sc' gt' w1 w2 d := by
  rw [last_second, pay24_apply, pay22_apply, pay19_apply, pay16_apply,
    parts _ a b r d (fun k => hid_second v g sh sc r k) ha (fun p f => hb p f d)]
  simp only [hv, hsh, hsc, hgt]
  rfl

end

section
variable (x0 : Vec Ideal S1x1024x1024 .f32) (x1 : Vec Ideal S1x1x6x1024 .f32) (x3 : Vec Ideal S1024x4096 .bf16) (x4 : Vec Ideal S4096x1024 .bf16)

theorem ld_row (n : Fin 6) {o : ℕ} (ho : o = n.val) (h : ∀ a, (![0, 0, o, 0] : Fin 4 → ℕ) a + (![1, 1, 1, 1024] : Fin 4 → ℕ) a ≤ S1x1x6x1024.size a) (k : Fin 1024) :
    View.ld x1 (Rect.unit ![0, 0, o, 0] ![1, 1, 1, 1024] h) (ix4 0 0 0 k) = x1 (ix4 0 0 n k) := by
  refine View.ld_unit_apply_of _ _ _ _ _ _ fun a => ?_
  fin_cases a
  · rfl
  · rfl
  · show n.val = o + 0
    omega
  · show k.val = 0 + k.val
    omega

theorem ld_w1 (p : Fin 4) {o : ℕ} (ho : o = 1024 * p.val) (h : ∀ a, (![0, o] : Fin 2 → ℕ) a + (![1024, 1024] : Fin 2 → ℕ) a ≤ S1024x4096.size a) (k f : Fin 1024) :
    View.ld x3 (Rect.unit ![0, o] ![1024, 1024] h) (ix2 k f) = x3 (ix2 k (Ffn.at4 p f)) := by
  refine View.ld_unit_apply_of _ _ _ _ _ _ fun a => ?_
  fin_cases a
  · show k.val = 0 + k.val
    omega
  · show 1024 * p.val + f.val = o + f.val
    omega

theorem ld_w2 (p : Fin 4) {o : ℕ} (ho : o = 1024 * p.val) (h : ∀ a, (![o, 0] : Fin 2 → ℕ) a + (![1024, 1024] : Fin 2 → ℕ) a ≤ S4096x1024.size a) (f d : Fin 1024) :
    View.ld x4 (Rect.unit ![o, 0] ![1024, 1024] h) (ix2 f d) = x4 (ix2 (Ffn.at4 p f) d) := by
  refine View.ld_unit_apply_of _ _ _ _ _ _ fun a => ?_
  fin_cases a
  · show 1024 * p.val + f.val = o + f.val
    omega
  · show d.val = 0 + d.val
    omega

/-- The columns of the first weights that make a part. -/
def w1Part (p : Fin 4) : Vec Ideal S1024x1024 .bf16 :=
  View.ld x3 (Rect.unit ![0, 1024 * p.val] ![1024, 1024] (by intro a; fin_cases a <;> simp <;> omega))

/-- The rows of the second weights that make a part. -/
def w2Part (p : Fin 4) : Vec Ideal S1024x1024 .bf16 :=
  View.ld x4 (Rect.unit ![1024 * p.val, 0] ![1024, 1024] (by intro a; fin_cases a <;> simp <;> omega))

theorem w1Part_apply (p : Fin 4) (k f : Fin 1024) : w1Part x3 p (ix2 k f) = x3 (ix2 k (Ffn.at4 p f)) := ld_w1 x3 p rfl _ k f

theorem w2Part_apply (p : Fin 4) (f d : Fin 1024) : w2Part x4 p (ix2 f d) = x4 (ix2 (Ffn.at4 p f) d) := ld_w2 x4 p rfl _ f d

/-- The row of a half. -/
def row (b : Fin 2) (r : Fin 512) : Fin 1024 := ⟨512 * b.val + r.val, by omega⟩

theorem ld_x (b : Fin 2) {o : ℕ} (ho : o = 512 * b.val) (h : ∀ a, (![0, o, 0] : Fin 3 → ℕ) a + (![1, 512, 1024] : Fin 3 → ℕ) a ≤ S1x1024x1024.size a) (r : Fin 512) (d : Fin 1024) :
    View.ld x0 (Rect.unit ![0, o, 0] ![1, 512, 1024] h) (ix3 0 r d) = x0 (ix3 0 (row b r) d) := by
  refine View.ld_unit_apply_of _ _ _ _ _ _ fun a => ?_
  fin_cases a
  · rfl
  · show 512 * b.val + r.val = o + r.val
    omega
  · show d.val = 0 + d.val
    omega

/-- The block that the kernel leaves, as one function of the blocks that it reads. -/
def G (x2 : Vec Ideal S1x1024 .f32) : S1x1024x1024.Idx → Ideal .f32 := fun y =>
  Ffn.ffn (fun k => x0 (ix3 0 (y 1) k)) (fun k => x2 (ix2 0 k)) (fun k => x1 (ix4 0 0 3 k)) (fun k => x1 (ix4 0 0 4 k)) (fun k => x1 (ix4 0 0 5 k))
    (fun k f => x3 (ix2 k f)) (fun f d => x4 (ix2 f d)) (y 2)

/-- An index of a half's block. -/
theorem idx_half (x : S1x512x1024.Idx) : x = ix3 (0 : Fin 1) (x 1 : Fin 512) (x 2 : Fin 1024) := by
  funext a
  apply Fin.ext
  fin_cases a
  · have : (x 0).val < 1 := (x 0).isLt
    show (x 0).val = 0
    omega
  · rfl
  · rfl

theorem emb_half (b : Fin 2) {o : ℕ} (ho : o = 512 * b.val) (h : ∀ a, (![0, o, 0] : Fin 3 → ℕ) a + (![1, 512, 1024] : Fin 3 → ℕ) a ≤ S1x1024x1024.size a) (r : Fin 512) (d : Fin 1024) :
    (Rect.unit ![0, o, 0] ![1, 512, 1024] h).emb (ix3 0 r d) = ix3 0 (row b r) d := by
  funext a
  apply Fin.ext
  refine (Rect.idx_unit_val _ _ h _ a).trans ?_
  fin_cases a
  · rfl
  · show o + r.val = 512 * b.val + r.val
    omega
  · show 0 + d.val = d.val
    omega

end

variable (c : Dev nD) (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1024 .f32) (harg9 : arg9.IsWhole)
    (x0 : Vec Ideal S1x1024x1024 .f32) (x1 : Vec Ideal S1x1x6x1024 .f32) (x2 : Vec Ideal S1x1024 .f32) (x3 : Vec Ideal S1024x4096 .bf16) (x4 : Vec Ideal S4096x1024 .bf16)

/-- What the kernel leaves in a block. -/
theorem out_eq (y : S1x1024x1024.Idx) :
    out0_A_5 (F := Ideal) c i arg2 harg2 arg3 harg3 arg4 harg4 arg5 harg5 arg6 harg6 arg7 harg7 arg8 harg8 arg9 harg9 x0 x1 x2 x3 x4 y = G x0 x1 x3 x4 x2 y := by
  frame_open
  simp (disch := decide) only [↓ View.readCov_skip, ↓ View.readCov_cons_toLoadRect, ↓ View.readCov_fill]
  frame_out
  refine View.canon_append_of_piecesOf (Val := Elt Ideal) (e := .f32) (G x0 x1 x3 x4 x2) [_, _] [_, _] ⟨fun x => ?_, fun x => ?_, trivial⟩ y ?_
  · obtain ⟨r, d, rfl⟩ : ∃ (r : Fin 512) (d : Fin 1024), x = ix3 (0 : Fin 1) r d := ⟨x 1, x 2, idx_half x⟩
    exact (second_half (w1 := fun k f => x3 (ix2 k f)) (w2 := fun f d => x4 (ix2 f d)) _ x2 _ _ _ (w1Part x3) (w2Part x4) r d (ld_x x0 1 rfl _ r) (ld_row x1 3 rfl _) (ld_row x1 4 rfl _) (ld_row x1 5 rfl _)
      (w1Part_apply x3) (w2Part_apply x4)).trans
      (congrArg (G x0 x1 x3 x4 x2) (emb_half 1 (o := 512) rfl inb_S1x1024x1024_S1x512x1024_0_512_0 r d).symm)
  · obtain ⟨r, d, rfl⟩ : ∃ (r : Fin 512) (d : Fin 1024), x = ix3 (0 : Fin 1) r d := ⟨x 1, x 2, idx_half x⟩
    exact (first_half (w1 := fun k f => x3 (ix2 k f)) (w2 := fun f d => x4 (ix2 f d)) _ x2 _ _ _ (w1Part x3) (w2Part x4) r d (ld_x x0 0 rfl _ r) (ld_row x1 3 rfl _) (ld_row x1 4 rfl _) (ld_row x1 5 rfl _)
      (w1Part_apply x3) (w2Part_apply x4)).trans
      (congrArg (G x0 x1 x3 x4 x2) (emb_half 0 (o := 0) rfl inb_S1x1024x1024_S1x512x1024_0_0_0 r d).symm)
  · exact View.cover_of_tiledL _ ![1, 512, 1024] (by sl_kernel_rfl) y

end Cert.MlpVal
-- ==== Proof.MlpAlgebraic.lean ====
module

public import proofs.«01_k».proof.Defs
public import proofs.«01_k».proof.Proof.MlpBlock
public import proofs.«01_k».proof.Proof.Gen.MlpReferenceIdeal.Run

@[expose] public section

set_option maxRecDepth 16384

noncomputable section

namespace Cert.MlpVal

open Idealize.ShloMosaic Idealize.ShloMosaic.TcCoe Idealize.SL.Sem

/-- The reference's result, entry by entry. -/
theorem ref_apply (m : (ℓ : Loc Cert.MlpReferenceIdeal.nD Cert.MlpReferenceIdeal.τ Cert.MlpReferenceIdeal.sig) → Buf (Elt Ideal) ℓ)
    (c : Dev Cert.MlpReferenceIdeal.nD) (b : Fin 8) (r : Fin 4096) (d : Fin 1024) :
    (Cert.MlpReferenceIdeal.Value.res_out0 m c (ix3 b r d) : Ideal .f32)
      = (Ffn.ffn (fun k => m ((c.tc : Thread _ _).loc Cert.MlpReferenceIdeal.main_arg0) (ix3 b r k))
        (fun k => m ((c.tc : Thread _ _).loc Cert.MlpReferenceIdeal.main_arg2) (ix1 k))
        (fun k => m ((c.tc : Thread _ _).loc Cert.MlpReferenceIdeal.main_arg1) (ix4 1 b 3 k))
        (fun k => m ((c.tc : Thread _ _).loc Cert.MlpReferenceIdeal.main_arg1) (ix4 1 b 4 k))
        (fun k => m ((c.tc : Thread _ _).loc Cert.MlpReferenceIdeal.main_arg1) (ix4 1 b 5 k))
        (fun k f => m ((c.tc : Thread _ _).loc Cert.MlpReferenceIdeal.main_arg3) (ix2 k f))
        (fun f k => m ((c.tc : Thread _ _).loc Cert.MlpReferenceIdeal.main_arg4) (ix2 f k)) d : EReal) := by
  pointwise [Cert.MlpReferenceIdeal.Value.res_out0, Cert.MlpReferenceIdeal.Value.res_main_v39]
  rfl

section
open Cert.MlpIdeal Cert.MlpIdeal.Gen
variable (m : (ℓ : Loc nD τ sig) → Buf (Elt Ideal) ℓ) (c : Dev nD)

theorem idx0 : ∀ t : Fin cfg0.N, win0_0.index t = ![(grid0.coords t 0).val, (grid0.coords t 1).val, 0] := by decide +kernel
theorem idx1 : ∀ t : Fin cfg0.N, win0_1.index t = ![1, (grid0.coords t 0).val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![(grid0.coords t 0).val, (grid0.coords t 1).val, 0] := by decide +kernel

/-- The array's row of a block's row. -/
def token (t : Fin cfg0.N) (r : Fin 1024) : Fin 4096 :=
  ⟨1024 * (grid0.coords t 1).val + r.val, by have h : (grid0.coords t 1).val < 4 := (grid0.coords t 1).isLt; omega⟩

theorem iblk0_apply (t : Fin cfg0.N) (r d : Fin 1024) :
    (iblk m c 0 t : Vec Ideal S1x1024x1024 .f32) (ix3 0 r d) = (m ((c : Thread nD τ).loc main_arg0)) (ix3 (grid0.coords t 0) (token t r) d) := by
  blk_ext [iblk, V_main_arg0, idx0 t]
  show (grid0.coords t 1).val * 1024 + r.val = 1024 * (grid0.coords t 1).val + r.val
  omega

theorem iblk1_apply (t : Fin cfg0.N) (n : Fin 6) (k : Fin 1024) :
    (iblk m c 1 t : Vec Ideal S1x1x6x1024 .f32) (ix4 0 0 n k) = (m ((c : Thread nD τ).loc main_arg1)) (ix4 1 (grid0.coords t 0) n k) := by
  blk_ext [iblk, V_main_arg1, idx1 t]

theorem iblk2_apply (t : Fin cfg0.N) (k : Fin 1024) :
    (iblk m c 2 t : Vec Ideal S1x1024 .f32) (ix2 0 k) = (m ((c : Thread nD τ).loc main_arg2)) (ix1 k) := by
  blk_ext! [iblk, V, idx2 t]

theorem iblk3_apply (t : Fin cfg0.N) (k : Fin 1024) (f : Fin 4096) :
    (iblk m c 3 t : Vec Ideal S1024x4096 .bf16) (ix2 k f) = (m ((c : Thread nD τ).loc main_arg3)) (ix2 k f) := by
  blk_ext [iblk, V_main_arg3, idx3 t]

theorem iblk4_apply (t : Fin cfg0.N) (f : Fin 4096) (k : Fin 1024) :
    (iblk m c 4 t : Vec Ideal S4096x1024 .bf16) (ix2 f k) = (m ((c : Thread nD τ).loc main_arg4)) (ix2 f k) := by
  blk_ext [iblk, V_main_arg4, idx4 t]

attribute [local irreducible] out0_A_5 Ffn.ffn

/-- An index of a block. -/
theorem idx_block (y : S1x1024x1024.Idx) : y = ix3 (0 : Fin 1) (y 1 : Fin 1024) (y 2 : Fin 1024) := by
  funext a
  apply Fin.ext
  fin_cases a
  · have : (y 0).val < 1 := (y 0).isLt
    show (y 0).val = 0
    omega
  · rfl
  · rfl

/-- The array after the run is any array that holds the mixer's values. -/
theorem arr (A : S8x4096x1024.Idx → Ideal .f32)
    (hA : ∀ b r d, (A (ix3 b r d) : EReal) = Ffn.ffn (fun k => m ((c : Thread nD τ).loc main_arg0) (ix3 b r k))
        (fun k => m ((c : Thread nD τ).loc main_arg2) (ix1 k))
        (fun k => m ((c : Thread nD τ).loc main_arg1) (ix4 1 b 3 k))
        (fun k => m ((c : Thread nD τ).loc main_arg1) (ix4 1 b 4 k))
        (fun k => m ((c : Thread nD τ).loc main_arg1) (ix4 1 b 5 k))
        (fun k f => m ((c : Thread nD τ).loc main_arg3) (ix2 k f))
        (fun f k => m ((c : Thread nD τ).loc main_arg4) (ix2 f k)) d) :
    (dats m 0 c).arrAt 5 cfg0.N = A := by
  refine (dats m 0 c).arrAt_eq_of_covers 5 _ (by decide +kernel) fun t hf y => ?_
  blk_simp
  obtain ⟨r, d, rfl⟩ : ∃ (r : Fin 1024) (d : Fin 1024), y = ix3 (0 : Fin 1) r d := ⟨y 1, y 2, idx_block y⟩
  have e : (win0_5.blk t).view.emb (ix3 (0 : Fin 1) r d) = ix3 (grid0.coords t 0) (token t r) d := by
    blk_ext [idx5 t]
    show (grid0.coords t 1).val * 1024 + r.val = 1024 * (grid0.coords t 1).val + r.val
    omega
  rw [e, after0_5]
  refine Eq.trans ?_ (hA _ _ _).symm
  refine (out_eq c _ _ _ _ _ _ _ _ _ _ _ _ _ _ _ _ _ _ _ _ _ _ _).trans ?_
  show Ffn.ffn _ _ _ _ _ _ _ d = _
  simp only [← iblk0_apply m c t, ← iblk1_apply m c t, ← iblk2_apply m c t, ← iblk3_apply m c t, ← iblk4_apply m c t]
  rfl

end

/-- The channel mixer's kernel computes the reference's values over the extended reals. -/
theorem algebraic : Cert.algebraic_MlpIdeal_MlpReferenceIdeal := by
  intro m g m' g' _ hag
  refine ⟨_, ?_, (θ_run _ _ _).mono (fun r h c => h c) (Cert.MlpReferenceIdeal.Value.run m' g')⟩
  refine (θ_run _ _ _).mono (fun r h c => ?_) (Cert.MlpIdeal.Value.run_blocks m g)
  obtain ⟨h0, k⟩ := h c
  obtain ⟨a0, a1, a2, a3, a4⟩ := hag c
  refine ⟨h0.trans ?_, k⟩
  refine arr m c _ fun b r d => (ref_apply m' c b r d).trans ?_
  rw [a0, a1, a2, a3, a4]

end Cert.MlpVal

end
-- ==== Proof.MlpAttnBlock.lean ====
module

public import proofs.«01_k».proof.Proof.Gen.MlpAttnIdeal.Value
public import Idealize.ShloMosaic.Lib.Pipeline.ValueKit
public import Idealize.ShloMosaic.Lib.Pipeline.ReadBack
public import Idealize.ShloMosaic.Lib.Pointwise
public import proofs.«01_k».proof.Proof.MlpBlock

@[expose] public section

set_option maxRecDepth 16384

noncomputable section

namespace Cert.MlpAttnVal

open Cert.MlpVal (part parts w1Part w2Part w1Part_apply w2Part_apply ld_row ld_x idx_half emb_half)
open Idealize.ShloMosaic Cert.MlpAttnIdeal Cert.MlpAttnIdeal.Gen

/-- A row with the attention's projection added. -/
def mixed (v : Vec Ideal S1x512x1024 .f32) (u : Vec Ideal S1x512x2048 .bf16) (w : Vec Ideal S2048x1024 .bf16) (gm : Vec Ideal S1x1x1x1024 .f32) (r : Fin 512) (k : Fin 1024) : EReal :=
  v (ix3 0 r k) + gm (ix4 0 0 0 k) * ∑ j : Fin 2048, (u (ix3 0 r j) : EReal) * w (ix2 j k)

/-- The first half's normalised rows. -/
theorem hid_first (v : Vec Ideal S1x512x1024 .f32) (u : Vec Ideal S1x512x2048 .bf16) (w : Vec Ideal S2048x1024 .bf16) (gm : Vec Ideal S1x1x1x1024 .f32) (g : Vec Ideal S1x1024 .f32) (sh sc : Vec Ideal S1x1x1x1024 .f32) (r : Fin 512) (k : Fin 1024) :
    (k0_pay8 (F := Ideal) (k0_pay2 v u w gm) (k0_pay4 g) (k0_pay5 sh) (k0_pay6 sc) (k0_pay7 v u w gm) (ix2 r k) : EReal)
      = Ffn.hid (fun k => mixed v u w gm r k) (fun k => g (ix2 0 k)) (fun k => sh (ix4 0 0 0 k)) (fun k => sc (ix4 0 0 0 k)) k := by
  pointwise [k0_pay8, k0_pay2, k0_pay4, k0_pay5, k0_pay6, k0_pay7]
  rfl

/-- The second half's normalised rows. -/
theorem hid_second (v : Vec Ideal S1x512x1024 .f32) (u : Vec Ideal S1x512x2048 .bf16) (w : Vec Ideal S2048x1024 .bf16) (gm : Vec Ideal S1x1x1x1024 .f32) (g : Vec Ideal S1x1024 .f32) (sh sc : Vec Ideal S1x1x1x1024 .f32) (r : Fin 512) (k : Fin 1024) :
    (k0_pay14 (F := Ideal) (k0_pay10 v) (k0_pay11 u w) gm g sh sc (ix2 r k) : EReal)
      = Ffn.hid (fun k => mixed v u w gm r k) (fun k => g (ix2 0 k)) (fun k => sh (ix4 0 0 0 k)) (fun k => sc (ix4 0 0 0 k)) k := by
  pointwise [k0_pay14, k0_pay12, k0_pay10, k0_pay11]
  rfl

section
variable (h : Vec Ideal S512x1024 .bf16) (a b : Vec Ideal S1024x1024 .bf16) (acc : Vec Ideal S512x1024 .f32) (r : Fin 512) (d : Fin 1024)

theorem pay9_apply : (k0_pay9 (F := Ideal) h a b (ix2 r d) : EReal) = part h a b r d := by pointwise [k0_pay9]; rfl
theorem pay16_apply : (k0_pay16 (F := Ideal) h a b (ix2 r d) : EReal) = part h a b r d := by pointwise [k0_pay16]; rfl
theorem pay15_apply : (k0_pay15 (F := Ideal) h a b acc (ix2 r d) : EReal) = acc (ix2 r d) + part h a b r d := by pointwise [k0_pay15]; rfl
theorem pay20_apply : (k0_pay20 (F := Ideal) h a b acc (ix2 r d) : EReal) = acc (ix2 r d) + part h a b r d := by pointwise [k0_pay20]; rfl
theorem pay23_apply : (k0_pay23 (F := Ideal) h a b acc (ix2 r d) : EReal) = acc (ix2 r d) + part h a b r d := by pointwise [k0_pay23]; rfl
theorem pay26_apply : (k0_pay26 (F := Ideal) h a b acc (ix2 r d) : EReal) = acc (ix2 r d) + part h a b r d := by pointwise [k0_pay26]; rfl
theorem pay19_apply : (k0_pay19 (F := Ideal) (k0_pay17 h a) k0_pay18 b acc (ix2 r d) : EReal) = acc (ix2 r d) + part h a b r d := by pointwise [k0_pay19, k0_pay17, k0_pay18]; rfl
theorem pay22_apply : (k0_pay22 (F := Ideal) (k0_pay21 h a) b acc (ix2 r d) : EReal) = acc (ix2 r d) + part h a b r d := by pointwise [k0_pay22, k0_pay21]; rfl
end

/-- The first half's last stage. -/
theorem last_first (v : Vec Ideal S1x512x1024 .f32) (u : Vec Ideal S1x512x2048 .bf16) (w : Vec Ideal S2048x1024 .bf16) (gm : Vec Ideal S1x1x1x1024 .f32) (gt : Vec Ideal S1x1x1x1024 .f32) (acc : Vec Ideal S512x1024 .f32) (r : Fin 512) (d : Fin 1024) :
    (k0_pay25 (F := Ideal) (k0_pay24 (k0_pay3 v u w gm) gt acc) (ix3 0 r d) : EReal) = mixed v u w gm r d + gt (ix4 0 0 0 d) * acc (ix2 r d) := by
  pointwise [k0_pay25, k0_pay24, k0_pay3, k0_pay2]
  rfl

/-- The second half's last stage. -/
theorem last_second (v : Vec Ideal S1x512x1024 .f32) (u : Vec Ideal S1x512x2048 .bf16) (w : Vec Ideal S2048x1024 .bf16) (gm : Vec Ideal S1x1x1x1024 .f32) (gt : Vec Ideal S1x1x1x1024 .f32) (acc : Vec Ideal S512x1024 .f32) (r : Fin 512) (d : Fin 1024) :
    (k0_pay1 (F := Ideal) (k0_pay27 (k0_pay13 (k0_pay10 v) (k0_pay11 u w) gm) gt acc) (ix3 0 r d) : EReal) = mixed v u w gm r d + gt (ix4 0 0 0 d) * acc (ix2 r d) := by
  pointwise [k0_pay1, k0_pay27, k0_pay13, k0_pay12, k0_pay10, k0_pay11]
  rfl

section
variable (v : Vec Ideal S1x512x1024 .f32) (u : Vec Ideal S1x512x2048 .bf16) (w : Vec Ideal S2048x1024 .bf16) (gm : Vec Ideal S1x1x1x1024 .f32) (g : Vec Ideal S1x1024 .f32) (sh sc gt : Vec Ideal S1x1x1x1024 .f32) (a b : Fin 4 → Vec Ideal S1024x1024 .bf16)
  (r : Fin 512) (d : Fin 1024) {X sh' sc' gt' : Fin 1024 → EReal} {w1 : Fin 1024 → Fin 4096 → EReal} {w2 : Fin 4096 → Fin 1024 → EReal}
  (hv : ∀ k, mixed v u w gm r k = X k) (hsh : ∀ k, (sh (ix4 0 0 0 k) : EReal) = sh' k) (hsc : ∀ k, (sc (ix4 0 0 0 k) : EReal) = sc' k)
  (hgt : ∀ k, (gt (ix4 0 0 0 k) : EReal) = gt' k)
  (ha : ∀ p k f, (a p (ix2 k f) : EReal) = w1 k (Ffn.at4 p f)) (hb : ∀ p f d, (b p (ix2 f d) : EReal) = w2 (Ffn.at4 p f) d)

include hv hsh hsc hgt ha hb

/-- What the first half's last store holds. -/
theorem first_half :
    (k0_pay25 (F := Ideal) (k0_pay24 (k0_pay3 v u w gm) gt (k0_pay22 (k0_pay21 (k0_pay8 (k0_pay2 v u w gm) (k0_pay4 g) (k0_pay5 sh) (k0_pay6 sc) (k0_pay7 v u w gm)) (a 3)) (b 3)
      (k0_pay19 (k0_pay17 (k0_pay8 (k0_pay2 v u w gm) (k0_pay4 g) (k0_pay5 sh) (k0_pay6 sc) (k0_pay7 v u w gm)) (a 2)) k0_pay18 (b 2)
      (k0_pay15 (k0_pay8 (k0_pay2 v u w gm) (k0_pay4 g) (k0_pay5 sh) (k0_pay6 sc) (k0_pay7 v u w gm)) (a 1) (b 1)
      (k0_pay9 (k0_pay8 (k0_pay2 v u w gm) (k0_pay4 g) (k0_pay5 sh) (k0_pay6 sc) (k0_pay7 v u w gm)) (a 0) (b 0)))))) (ix3 0 r d) : EReal)
      = Ffn.ffn X (fun k => g (ix2 0 k)) sh' sc' gt' w1 w2 d := by
  rw [last_first, pay22_apply, pay19_apply, pay15_apply, pay9_apply,
    parts _ a b r d (fun k => hid_first v u w gm g sh sc r k) ha (fun p f => hb p f d)]
  simp only [hv, hsh, hsc, hgt]
  rfl

/-- What the second half's last store holds. -/
theorem second_half :
    (k0_pay1 (F := Ideal) (k0_pay27 (k0_pay13 (k0_pay10 v) (k0_pay11 u w) gm) gt (k0_pay26 (k0_pay14 (k0_pay10 v) (k0_pay11 u w) gm g sh sc) (a 3) (b 3)
      (k0_pay23 (k0_pay14 (k0_pay10 v) (k0_pay11 u w) gm g sh sc) (a 2) (b 2)
      (k0_pay20 (k0_pay14 (k0_pay10 v) (k0_pay11 u w) gm g sh sc) (a 1) (b 1)
      (k0_pay16 (k0_pay14 (k0_pay10 v) (k0_pay11 u w) gm g sh sc) (a 0) (b 0)))))) (ix3 0 r d) : EReal)
      = Ffn.ffn X (fun k => g (ix2 0 k)) sh' sc' gt' w1 w2 d := by
  rw [last_second, pay26_apply, pay23_apply, pay20_apply, pay16_apply,
    parts _ a b r d (fun k => hid_second v u w gm g sh sc r k) ha (fun p f => hb p f d)]
  simp only [hv, hsh, hsc, hgt]
  rfl

end

section
variable (x0 : Vec Ideal S1x1024x1024 .f32) (x1 : Vec Ideal S1x1x6x1024 .f32) (x2 : Vec Ideal S1x1024 .f32) (x3 : Vec Ideal S1024x4096 .bf16) (x4 : Vec Ideal S4096x1024 .bf16) (x5 : Vec Ideal S1x1024x2048 .bf16) (x6 : Vec Ideal S2048x1024 .bf16)

theorem ld_u (b : Fin 2) {o : ℕ} (ho : o = 512 * b.val) (h : ∀ a, (![0, o, 0] : Fin 3 → ℕ) a + (![1, 512, 2048] : Fin 3 → ℕ) a ≤ S1x1024x2048.size a) (r : Fin 512) (j : Fin 2048) :
    View.ld x5 (Rect.unit ![0, o, 0] ![1, 512, 2048] h) (ix3 0 r j) = x5 (ix3 0 (MlpVal.row b r) j) := by
  refine View.ld_unit_apply_of _ _ _ _ _ _ fun a => ?_
  fin_cases a
  · rfl
  · show 512 * b.val + r.val = o + r.val
    omega
  · show j.val = 0 + j.val
    omega

/-- A row of the block with the attention's projection added. -/
def mixedRow (r : Fin 1024) (k : Fin 1024) : EReal :=
  x0 (ix3 0 r k) + x1 (ix4 0 0 2 k) * ∑ j : Fin 2048, (x5 (ix3 0 r j) : EReal) * x6 (ix2 j k)

theorem mixed_row (b : Fin 2) {o : ℕ} (ho : o = 512 * b.val) (h0 : ∀ a, (![0, o, 0] : Fin 3 → ℕ) a + (![1, 512, 1024] : Fin 3 → ℕ) a ≤ S1x1024x1024.size a)
    (h5 : ∀ a, (![0, o, 0] : Fin 3 → ℕ) a + (![1, 512, 2048] : Fin 3 → ℕ) a ≤ S1x1024x2048.size a)
    (h1 : ∀ a, (![0, 0, 2, 0] : Fin 4 → ℕ) a + (![1, 1, 1, 1024] : Fin 4 → ℕ) a ≤ S1x1x6x1024.size a) (r : Fin 512) (k : Fin 1024) :
    mixed (View.ld x0 (Rect.unit ![0, o, 0] ![1, 512, 1024] h0)) (View.ld x5 (Rect.unit ![0, o, 0] ![1, 512, 2048] h5)) x6
      (View.ld x1 (Rect.unit ![0, 0, 2, 0] ![1, 1, 1, 1024] h1)) r k = mixedRow x0 x1 x5 x6 (MlpVal.row b r) k := by
  have e0 := ld_x x0 b ho h0 r k
  have e1 := ld_row x1 2 rfl h1 k
  unfold mixed mixedRow
  refine congrArg₂ (· + ·) e0 (congrArg₂ (· * ·) e1 (Finset.sum_congr rfl fun j _ => ?_))
  rw [ld_u x5 b ho h5 r j]

/-- The block that the kernel leaves, as one function of the blocks that it reads. -/
def G : S1x1024x1024.Idx → Ideal .f32 := fun y =>
  Ffn.ffn (fun k => mixedRow x0 x1 x5 x6 (y 1) k) (fun k => x2 (ix2 0 k)) (fun k => x1 (ix4 0 0 3 k)) (fun k => x1 (ix4 0 0 4 k)) (fun k => x1 (ix4 0 0 5 k))
    (fun k f => x3 (ix2 k f)) (fun f d => x4 (ix2 f d)) (y 2)

end

variable (c : Dev nD) (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S1x1024x2048 .bf16) (harg7 : arg7.IsWhole) (arg8 : Memref sig .tc .vmem S2048x1024 .bf16) (harg8 : arg8.IsWhole) (arg9 : Memref sig .tc .vmem S1x1024x1024 .f32) (harg9 : arg9.IsWhole) (arg10 : Memref sig .tc .vmem S1024x1024 .bf16) (harg10 : arg10.IsWhole) (arg11 : Memref sig .tc .vmem S1024x1024 .f32) (harg11 : arg11.IsWhole)
    (x0 : Vec Ideal S1x1024x1024 .f32) (x1 : Vec Ideal S1x1x6x1024 .f32) (x2 : Vec Ideal S1x1024 .f32) (x3 : Vec Ideal S1024x4096 .bf16) (x4 : Vec Ideal S4096x1024 .bf16) (x5 : Vec Ideal S1x1024x2048 .bf16) (x6 : Vec Ideal S2048x1024 .bf16)

/-- What the kernel leaves in a block. -/
theorem out_eq (y : S1x1024x1024.Idx) :
    out0_A_7 (F := Ideal) c i arg2 harg2 arg3 harg3 arg4 harg4 arg5 harg5 arg6 harg6 arg7 harg7 arg8 harg8 arg9 harg9 arg10 harg10 arg11 harg11 x0 x1 x2 x3 x4 x5 x6 y = G x0 x1 x2 x3 x4 x5 x6 y := by
  frame_open
  simp (disch := decide) only [↓ View.readCov_skip, ↓ View.readCov_cons_toLoadRect, ↓ View.readCov_fill]
  frame_out
  refine View.canon_append_of_piecesOf (Val := Elt Ideal) (e := .f32) (G x0 x1 x2 x3 x4 x5 x6) [_, _] [_, _] ⟨fun x => ?_, fun x => ?_, trivial⟩ y ?_
  · obtain ⟨r, d, rfl⟩ : ∃ (r : Fin 512) (d : Fin 1024), x = ix3 (0 : Fin 1) r d := ⟨x 1, x 2, idx_half x⟩
    exact (second_half (w1 := fun k f => x3 (ix2 k f)) (w2 := fun f d => x4 (ix2 f d)) _ _ x6 _ x2 _ _ _ (w1Part x3) (w2Part x4) r d (mixed_row x0 x1 x5 x6 1 rfl _ _ _ r) (ld_row x1 3 rfl _) (ld_row x1 4 rfl _) (ld_row x1 5 rfl _)
      (w1Part_apply x3) (w2Part_apply x4)).trans
      (congrArg (G x0 x1 x2 x3 x4 x5 x6) (emb_half 1 (o := 512) rfl inb_S1x1024x1024_S1x512x1024_0_512_0 r d).symm)
  · obtain ⟨r, d, rfl⟩ : ∃ (r : Fin 512) (d : Fin 1024), x = ix3 (0 : Fin 1) r d := ⟨x 1, x 2, idx_half x⟩
    exact (first_half (w1 := fun k f => x3 (ix2 k f)) (w2 := fun f d => x4 (ix2 f d)) _ _ x6 _ x2 _ _ _ (w1Part x3) (w2Part x4) r d (mixed_row x0 x1 x5 x6 0 rfl _ _ _ r) (ld_row x1 3 rfl _) (ld_row x1 4 rfl _) (ld_row x1 5 rfl _)
      (w1Part_apply x3) (w2Part_apply x4)).trans
      (congrArg (G x0 x1 x2 x3 x4 x5 x6) (emb_half 0 (o := 0) rfl inb_S1x1024x1024_S1x512x1024_0_0_0 r d).symm)
  · exact View.cover_of_tiledL _ ![1, 512, 1024] (by sl_kernel_rfl) y

end Cert.MlpAttnVal
-- ==== Proof.MlpAttnAlgebraic.lean ====
module

public import proofs.«01_k».proof.Defs
public import proofs.«01_k».proof.Proof.MlpAttnBlock
public import proofs.«01_k».proof.Proof.Gen.MlpAttnReferenceIdeal.Run

@[expose] public section

set_option maxRecDepth 16384

noncomputable section

namespace Cert.MlpAttnVal

open Idealize.ShloMosaic Idealize.ShloMosaic.TcCoe Idealize.SL.Sem

open Cert.MlpAttnIdeal in
/-- A token with the attention's projection added. -/
def mixedToken (x : FVec Ideal S8x4096x1024 .f32) (mod : FVec Ideal S4x8x6x1024 .f32) (u : FVec Ideal S8x4096x2048 .bf16) (w : FVec Ideal S2048x1024 .bf16)
    (b : Fin 8) (r : Fin 4096) (k : Fin 1024) : EReal :=
  x (ix3 b r k) + mod (ix4 2 b 2 k) * ∑ j : Fin 2048, (u (ix3 b r j) : EReal) * w (ix2 j k)

/-- The reference's result, entry by entry. -/
theorem ref_apply (m : (ℓ : Loc Cert.MlpAttnReferenceIdeal.nD Cert.MlpAttnReferenceIdeal.τ Cert.MlpAttnReferenceIdeal.sig) → Buf (Elt Ideal) ℓ)
    (c : Dev Cert.MlpAttnReferenceIdeal.nD) (b : Fin 8) (r : Fin 4096) (d : Fin 1024) :
    (Cert.MlpAttnReferenceIdeal.Value.res_out0 m c (ix3 b r d) : Ideal .f32)
      = (Ffn.ffn (fun k => mixedToken (m ((c.tc : Thread _ _).loc Cert.MlpAttnReferenceIdeal.main_arg0)) (m ((c.tc : Thread _ _).loc Cert.MlpAttnReferenceIdeal.main_arg1))
          (m ((c.tc : Thread _ _).loc Cert.MlpAttnReferenceIdeal.main_arg5)) (m ((c.tc : Thread _ _).loc Cert.MlpAttnReferenceIdeal.main_arg6)) b r k)
        (fun k => m ((c.tc : Thread _ _).loc Cert.MlpAttnReferenceIdeal.main_arg2) (ix1 k))
        (fun k => m ((c.tc : Thread _ _).loc Cert.MlpAttnReferenceIdeal.main_arg1) (ix4 2 b 3 k))
        (fun k => m ((c.tc : Thread _ _).loc Cert.MlpAttnReferenceIdeal.main_arg1) (ix4 2 b 4 k))
        (fun k => m ((c.tc : Thread _ _).loc Cert.MlpAttnReferenceIdeal.main_arg1) (ix4 2 b 5 k))
        (fun k f => m ((c.tc : Thread _ _).loc Cert.MlpAttnReferenceIdeal.main_arg3) (ix2 k f))
        (fun f k => m ((c.tc : Thread _ _).loc Cert.MlpAttnReferenceIdeal.main_arg4) (ix2 f k)) d : EReal) := by
  pointwise [Cert.MlpAttnReferenceIdeal.Value.res_out0, Cert.MlpAttnReferenceIdeal.Value.res_main_v46]
  rfl

section
open Cert.MlpAttnIdeal Cert.MlpAttnIdeal.Gen
variable (m : (ℓ : Loc nD τ sig) → Buf (Elt Ideal) ℓ) (c : Dev nD)

theorem idx0 : ∀ t : Fin cfg0.N, win0_0.index t = ![(grid0.coords t 0).val, (grid0.coords t 1).val, 0] := by decide +kernel
theorem idx1 : ∀ t : Fin cfg0.N, win0_1.index t = ![2, (grid0.coords t 0).val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx7 : ∀ t : Fin cfg0.N, win0_7.index t = ![(grid0.coords t 0).val, (grid0.coords t 1).val, 0] := by decide +kernel

theorem idx5 : ∀ t : Fin cfg0.N, win0_5.index t = ![(grid0.coords t 0).val, (grid0.coords t 1).val, 0] := by decide +kernel
theorem idx6 : ∀ t : Fin cfg0.N, win0_6.index t = ![0, 0] := by decide +kernel

/-- The array's row of a block's row. -/
def token (t : Fin cfg0.N) (r : Fin 1024) : Fin 4096 :=
  ⟨1024 * (grid0.coords t 1).val + r.val, by have h : (grid0.coords t 1).val < 4 := (grid0.coords t 1).isLt; omega⟩

theorem iblk0_apply (t : Fin cfg0.N) (r d : Fin 1024) :
    (iblk m c 0 t : Vec Ideal S1x1024x1024 .f32) (ix3 0 r d) = (m ((c : Thread nD τ).loc main_arg0)) (ix3 (grid0.coords t 0) (token t r) d) := by
  blk_ext [iblk, V_main_arg0, idx0 t]
  show (grid0.coords t 1).val * 1024 + r.val = 1024 * (grid0.coords t 1).val + r.val
  omega

theorem iblk1_apply (t : Fin cfg0.N) (n : Fin 6) (k : Fin 1024) :
    (iblk m c 1 t : Vec Ideal S1x1x6x1024 .f32) (ix4 0 0 n k) = (m ((c : Thread nD τ).loc main_arg1)) (ix4 2 (grid0.coords t 0) n k) := by
  blk_ext [iblk, V_main_arg1, idx1 t]

theorem iblk2_apply (t : Fin cfg0.N) (k : Fin 1024) :
    (iblk m c 2 t : Vec Ideal S1x1024 .f32) (ix2 0 k) = (m ((c : Thread nD τ).loc main_arg2)) (ix1 k) := by
  blk_ext! [iblk, V, idx2 t]

theorem iblk3_apply (t : Fin cfg0.N) (k : Fin 1024) (f : Fin 4096) :
    (iblk m c 3 t : Vec Ideal S1024x4096 .bf16) (ix2 k f) = (m ((c : Thread nD τ).loc main_arg3)) (ix2 k f) := by
  blk_ext [iblk, V_main_arg3, idx3 t]

theorem iblk4_apply (t : Fin cfg0.N) (f : Fin 4096) (k : Fin 1024) :
    (iblk m c 4 t : Vec Ideal S4096x1024 .bf16) (ix2 f k) = (m ((c : Thread nD τ).loc main_arg4)) (ix2 f k) := by
  blk_ext [iblk, V_main_arg4, idx4 t]

theorem iblk5_apply (t : Fin cfg0.N) (r : Fin 1024) (j : Fin 2048) :
    (iblk m c 5 t : Vec Ideal S1x1024x2048 .bf16) (ix3 0 r j) = (m ((c : Thread nD τ).loc main_arg5)) (ix3 (grid0.coords t 0) (token t r) j) := by
  blk_ext [iblk, V_main_arg5, idx5 t]
  show (grid0.coords t 1).val * 1024 + r.val = 1024 * (grid0.coords t 1).val + r.val
  omega

theorem iblk6_apply (t : Fin cfg0.N) (j : Fin 2048) (k : Fin 1024) :
    (iblk m c 6 t : Vec Ideal S2048x1024 .bf16) (ix2 j k) = (m ((c : Thread nD τ).loc main_arg6)) (ix2 j k) := by
  blk_ext [iblk, V_main_arg6, idx6 t]

theorem mixed_block (t : Fin cfg0.N) (r k : Fin 1024) :
    mixedRow (iblk m c 0 t) (iblk m c 1 t) (iblk m c 5 t) (iblk m c 6 t) r k
      = mixedToken (m ((c : Thread nD τ).loc main_arg0)) (m ((c : Thread nD τ).loc main_arg1)) (m ((c : Thread nD τ).loc main_arg5)) (m ((c : Thread nD τ).loc main_arg6))
        (grid0.coords t 0) (token t r) k := by
  refine congrArg₂ (· + ·) (iblk0_apply m c t r k) (congrArg₂ (· * ·) (iblk1_apply m c t 2 k) (Finset.sum_congr rfl fun j _ => ?_))
  exact congrArg₂ (· * ·) (iblk5_apply m c t r j) (iblk6_apply m c t j k)

attribute [local irreducible] out0_A_7 Ffn.ffn

/-- An index of a block. -/
theorem idx_block (y : S1x1024x1024.Idx) : y = ix3 (0 : Fin 1) (y 1 : Fin 1024) (y 2 : Fin 1024) := by
  funext a
  apply Fin.ext
  fin_cases a
  · have : (y 0).val < 1 := (y 0).isLt
    show (y 0).val = 0
    omega
  · rfl
  · rfl

/-- The array after the run is any array that holds the mixer's values. -/
theorem arr (A : S8x4096x1024.Idx → Ideal .f32)
    (hA : ∀ b r d, (A (ix3 b r d) : EReal) = Ffn.ffn (fun k => mixedToken (m ((c : Thread nD τ).loc main_arg0)) (m ((c : Thread nD τ).loc main_arg1)) (m ((c : Thread nD τ).loc main_arg5)) (m ((c : Thread nD τ).loc main_arg6)) b r k)
        (fun k => m ((c : Thread nD τ).loc main_arg2) (ix1 k))
        (fun k => m ((c : Thread nD τ).loc main_arg1) (ix4 2 b 3 k))
        (fun k => m ((c : Thread nD τ).loc main_arg1) (ix4 2 b 4 k))
        (fun k => m ((c : Thread nD τ).loc main_arg1) (ix4 2 b 5 k))
        (fun k f => m ((c : Thread nD τ).loc main_arg3) (ix2 k f))
        (fun f k => m ((c : Thread nD τ).loc main_arg4) (ix2 f k)) d) :
    (dats m 0 c).arrAt 7 cfg0.N = A := by
  refine (dats m 0 c).arrAt_eq_of_covers 7 _ (by decide +kernel) fun t hf y => ?_
  blk_simp
  obtain ⟨r, d, rfl⟩ : ∃ (r : Fin 1024) (d : Fin 1024), y = ix3 (0 : Fin 1) r d := ⟨y 1, y 2, idx_block y⟩
  have e : (win0_7.blk t).view.emb (ix3 (0 : Fin 1) r d) = ix3 (grid0.coords t 0) (token t r) d := by
    blk_ext [idx7 t]
    show (grid0.coords t 1).val * 1024 + r.val = 1024 * (grid0.coords t 1).val + r.val
    omega
  rw [e, after0_7]
  refine Eq.trans ?_ (hA _ _ _).symm
  refine (out_eq c _ _ _ _ _ _ _ _ _ _ _ _ _ _ _ _ _ _ _ _ _ _ _ _ _ _ _ _ _).trans ?_
  show Ffn.ffn _ _ _ _ _ _ _ d = _
  simp only [← mixed_block m c t, ← iblk1_apply m c t, ← iblk2_apply m c t, ← iblk3_apply m c t, ← iblk4_apply m c t]
  rfl

end

/-- The kernel of the attention's projection and the channel mixer computes the reference's values over the extended reals. -/
theorem algebraic : Cert.algebraic_MlpAttnIdeal_MlpAttnReferenceIdeal := by
  intro m g m' g' _ hag
  refine ⟨_, ?_, (θ_run _ _ _).mono (fun r h c => h c) (Cert.MlpAttnReferenceIdeal.Value.run m' g')⟩
  refine (θ_run _ _ _).mono (fun r h c => ?_) (Cert.MlpAttnIdeal.Value.run_blocks m g)
  obtain ⟨h0, k⟩ := h c
  obtain ⟨a0, a1, a2, a3, a4, a5, a6⟩ := hag c
  refine ⟨h0.trans ?_, k⟩
  refine arr m c _ fun b r d => (ref_apply m' c b r d).trans ?_
  rw [a0, a1, a2, a3, a4, a5, a6]

end Cert.MlpAttnVal

end
-- ==== Proof.Gating.lean ====
module

public import proofs.«01_k».proof.Proof.Ffn

@[expose] public section

noncomputable section

/-! The spatial gating of one token, over the extended reals. -/

namespace Cert.SguVal

open Idealize.ShloMosaic

/-- The activation, in the error function's form. -/
def gelu (z : EReal) : EReal := Ideal.ofBits FTy.f32 1056964608#32 * z * (1 + Ideal.erf (z * Ideal.ofBits FTy.f32 1060439283#32))

/-- The mean over a token's features. -/
def mean (a : Fin 1024 → EReal) : EReal := Ideal.div (∑ j, a j) (Ideal.ofBits FTy.f32 1149239296#32)

/-- A token's features, centred, normalised and scaled. -/
def norm (a g b : Fin 1024 → EReal) (k : Fin 1024) : EReal :=
  (a k - mean a) * Ideal.rsqrt (mean (fun j => (a j - mean a) * (a j - mean a)) + Ideal.ofBits FTy.f32 925353388#32) * g k + b k

/-- The column of the first half of the projection. -/
def colU (k : Fin 1024) : Fin 2048 := ⟨k.val, by omega⟩

/-- The column of the second half of the projection. -/
def colV (k : Fin 1024) : Fin 2048 := ⟨1024 + k.val, by omega⟩

/-- The head of a feature. -/
def headOf (k : Fin 1024) : Fin 8 := ⟨k.val / 128, by omega⟩

variable (g sh sc : Fin 1024 → EReal) (wi : Fin 1024 → Fin 2048 → EReal) (lg lb : Fin 1024 → EReal) (ws : Fin 8 → Fin 128 → Fin 128 → EReal)
  (bs : Fin 8 → Fin 128 → EReal)

/-- A token's gate. -/
def gateU (X : Fin 1024 → EReal) (k : Fin 1024) : EReal := gelu (∑ j, Ffn.hid X g sh sc j * wi j (colU k))

/-- A token's features that its chunk mixes. -/
def gateV (X : Fin 1024 → EReal) (k : Fin 1024) : EReal := norm (fun f => gelu (∑ j, Ffn.hid X g sh sc j * wi j (colV f))) lg lb k

/-- The chunk `V` mixed for its token `t`, gated by `u`. -/
def mixed (u : EReal) (V w : Fin 128 → EReal) (b : EReal) (t : ℕ) : EReal :=
  u * (∑ s : Fin 128, Scalar.select (IntOp.cmpi CmpIPredicate.sle (BitVec.ofNat 32 s.val) (BitVec.ofNat 32 t)) (w s * V s) 0 + b)

/-- The gated features of a token `X`, the `t`-th of the chunk `C`. -/
def gated (X : Fin 1024 → EReal) (C : Fin 128 → Fin 1024 → EReal) (t : Fin 128) (k : Fin 1024) : EReal :=
  mixed (gateU g sh sc wi X k) (fun s => gateV g sh sc wi lg lb (C s) k) (ws (headOf k) t) (bs (headOf k) t) t.val

/-- The token with its gated features' projection added. -/
def result (gt : Fin 1024 → EReal) (wo : Fin 1024 → Fin 1024 → EReal) (X : Fin 1024 → EReal) (C : Fin 128 → Fin 1024 → EReal) (t : Fin 128) (d : Fin 1024) : EReal :=
  X d + gt d * ∑ k, gated g sh sc wi lg lb ws bs X C t k * wo k d

end Cert.SguVal

end
-- ==== Proof.SguTile.lean ====
module

public import proofs.«01_k».proof.Proof.Gen.SguIdeal.Value
public import Idealize.ShloMosaic.Lib.Pipeline.ValueKit
public import Idealize.ShloMosaic.Lib.Pipeline.ReadBack
public import Idealize.ShloMosaic.Lib.Pointwise
public import proofs.«01_k».proof.Proof.Gating

@[expose] public section

set_option maxRecDepth 16384

noncomputable section

namespace Cert.SguVal

open Idealize.ShloMosaic Cert.SguIdeal Cert.SguIdeal.Gen

/-- A projection of normalised features, of equal operands. -/
theorem proj_congr {X X' g sh sh' sc sc' w w' : Fin 1024 → EReal} (hX : ∀ k, X k = X' k) (hsh : ∀ k, sh k = sh' k) (hsc : ∀ k, sc k = sc' k) (hw : ∀ k, w k = w' k) :
    ∑ j, Ffn.hid X g sh sc j * w j = ∑ j, Ffn.hid X' g sh' sc' j * w' j := by
  rw [funext hX, funext hsh, funext hsc, funext hw]

section
variable (v : Vec Ideal S1x512x1024 .f32) (g : Vec Ideal S1x1024 .f32) (sh sc : Vec Ideal S1x1x1x1024 .f32) (w : Vec Ideal S1024x1024 .bf16) (lg lb : Vec Ideal S1x1024 .f32)
  (r : Fin 512) (k : Fin 1024)

/-- The first half's gates. -/
theorem u_first : (k0_pay10 (F := Ideal) (k0_pay4 sh) (k0_pay5 sc) (k0_pay6 v g) k0_pay7 w (ix2 r k) : EReal)
    = gelu (∑ j, Ffn.hid (fun k => v (ix3 0 r k)) (fun k => g (ix2 0 k)) (fun k => sh (ix4 0 0 0 k)) (fun k => sc (ix4 0 0 0 k)) j * w (ix2 j k)) := by
  pointwise [k0_pay10, k0_pay8, k0_pay4, k0_pay5, k0_pay6, k0_pay7]
  rfl

/-- The second half's gates. -/
theorem u_second : (k0_pay20 (F := Ideal) (k0_pay16 (k0_pay11 v) (k0_pay12 g) (k0_pay13 sh) (k0_pay14 sc) (k0_pay15 v)) w (ix2 r k) : EReal)
    = gelu (∑ j, Ffn.hid (fun k => v (ix3 0 r k)) (fun k => g (ix2 0 k)) (fun k => sh (ix4 0 0 0 k)) (fun k => sc (ix4 0 0 0 k)) j * w (ix2 j k)) := by
  pointwise [k0_pay20, k0_pay16, k0_pay11, k0_pay12, k0_pay13, k0_pay14, k0_pay15]
  rfl

/-- The first half's projection before the normalisation. -/
theorem z_first : (k0_pay9 (F := Ideal) (k0_pay4 sh) (k0_pay5 sc) (k0_pay6 v g) k0_pay7 w (ix2 r k) : EReal)
    = ∑ j, Ffn.hid (fun k => v (ix3 0 r k)) (fun k => g (ix2 0 k)) (fun k => sh (ix4 0 0 0 k)) (fun k => sc (ix4 0 0 0 k)) j * w (ix2 j k) := by
  pointwise [k0_pay9, k0_pay8, k0_pay4, k0_pay5, k0_pay6, k0_pay7]
  rfl

/-- The second half's projection before the normalisation. -/
theorem z_second : (k0_pay17 (F := Ideal) (k0_pay11 v) (k0_pay12 g) (k0_pay13 sh) (k0_pay14 sc) (k0_pay15 v) w (ix2 r k) : EReal)
    = ∑ j, Ffn.hid (fun k => v (ix3 0 r k)) (fun k => g (ix2 0 k)) (fun k => sh (ix4 0 0 0 k)) (fun k => sc (ix4 0 0 0 k)) j * w (ix2 j k) := by
  pointwise [k0_pay17, k0_pay16, k0_pay11, k0_pay12, k0_pay13, k0_pay14, k0_pay15]
  rfl

variable (z : FVec Ideal S512x1024 .f32)

/-- The first half's normalised features. -/
theorem norm_first : (k0_pay19 (F := Ideal) (k0_pay18 z lg lb) (ix2 r k) : EReal)
    = norm (fun f => gelu (z (ix2 r f))) (fun k => lg (ix2 0 k)) (fun k => lb (ix2 0 k)) k := by
  pointwise [k0_pay19, k0_pay18]
  rfl

/-- The second half's normalised features. -/
theorem norm_second : (k0_pay79 (F := Ideal) (k0_pay76 z) (k0_pay77 z) k0_pay78 lg lb (ix2 r k) : EReal)
    = norm (fun f => gelu (z (ix2 r f))) (fun k => lg (ix2 0 k)) (fun k => lb (ix2 0 k)) k := by
  pointwise [k0_pay79, k0_pay78, k0_pay77, k0_pay76]
  rfl

/-- The first half's last stage. -/
theorem last_first (a : Vec Ideal S512x1024 .bf16) :
    (k0_pay80 (F := Ideal) a w v sh (ix3 0 r k) : EReal) = v (ix3 0 r k) + sh (ix4 0 0 0 k) * ∑ j, a (ix2 r j) * w (ix2 j k) := by
  pointwise [k0_pay80]

/-- The second half's last stage. -/
theorem last_second (a : Vec Ideal S512x1024 .bf16) :
    (k0_pay1 (F := Ideal) a w v sh (ix3 0 r k) : EReal) = v (ix3 0 r k) + sh (ix4 0 0 0 k) * ∑ j, a (ix2 r j) * w (ix2 j k) := by
  pointwise [k0_pay1]

end

/-- The gated tile of a chunk and a head, at the offsets `o` and `p` of a half's features. -/
def tile (u : FVec Ideal S512x1024 .f32) (v : FVec Ideal S512x1024 .bf16) (w : Vec Ideal S1x128x128 .f32) (b : Vec Ideal S128x1 .f32)
    (o p : ℕ) (hs : S512x1024.Slices ![o, p] S128x128) : FVec Ideal S128x128 .bf16 :=
  shapeCast S128x128 (truncf .bf16 (mulf (extractStridedSlice S128x128 ![o, p] u hs)
    (addf (matmul dot_S128x128_S128x128_S128x128_1_0_0_1_n_n none (k0_pay22 w) (extractStridedSlice S128x128 ![o, p] v hs) (constant S128x128 .f32 0x00000000#32))
      (broadcastTo S128x128 (k0_pay23 b) broadcasts_S128x1_S128x128))) bitsLt_bf16_f32) shapeCasts_S128x128_S128x128

theorem tile_apply (u : FVec Ideal S512x1024 .f32) (v : FVec Ideal S512x1024 .bf16) (w : Vec Ideal S1x128x128 .f32) (b : Vec Ideal S128x1 .f32)
    (o p : ℕ) (hs : S512x1024.Slices ![o, p] S128x128) (ho : o + 128 ≤ 512) (hp : p + 128 ≤ 1024) (t d : Fin 128) :
    (tile u v w b o p hs (ix2 t d) : EReal)
      = mixed (u (ix2 ⟨o + t.val, by omega⟩ ⟨p + d.val, by omega⟩)) (fun s => v (ix2 ⟨o + s.val, by omega⟩ ⟨p + d.val, by omega⟩)) (fun s => w (ix3 0 t s))
        (b (ix2 t 0)) t.val := by
  pointwise [tile, k0_pay22, k0_pay21, k0_pay23]
  rfl

/-- The row of a half. -/
def row (b : Fin 2) (r : Fin 512) : Fin 1024 := ⟨512 * b.val + r.val, by omega⟩

section
variable (x0 : Vec Ideal S1x1024x1024 .f32) (x1 : Vec Ideal S1x1x6x1024 .f32) (x2 : Vec Ideal S1x1024 .f32) (x3 : Vec Ideal S1024x2048 .bf16) (x4 x5 : Vec Ideal S1x1024 .f32)
  (x6 : Vec Ideal S8x128x128 .f32) (x7 : Vec Ideal S128x8 .f32) (x8 : Vec Ideal S1024x1024 .bf16)

/-- A token's gate, from the blocks. -/
def blkU (r k : Fin 1024) : EReal :=
  gateU (fun k => x2 (ix2 0 k)) (fun k => x1 (ix4 0 0 0 k)) (fun k => x1 (ix4 0 0 1 k)) (fun k f => x3 (ix2 k f)) (fun k => x0 (ix3 0 r k)) k

/-- A token's features that its chunk mixes, from the blocks. -/
def blkV (r k : Fin 1024) : EReal :=
  gateV (fun k => x2 (ix2 0 k)) (fun k => x1 (ix4 0 0 0 k)) (fun k => x1 (ix4 0 0 1 k)) (fun k f => x3 (ix2 k f)) (fun k => x4 (ix2 0 k)) (fun k => x5 (ix2 0 k))
    (fun k => x0 (ix3 0 r k)) k

/-- The row `s` of the chunk of the row `r`. -/
def inChunk (r : Fin 1024) (s : Fin 128) : Fin 1024 := ⟨r.val / 128 * 128 + s.val, by omega⟩

/-- The place of a row in its chunk. -/
def place (r : Fin 1024) : Fin 128 := ⟨r.val % 128, by omega⟩

/-- The gated features, from the blocks. -/
def blkGated (r k : Fin 1024) : EReal :=
  gated (fun k => x2 (ix2 0 k)) (fun k => x1 (ix4 0 0 0 k)) (fun k => x1 (ix4 0 0 1 k)) (fun k f => x3 (ix2 k f)) (fun k => x4 (ix2 0 k)) (fun k => x5 (ix2 0 k))
    (fun h t s => x6 (ix3 h t s)) (fun h t => x7 (ix2 t h)) (fun k => x0 (ix3 0 r k)) (fun s k => x0 (ix3 0 (inChunk r s) k)) (place r) k

theorem ld_row (n : Fin 6) {o : ℕ} (ho : o = n.val) (h : ∀ a, (![0, 0, o, 0] : Fin 4 → ℕ) a + (![1, 1, 1, 1024] : Fin 4 → ℕ) a ≤ S1x1x6x1024.size a) (k : Fin 1024) :
    View.ld x1 (Rect.unit ![0, 0, o, 0] ![1, 1, 1, 1024] h) (ix4 (0 : Fin 1) (0 : Fin 1) (0 : Fin 1) k) = x1 (ix4 0 0 n k) := by
  refine View.ld_unit_apply_of _ _ _ _ _ _ fun a => ?_
  fin_cases a
  · rfl
  · rfl
  · show n.val = o + 0
    omega
  · show k.val = 0 + k.val
    omega

theorem ld_x (b : Fin 2) {o : ℕ} (ho : o = 512 * b.val) (h : ∀ a, (![0, o, 0] : Fin 3 → ℕ) a + (![1, 512, 1024] : Fin 3 → ℕ) a ≤ S1x1024x1024.size a) (r : Fin 512) (d : Fin 1024) :
    View.ld x0 (Rect.unit ![0, o, 0] ![1, 512, 1024] h) (ix3 (0 : Fin 1) r d) = x0 (ix3 0 (row b r) d) := by
  refine View.ld_unit_apply_of _ _ _ _ _ _ fun a => ?_
  fin_cases a
  · rfl
  · show 512 * b.val + r.val = o + r.val
    omega
  · show d.val = 0 + d.val
    omega

theorem ld_wi {o : ℕ} (h : ∀ a, (![0, o] : Fin 2 → ℕ) a + (![1024, 1024] : Fin 2 → ℕ) a ≤ S1024x2048.size a) (k f : Fin 1024) (n : Fin 2048) (hn : n.val = o + f.val) :
    View.ld x3 (Rect.unit ![0, o] ![1024, 1024] h) (ix2 k f) = x3 (ix2 k n) := by
  refine View.ld_unit_apply_of _ _ _ _ _ _ fun a => ?_
  fin_cases a
  · show k.val = 0 + k.val
    omega
  · exact hn

theorem ld_ws (q : ℕ) (hq : q < 8) (h : ∀ a, (![q, 0, 0] : Fin 3 → ℕ) a + (![1, 128, 128] : Fin 3 → ℕ) a ≤ S8x128x128.size a) (t s : Fin 128) :
    View.ld x6 (Rect.unit ![q, 0, 0] ![1, 128, 128] h) (ix3 (0 : Fin 1) t s) = x6 (ix3 ⟨q, hq⟩ t s) := by
  refine View.ld_unit_apply_of _ _ _ _ _ _ fun a => ?_
  fin_cases a
  · rfl
  · show t.val = 0 + t.val
    omega
  · show s.val = 0 + s.val
    omega

theorem ld_bs (q : ℕ) (hq : q < 8) (h : ∀ a, (![0, q] : Fin 2 → ℕ) a + (![128, 1] : Fin 2 → ℕ) a ≤ S128x8.size a) (t : Fin 128) :
    View.ld x7 (Rect.unit ![0, q] ![128, 1] h) (ix2 t (0 : Fin 1)) = x7 (ix2 t ⟨q, hq⟩) := by
  refine View.ld_unit_apply_of _ _ _ _ _ _ fun a => ?_
  fin_cases a
  · show t.val = 0 + t.val
    omega
  · rfl

/-- An index of a tile. -/
theorem idx_tile (x : S128x128.Idx) : x = ix2 (x 0 : Fin 128) (x 1 : Fin 128) := by
  funext a
  fin_cases a <;> rfl

/-- The scratch of gated features, as one function of the blocks. -/
def Gt : S1024x1024.Idx → Ideal .bf16 := fun y => blkGated x0 x1 x2 x3 x4 x5 x6 x7 (y 0) (y 1)

/-- A stored tile of the half `b` is a tile of the gated features. -/
theorem piece (b : Fin 2) {u : FVec Ideal S512x1024 .f32} {v : FVec Ideal S512x1024 .bf16}
    (hu : ∀ r k, (u (ix2 r k) : EReal) = blkU x0 x1 x2 x3 (row b r) k) (hv : ∀ r k, (v (ix2 r k) : EReal) = blkV x0 x1 x2 x3 x4 x5 (row b r) k)
    {O p : ℕ} {f : FVec Ideal S128x128 .bf16} (inb : ∀ a, (![O, p] : Fin 2 → ℕ) a + (![128, 128] : Fin 2 → ℕ) a ≤ S1024x1024.size a)
    (h6 : ∀ a, (![p / 128, 0, 0] : Fin 3 → ℕ) a + (![1, 128, 128] : Fin 3 → ℕ) a ≤ S8x128x128.size a)
    (h7 : ∀ a, (![0, p / 128] : Fin 2 → ℕ) a + (![128, 1] : Fin 2 → ℕ) a ≤ S128x8.size a) (hs : S512x1024.Slices ![O - 512 * b.val, p] S128x128)
    (hO : 512 * b.val ≤ O ∧ O - 512 * b.val + 128 ≤ 512 ∧ O % 128 = 0) (hp : p + 128 ≤ 1024 ∧ p % 128 = 0)
    (hf : f = tile u v (View.ld x6 (Rect.unit ![p / 128, 0, 0] ![1, 128, 128] h6)) (View.ld x7 (Rect.unit ![0, p / 128] ![128, 1] h7)) (O - 512 * b.val) p hs)
    (x : (Rect.unit (s := S1024x1024) ![O, p] ![128, 128] inb).shape.Idx) :
    f x = Gt x0 x1 x2 x3 x4 x5 x6 x7 ((Rect.unit (s := S1024x1024) ![O, p] ![128, 128] inb).emb x) := by
  obtain ⟨t, d, rfl⟩ : ∃ (t d : Fin 128), x = ix2 t d := ⟨x 0, x 1, idx_tile x⟩
  obtain ⟨hO1, hO2, hO3⟩ := hO
  obtain ⟨hp1, hp2⟩ := hp
  have e : (Rect.unit (s := S1024x1024) ![O, p] ![128, 128] inb).emb (ix2 t d) = ix2 (⟨O + t.val, by omega⟩ : Fin 1024) (⟨p + d.val, by omega⟩ : Fin 1024) := by
    funext a
    apply Fin.ext
    refine (Rect.idx_unit_val _ _ inb _ a).trans ?_
    fin_cases a <;> rfl
  rw [hf, e]
  refine (tile_apply u v _ _ _ _ hs hO2 hp1 t d).trans ?_
  show _ = blkGated x0 x1 x2 x3 x4 x5 x6 x7 ⟨O + t.val, by omega⟩ ⟨p + d.val, by omega⟩
  have e1 : ∀ s : Fin 128, row b ⟨O - 512 * b.val + s.val, by omega⟩ = (⟨O + s.val, by omega⟩ : Fin 1024) := fun s => Fin.ext (by
    show 512 * b.val + (O - 512 * b.val + s.val) = O + s.val
    omega)
  have e2 : ∀ s : Fin 128, inChunk ⟨O + t.val, by omega⟩ s = (⟨O + s.val, by omega⟩ : Fin 1024) := fun s => Fin.ext (by
    show (O + t.val) / 128 * 128 + s.val = O + s.val
    omega)
  have e3 : place ⟨O + t.val, by omega⟩ = t := Fin.ext (by
    show (O + t.val) % 128 = t.val
    omega)
  have e4 : headOf ⟨p + d.val, by omega⟩ = ⟨p / 128, by omega⟩ := Fin.ext (by
    show (p + d.val) / 128 = p / 128
    omega)
  simp only [hu, hv, e1, ld_ws x6 (p / 128) (by omega), ld_bs x7 (p / 128) (by omega), blkGated, gated, e2, e3, e4]
  rfl

variable {x0 x1 x2 x3 x4 x5}

/-- The first half's gates, from the blocks. -/
theorem u_first_blk {h0 h1 h1' h3} (r : Fin 512) (k : Fin 1024) :
    (k0_pay10 (F := Ideal) (k0_pay4 (View.ld x1 (Rect.unit ![0, 0, 0, 0] ![1, 1, 1, 1024] h1))) (k0_pay5 (View.ld x1 (Rect.unit ![0, 0, 1, 0] ![1, 1, 1, 1024] h1')))
      (k0_pay6 (View.ld x0 (Rect.unit ![0, 0, 0] ![1, 512, 1024] h0)) x2) k0_pay7 (View.ld x3 (Rect.unit ![0, 0] ![1024, 1024] h3)) (ix2 r k) : EReal)
      = blkU x0 x1 x2 x3 (row 0 r) k := by
  exact (u_first _ _ _ _ _ r k).trans (congrArg gelu (proj_congr (fun k => ld_x x0 0 rfl h0 r k) (fun k => ld_row x1 0 rfl h1 k) (fun k => ld_row x1 1 rfl h1' k)
    (fun j => ld_wi x3 h3 j k (colU k) (Nat.zero_add _).symm)))

/-- The second half's gates, from the blocks. -/
theorem u_second_blk {h0 h1 h1' h3} (r : Fin 512) (k : Fin 1024) :
    (k0_pay20 (F := Ideal) (k0_pay16 (k0_pay11 (View.ld x0 (Rect.unit ![0, 512, 0] ![1, 512, 1024] h0))) (k0_pay12 x2)
      (k0_pay13 (View.ld x1 (Rect.unit ![0, 0, 0, 0] ![1, 1, 1, 1024] h1))) (k0_pay14 (View.ld x1 (Rect.unit ![0, 0, 1, 0] ![1, 1, 1, 1024] h1')))
      (k0_pay15 (View.ld x0 (Rect.unit ![0, 512, 0] ![1, 512, 1024] h0)))) (View.ld x3 (Rect.unit ![0, 0] ![1024, 1024] h3)) (ix2 r k) : EReal)
      = blkU x0 x1 x2 x3 (row 1 r) k := by
  exact (u_second _ _ _ _ _ r k).trans (congrArg gelu (proj_congr (fun k => ld_x x0 1 rfl h0 r k) (fun k => ld_row x1 0 rfl h1 k) (fun k => ld_row x1 1 rfl h1' k)
    (fun j => ld_wi x3 h3 j k (colU k) (Nat.zero_add _).symm)))

/-- The first half's normalised features, from the blocks. -/
theorem v_first_blk {h0 h1 h1' h3} (r : Fin 512) (k : Fin 1024) :
    (k0_pay19 (F := Ideal) (k0_pay18 (k0_pay9 (k0_pay4 (View.ld x1 (Rect.unit ![0, 0, 0, 0] ![1, 1, 1, 1024] h1)))
      (k0_pay5 (View.ld x1 (Rect.unit ![0, 0, 1, 0] ![1, 1, 1, 1024] h1'))) (k0_pay6 (View.ld x0 (Rect.unit ![0, 0, 0] ![1, 512, 1024] h0)) x2) k0_pay7
      (View.ld x3 (Rect.unit ![0, 1024] ![1024, 1024] h3))) x4 x5) (ix2 r k) : EReal)
      = blkV x0 x1 x2 x3 x4 x5 (row 0 r) k := by
  refine (norm_first _ _ r k _).trans ?_
  unfold blkV gateV
  refine congrArg (fun a => norm a (fun k => x4 (ix2 0 k)) (fun k => x5 (ix2 0 k)) k) (funext fun f => congrArg gelu ?_)
  exact (z_first _ _ _ _ _ r f).trans (proj_congr (fun k => ld_x x0 0 rfl h0 r k) (fun k => ld_row x1 0 rfl h1 k) (fun k => ld_row x1 1 rfl h1' k)
    (fun j => ld_wi x3 h3 j f (colV f) rfl))

/-- The second half's normalised features, from the blocks. -/
theorem v_second_blk {h0 h1 h1' h3} (r : Fin 512) (k : Fin 1024) :
    (k0_pay79 (F := Ideal)
      (k0_pay76 (k0_pay17 (k0_pay11 (View.ld x0 (Rect.unit ![0, 512, 0] ![1, 512, 1024] h0))) (k0_pay12 x2)
        (k0_pay13 (View.ld x1 (Rect.unit ![0, 0, 0, 0] ![1, 1, 1, 1024] h1))) (k0_pay14 (View.ld x1 (Rect.unit ![0, 0, 1, 0] ![1, 1, 1, 1024] h1')))
        (k0_pay15 (View.ld x0 (Rect.unit ![0, 512, 0] ![1, 512, 1024] h0))) (View.ld x3 (Rect.unit ![0, 1024] ![1024, 1024] h3))))
      (k0_pay77 (k0_pay17 (k0_pay11 (View.ld x0 (Rect.unit ![0, 512, 0] ![1, 512, 1024] h0))) (k0_pay12 x2)
        (k0_pay13 (View.ld x1 (Rect.unit ![0, 0, 0, 0] ![1, 1, 1, 1024] h1))) (k0_pay14 (View.ld x1 (Rect.unit ![0, 0, 1, 0] ![1, 1, 1, 1024] h1')))
        (k0_pay15 (View.ld x0 (Rect.unit ![0, 512, 0] ![1, 512, 1024] h0))) (View.ld x3 (Rect.unit ![0, 1024] ![1024, 1024] h3))))
      k0_pay78 x4 x5 (ix2 r k) : EReal)
      = blkV x0 x1 x2 x3 x4 x5 (row 1 r) k := by
  refine (norm_second _ _ r k _).trans ?_
  unfold blkV gateV
  refine congrArg (fun a => norm a (fun k => x4 (ix2 0 k)) (fun k => x5 (ix2 0 k)) k) (funext fun f => congrArg gelu ?_)
  exact (z_second _ _ _ _ _ r f).trans (proj_congr (fun k => ld_x x0 1 rfl h0 r k) (fun k => ld_row x1 0 rfl h1 k) (fun k => ld_row x1 1 rfl h1' k)
    (fun j => ld_wi x3 h3 j f (colV f) rfl))

end

/-! ## The scratch read back -/

/-- Whether a store holds the tile at the offsets `o` and `q`. -/
def isTile (p : View.Piece (Elt Ideal) S1024x1024 .bf16) (o q : ℕ) : Bool :=
  p.1.off 0 == o && p.1.off 1 == q && p.1.size 0 == 128 && p.1.size 1 == 128 && p.1.stride 0 == 1 && p.1.stride 1 == 1

/-- Stores that hold every tile of the first `n` chunks cover their rows. -/
theorem covered (L : List (View.Piece (Elt Ideal) S1024x1024 .bf16)) (n : ℕ)
    (h : ((List.range n).all fun a => (List.range 8).all fun q => L.any fun p => isTile p (128 * a) (128 * q)) = true) (y : S1024x1024.Idx) (hy : (y 0).val < 128 * n) :
    ∃ p ∈ L, y ∈ p.1.set := by
  have h1 : (y 1).val < 1024 := (y 1).isLt
  have h2 := List.all_eq_true.mp (List.all_eq_true.mp h ((y 0).val / 128) (List.mem_range.mpr (by omega))) ((y 1).val / 128) (List.mem_range.mpr (by omega))
  obtain ⟨p, hp, ht⟩ := List.any_eq_true.mp h2
  refine ⟨p, hp, p.1.mem_set.mpr ?_⟩
  simp only [isTile, Bool.and_eq_true, beq_iff_eq] at ht
  obtain ⟨⟨⟨⟨⟨o0, o1⟩, s0⟩, s1⟩, t0⟩, t1⟩ := ht
  intro a
  fin_cases a
  · refine ⟨(y 0).val % 128, ?_, ?_⟩
    · show _ < p.1.size 0
      omega
    · show (y 0).val = p.1.off 0 + p.1.stride 0 * _
      rw [o0, t0]
      omega
  · refine ⟨(y 1).val % 128, ?_, ?_⟩
    · show _ < p.1.size 1
      omega
    · show (y 1).val = p.1.off 1 + p.1.stride 1 * _
      rw [o1, t1]
      omega

end Cert.SguVal

end
-- ==== Proof.SguBlock.lean ====
module

public import proofs.«01_k».proof.Proof.SguTile

@[expose] public section

set_option maxRecDepth 16384

noncomputable section

namespace Cert.SguVal

open Idealize.ShloMosaic Cert.SguIdeal Cert.SguIdeal.Gen

section
variable (x0 : Vec Ideal S1x1024x1024 .f32) (x1 : Vec Ideal S1x1x6x1024 .f32) (x2 : Vec Ideal S1x1024 .f32) (x3 : Vec Ideal S1024x2048 .bf16) (x4 x5 : Vec Ideal S1x1024 .f32)
  (x6 : Vec Ideal S8x128x128 .f32) (x7 : Vec Ideal S128x8 .f32) (x8 : Vec Ideal S1024x1024 .bf16)

/-- The block that the kernel leaves, as one function of the blocks that it reads. -/
def G : S1x1024x1024.Idx → Ideal .f32 := fun y =>
  result (fun k => x2 (ix2 0 k)) (fun k => x1 (ix4 0 0 0 k)) (fun k => x1 (ix4 0 0 1 k)) (fun k f => x3 (ix2 k f)) (fun k => x4 (ix2 0 k)) (fun k => x5 (ix2 0 k))
    (fun h t s => x6 (ix3 h t s)) (fun h t => x7 (ix2 t h)) (fun k => x1 (ix4 0 0 2 k)) (fun k f => x8 (ix2 k f)) (fun k => x0 (ix3 0 (y 1) k))
    (fun s k => x0 (ix3 0 (inChunk (y 1) s) k)) (place (y 1)) (y 2)

/-- A half's rows of the scratch, read over the stores of its tiles. -/
theorem read_rows {sp : Space} (v : View sig .tc sp S1024x1024 .bf16) (L : List (View.Piece (Elt Ideal) S1024x1024 .bf16))
    (hL : View.PiecesOf (Gt x0 x1 x2 x3 x4 x5 x6 x7) L) (b : Fin 2) {o : ℕ} (ho : o = 512 * b.val)
    (inb : ∀ a, (![o, 0] : Fin 2 → ℕ) a + (![512, 1024] : Fin 2 → ℕ) a ≤ S1024x1024.size a)
    (hc : ((List.range (4 * (b.val + 1))).all fun a => (List.range 8).all fun q => L.any fun p => isTile p (128 * a) (128 * q)) = true) (r : Fin 512) (k : Fin 1024) :
    v.readCov (Val := Elt Ideal) L (Rect.unit (s := S1024x1024) ![o, 0] ![512, 1024] inb).toLoadRect (ix2 r k) = blkGated x0 x1 x2 x3 x4 x5 x6 x7 (row b r) k := by
  have e : (Rect.unit (s := S1024x1024) ![o, 0] ![512, 1024] inb).toLoadRect.idx (ix2 r k) = ix2 (row b r) k := by
    funext a
    apply Fin.ext
    refine (Rect.idx_unit_val _ _ inb _ a).trans ?_
    fin_cases a
    · show o + r.val = 512 * b.val + r.val
      omega
    · show 0 + k.val = k.val
      omega
  refine (congrFun (View.readCov_eq_canon' v L _) _).trans ?_
  rw [e]
  exact View.canon_apply_of_pieces _ L hL.mem _ (covered L _ hc _ (by show 512 * b.val + r.val < _; omega))

/-- An index of a half's block. -/
theorem idx_half (x : S1x512x1024.Idx) : x = ix3 (0 : Fin 1) (x 1 : Fin 512) (x 2 : Fin 1024) := by
  funext a
  apply Fin.ext
  fin_cases a
  · have : (x 0).val < 1 := (x 0).isLt
    show (x 0).val = 0
    omega
  · rfl
  · rfl

theorem emb_half (b : Fin 2) {o : ℕ} (ho : o = 512 * b.val) (h : ∀ a, (![0, o, 0] : Fin 3 → ℕ) a + (![1, 512, 1024] : Fin 3 → ℕ) a ≤ S1x1024x1024.size a) (r : Fin 512) (d : Fin 1024) :
    (Rect.unit (s := S1x1024x1024) ![0, o, 0] ![1, 512, 1024] h).emb (ix3 0 r d) = ix3 0 (row b r) d := by
  funext a
  apply Fin.ext
  refine (Rect.idx_unit_val _ _ h _ a).trans ?_
  fin_cases a
  · rfl
  · show o + r.val = 512 * b.val + r.val
    omega
  · show 0 + d.val = d.val
    omega

/-- What the first half's last store holds. -/
theorem out_first {a : Vec Ideal S512x1024 .bf16} (ha : ∀ r k, (a (ix2 r k) : EReal) = blkGated x0 x1 x2 x3 x4 x5 x6 x7 (row 0 r) k) {h0 h1}
    (x : (Rect.unit (s := S1x1024x1024) ![0, 0, 0] ![1, 512, 1024] h0).shape.Idx) :
    k0_pay80 (F := Ideal) a x8 (View.ld x0 (Rect.unit ![0, 0, 0] ![1, 512, 1024] h0)) (View.ld x1 (Rect.unit ![0, 0, 2, 0] ![1, 1, 1, 1024] h1)) x
      = G x0 x1 x2 x3 x4 x5 x6 x7 x8 ((Rect.unit (s := S1x1024x1024) ![0, 0, 0] ![1, 512, 1024] h0).emb x) := by
  obtain ⟨r, d, rfl⟩ : ∃ (r : Fin 512) (d : Fin 1024), x = ix3 (0 : Fin 1) r d := ⟨x 1, x 2, idx_half x⟩
  refine Eq.trans ?_ (congrArg (G x0 x1 x2 x3 x4 x5 x6 x7 x8) (emb_half 0 (o := 0) rfl h0 r d).symm)
  refine (last_first _ _ _ r d a).trans ?_
  simp only [ha]
  exact congrArg₂ (fun p q : EReal => p + q * _) (ld_x x0 0 rfl h0 r d) (ld_row x1 2 rfl h1 d)

/-- What the second half's last store holds. -/
theorem out_second {a : Vec Ideal S512x1024 .bf16} (ha : ∀ r k, (a (ix2 r k) : EReal) = blkGated x0 x1 x2 x3 x4 x5 x6 x7 (row 1 r) k) {h0 h1}
    (x : (Rect.unit (s := S1x1024x1024) ![0, 512, 0] ![1, 512, 1024] h0).shape.Idx) :
    k0_pay1 (F := Ideal) a x8 (View.ld x0 (Rect.unit ![0, 512, 0] ![1, 512, 1024] h0)) (View.ld x1 (Rect.unit ![0, 0, 2, 0] ![1, 1, 1, 1024] h1)) x
      = G x0 x1 x2 x3 x4 x5 x6 x7 x8 ((Rect.unit (s := S1x1024x1024) ![0, 512, 0] ![1, 512, 1024] h0).emb x) := by
  obtain ⟨r, d, rfl⟩ : ∃ (r : Fin 512) (d : Fin 1024), x = ix3 (0 : Fin 1) r d := ⟨x 1, x 2, idx_half x⟩
  refine Eq.trans ?_ (congrArg (G x0 x1 x2 x3 x4 x5 x6 x7 x8) (emb_half 1 (o := 512) rfl h0 r d).symm)
  refine (last_second _ _ _ r d a).trans ?_
  simp only [ha]
  exact congrArg₂ (fun p q : EReal => p + q * _) (ld_x x0 1 rfl h0 r d) (ld_row x1 2 rfl h1 d)

end

variable (c : Dev nD) (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S128x8 .f32) (harg9 : arg9.IsWhole) (arg10 : Memref sig .tc .vmem S1024x1024 .bf16) (harg10 : arg10.IsWhole) (arg11 : Memref sig .tc .vmem S1x32x4096 .f32) (harg11 : arg11.IsWhole) (arg12 : Memref sig .tc .vmem S1x128x1024 .f32) (harg12 : arg12.IsWhole) (arg13 : Memref sig .tc .vmem S1x1024x1024 .f32) (harg13 : arg13.IsWhole) (arg14 : Memref sig .tc .vmem S32x4096 .bf16) (harg14 : arg14.IsWhole) (arg15 : Memref sig .tc .vmem S128x1024 .bf16) (harg15 : arg15.IsWhole) (arg16 : Memref sig .tc .vmem S1024x1024 .bf16) (harg16 : arg16.IsWhole)
    (x0 : Vec Ideal S1x1024x1024 .f32) (x1 : Vec Ideal S1x1x6x1024 .f32) (x2 : Vec Ideal S1x1024 .f32) (x3 : Vec Ideal S1024x2048 .bf16) (x4 : Vec Ideal S1x1024 .f32) (x5 : Vec Ideal S1x1024 .f32) (x6 : Vec Ideal S8x128x128 .f32) (x7 : Vec Ideal S128x8 .f32) (x8 : Vec Ideal S1024x1024 .bf16) (x9 : Vec Ideal S1x32x4096 .f32) (x10 : Vec Ideal S1x128x1024 .f32)

/-- What the kernel leaves in a block of its first result. -/
theorem out_eq (y : S1x1024x1024.Idx) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
      = G x0 x1 x2 x3 x4 x5 x6 x7 x8 y := by
  frame_open
  frame_out
  refine View.canon_apply_of_pieces (Val := Elt Ideal) (e := .f32) (G x0 x1 x2 x3 x4 x5 x6 x7 x8) _ (View.PiecesOf.mem ?_) y ?_
  refine ⟨fun x => ?_, fun x => ?_, trivial⟩
  · refine out_second x0 x1 x2 x3 x4 x5 x6 x7 x8 (read_rows x0 x1 x2 x3 x4 x5 x6 x7 _ _ ?_ 1 rfl _ ?_) x
    · iterate 32 refine And.intro (piece x0 x1 x2 x3 x4 x5 x6 x7 1 u_second_blk v_second_blk (by decide) (by decide) (by decide) (by decide) (by decide) (by decide) rfl) ?_
      iterate 32 refine And.intro (piece x0 x1 x2 x3 x4 x5 x6 x7 0 u_first_blk v_first_blk (by decide) (by decide) (by decide) (by decide) (by decide) (by decide) rfl) ?_
      exact trivial
    · sl_kernel_rfl
  · refine out_first x0 x1 x2 x3 x4 x5 x6 x7 x8 (read_rows x0 x1 x2 x3 x4 x5 x6 x7 _ _ ?_ 0 rfl _ ?_) x
    · iterate 32 refine And.intro (piece x0 x1 x2 x3 x4 x5 x6 x7 0 u_first_blk v_first_blk (by decide) (by decide) (by decide) (by decide) (by decide) (by decide) rfl) ?_
      exact trivial
    · sl_kernel_rfl
  · exact View.cover_of_tiledL _ ![1, 512, 1024] (by sl_kernel_rfl) y

end Cert.SguVal

end
-- ==== Proof.SguReference.lean ====
module

public import proofs.«01_k».proof.Defs
public import proofs.«01_k».proof.Proof.Gating
public import proofs.«01_k».proof.Proof.Gen.SguReferenceIdeal.Run
public import Idealize.ShloMosaic.Lib.Pointwise

@[expose] public section

set_option maxRecDepth 16384

noncomputable section

namespace Cert.SguVal

open Idealize.ShloMosaic Idealize.ShloMosaic.TcCoe Idealize.SL.Sem

section
open Cert.SguReferenceIdeal Cert.SguReferenceIdeal.Gen

/-- A row of the modulation table, spread over the tokens. -/
def refMod (o : ℕ) (mod : FVec Ideal S4x8x6x1024 .f32) (h : S8x6x1024.Slices ![0, o, 0] S8x1x1024) : FVec Ideal S8x1x1024 .f32 :=
  broadcastInDim S8x1x1024 ![0, 2] bcast_S8x1024_S8x1x1024_0_2 (shapeCast _ (extractStridedSlice S8x1x1024 ![0, o, 0]
    (shapeCast _ (extractStridedSlice S1x8x6x1024 ![1, 0, 0, 0] mod slices_S4x8x6x1024_S1x8x6x1024_1_0_0_0) shapeCasts_S1x8x6x1024_S8x6x1024) h)
    shapeCasts_S8x1x1024_S8x1024)

/-- The reference's normalised and modulated features. -/
def refHid (x : FVec Ideal S8x4096x1024 .f32) (sh sc : FVec Ideal S8x1x1024 .f32) (g : FVec Ideal S1024 .f32) : FVec Ideal S8x4096x1024 .f32 :=
  addf (mulf (mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32)) sc)))
    (broadcastInDim S8x4096x1024 ![0, 1, 2] bcast_S8x1x1024_S8x4096x1024_0_1_2 sh)

/-- The reference's activated projections. -/
def refAct (z : FVec Ideal S8x4096x2048 .f32) : FVec Ideal S8x4096x2048 .f32 :=
  mulf (mulf z (broadcastInDim S8x4096x2048 ![] bcast_S_S8x4096x2048 (constant S_ .f32 0x3F000000#32)))
    (addf (broadcastInDim S8x4096x2048 ![] bcast_S_S8x4096x2048 (constant S_ .f32 0x3F800000#32))
      (Host.erf (mulf z (broadcastInDim S8x4096x2048 ![] bcast_S_S8x4096x2048 (constant S_ .f32 0x3F3504F3#32)))))

/-- The reference's centred features. -/
def refCentre (v : FVec Ideal S8x4096x1024 .f32) : FVec Ideal S8x4096x1024 .f32 :=
  subf v (broadcastInDim S8x4096x1024 ![0, 1, 2] bcast_S8x4096x1_S8x4096x1024_0_1_2 (Host.divf
    (broadcastInDim S8x4096x1 ![0, 1] bcast_S8x4096_S8x4096x1_0_1 (Host.reduceAdd v (constant S_ .f32 0x00000000#32) reducesTo_S8x4096x1024_S8x4096_d2 h_S_))
    (broadcastInDim S8x4096x1 ![] bcast_S_S8x4096x1 (constant S_ .f32 0x44800000#32))))

/-- The reference's scaled features. -/
def refScale (v : FVec Ideal S8x4096x1024 .f32) (g b : FVec Ideal S1024 .f32) : FVec Ideal S8x4096x1024 .f32 :=
  addf (mulf (mulf v (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf v v) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x3727C5AC#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S1x1x1024_S8x4096x1024_0_1_2 (broadcastInDim S1x1x1024 ![2] bcast_S1024_S1x1x1024_2 b))

/-- The reference's causal weights. -/
def refWs (w : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2
    (cmpi .sle (broadcastInDim S128x128 ![0, 1] bcast_S1x128_S128x128_0_1 (broadcastInDim S1x128 ![1] bcast_S128_S1x128_1 (iotaInDim S128 32 0)))
      (broadcastInDim S128x128 ![0, 1] bcast_S128x1_S128x128_0_1 (broadcastInDim S128x1 ![0] bcast_S128_S128x1_0 (iotaInDim S128 32 0))))))
    w (broadcastInDim S8x128x128 ![] bcast_S_S8x128x128 (id (constant S_ .f32 0x00000000#32)))

/-- The reference's mixed chunks. -/
def refMix (v : FVec Ideal S8x4096x1024 .f32) (w : FVec Ideal S8x128x128 .f32) (b : FVec Ideal S8x128 .f32) : FVec Ideal S8x4096x1024 .f32 :=
  shapeCast _ (addf (transpose S8x32x128x8x128 [1, 2, 4, 0, 3] (Host.dotGeneral dot_S8x32x128x8x128_S8x128x128_S8x8x32x128x128_2_2_014_1_3_0 none
    (shapeCast _ v shapeCasts_S8x4096x1024_S8x32x128x8x128) w) transposes_S8x8x32x128x128_S8x32x128x8x128_1_2_4_0_3)
    (broadcastInDim S8x32x128x8x128 ![0, 1, 2, 3, 4] bcast_S1x1x128x8x1_S8x32x128x8x128_0_1_2_3_4
      (broadcastInDim S1x1x128x8x1 ![2, 3] bcast_S128x8_S1x1x128x8x1_2_3 (transpose S128x8 [1, 0] b transposes_S8x128_S128x8_1_0))))
    shapeCasts_S8x32x128x8x128_S8x4096x1024

theorem refMod_apply (o : ℕ) (ho : o < 6) (mod : FVec Ideal S4x8x6x1024 .f32) (h : S8x6x1024.Slices ![0, o, 0] S8x1x1024) (b : Fin 8) (k : Fin 1024) :
    (refMod o mod h (ix3 b 0 k) : EReal) = mod (ix4 1 b ⟨o, ho⟩ k) := by
  pointwise [refMod]

theorem refHid_apply (x : FVec Ideal S8x4096x1024 .f32) (sh sc : FVec Ideal S8x1x1024 .f32) (g : FVec Ideal S1024 .f32) (b : Fin 8) (r : Fin 4096) (k : Fin 1024) :
    (refHid x sh sc g (ix3 b r k) : EReal)
      = Ffn.hid (fun k => x (ix3 b r k)) (fun k => g (ix1 k)) (fun k => sh (ix3 b 0 k)) (fun k => sc (ix3 b 0 k)) k := by
  pointwise [refHid]
  rfl

theorem refAct_apply (z : FVec Ideal S8x4096x2048 .f32) (b : Fin 8) (r : Fin 4096) (k : Fin 2048) :
    (refAct z (ix3 b r k) : EReal) = gelu (z (ix3 b r k)) := by
  unfold gelu
  rw [mul_comm (Ideal.ofBits FTy.f32 1056964608#32)]
  pointwise [refAct]

theorem refScale_apply (v : FVec Ideal S8x4096x1024 .f32) (g l : FVec Ideal S1024 .f32) (b : Fin 8) (r : Fin 4096) (k : Fin 1024) :
    (refScale (refCentre v) g l (ix3 b r k) : EReal)
      = norm (fun k => v (ix3 b r k)) (fun k => g (ix1 k)) (fun k => l (ix1 k)) k := by
  pointwise [refScale, refCentre]
  rfl

/-- The rows of the token's chunk. -/
def chunkRow (r : Fin 4096) (s : Fin 128) : Fin 4096 := ⟨r.val / 128 * 128 + s.val, by omega⟩

/-- The token's place in its chunk. -/
def placeIn (r : Fin 4096) : Fin 128 := ⟨r.val % 128, by omega⟩

/-- A product with a masked weight is the masked product. -/
theorem mul_select (c : BitVec 1) (v w : EReal) : v * Scalar.select c w 0 = Scalar.select c (w * v) 0 := by
  unfold Scalar.select
  split
  · exact mul_comm v w
  · exact mul_zero v

theorem refWs_apply (w : FVec Ideal S8x128x128 .f32) (h : Fin 8) (t s : Fin 128) :
    (refWs w (ix3 h t s) : EReal) = Scalar.select (IntOp.cmpi CmpIPredicate.sle (BitVec.ofNat 32 s.val) (BitVec.ofNat 32 t.val)) (w (ix3 h t s) : EReal) 0 := by
  unfold refWs
  simp only [id]
  pointwise

theorem refMix_apply (v : FVec Ideal S8x4096x1024 .f32) (w : FVec Ideal S8x128x128 .f32) (l : FVec Ideal S8x128 .f32) (b : Fin 8) (r : Fin 4096) (k : Fin 1024) :
    (refMix v (refWs w) l (ix3 b r k) : EReal)
      = ∑ s : Fin 128, Scalar.select (IntOp.cmpi CmpIPredicate.sle (BitVec.ofNat 32 s.val) (BitVec.ofNat 32 (placeIn r).val))
          ((w (ix3 (headOf k) (placeIn r) s) : EReal) * v (ix3 b (chunkRow r s) k)) 0 + l (ix2 (headOf k) (placeIn r)) := by
  have h : (refMix v (refWs w) l (ix3 b r k) : EReal)
      = ∑ s : Fin 128, (v (ix3 b (chunkRow r s) k) : EReal) * refWs w (ix3 (headOf k) (placeIn r) s) + l (ix2 (headOf k) (placeIn r)) := by
    pointwise [refMix]
    rfl
  rw [h]
  simp only [refWs_apply, mul_select]

theorem ref_eq (m : (ℓ : Loc nD τ sig) → Buf (Elt Ideal) ℓ) (c : Dev nD)
    (x : FVec Ideal S8x4096x1024 .f32) (mod : FVec Ideal S4x8x6x1024 .f32) (g : FVec Ideal S1024 .f32) (wi : FVec Ideal S1024x2048 .bf16) (lg lb : FVec Ideal S1024 .f32)
    (ws : FVec Ideal S8x128x128 .f32) (bs : FVec Ideal S8x128 .f32) (wo : FVec Ideal S1024x1024 .bf16)
    (hx : m ((c.tc : Thread nD τ).loc main_arg0) = x) (hmod : m ((c.tc : Thread nD τ).loc main_arg1) = mod) (hg : m ((c.tc : Thread nD τ).loc main_arg2) = g)
    (hwi : m ((c.tc : Thread nD τ).loc main_arg3) = wi) (hlg : m ((c.tc : Thread nD τ).loc main_arg4) = lg) (hlb : m ((c.tc : Thread nD τ).loc main_arg5) = lb)
    (hws : m ((c.tc : Thread nD τ).loc main_arg6) = ws) (hbs : m ((c.tc : Thread nD τ).loc main_arg7) = bs) (hwo : m ((c.tc : Thread nD τ).loc main_arg8) = wo)
    (z : FVec Ideal S8x4096x2048 .f32)
    (hz : z = refAct (Host.dotGeneral dot_S8x4096x1024_S1024x2048_S8x4096x2048_2_0_01_1_n_n none
      (refHid x (refMod 0 mod slices_S8x6x1024_S8x1x1024_0_0_0) (refMod 1 mod slices_S8x6x1024_S8x1x1024_0_1_0) g) (extf .f32 wi bitsLt_bf16_f32))) :
    Cert.SguReferenceIdeal.Value.res_out0 m c
      = addf x (mulf (broadcastInDim S8x4096x1024 ![0, 1, 2] bcast_S8x1x1024_S8x4096x1024_0_1_2 (refMod 2 mod slices_S8x6x1024_S8x1x1024_0_2_0))
        (Host.dotGeneral dot_S8x4096x1024_S1024x1024_S8x4096x1024_2_0_01_1_n_n none (mulf
          (extractStridedSlice S8x4096x1024 ![0, 0, 0] z slices_S8x4096x2048_S8x4096x1024_0_0_0)
          (refMix (refScale (refCentre (extractStridedSlice S8x4096x1024 ![0, 0, 1024] z slices_S8x4096x2048_S8x4096x1024_0_0_1024)) lg lb) (refWs ws) bs))
          (extf .f32 wo bitsLt_bf16_f32))) := by
  subst hz
  subst hx hmod hg hwi hlg hlb hws hbs hwo
  rfl

/-- The reference's activated projections, entry by entry. -/
theorem act_apply (x : FVec Ideal S8x4096x1024 .f32) (sh sc : FVec Ideal S8x1x1024 .f32) (g : FVec Ideal S1024 .f32) (wi : FVec Ideal S1024x2048 .bf16) (b : Fin 8) (r : Fin 4096) (k : Fin 2048) :
    (refAct (Host.dotGeneral dot_S8x4096x1024_S1024x2048_S8x4096x2048_2_0_01_1_n_n none (refHid x sh sc g) (extf .f32 wi bitsLt_bf16_f32)) (ix3 b r k) : EReal)
      = gelu (∑ j, Ffn.hid (fun k => x (ix3 b r k)) (fun k => g (ix1 k)) (fun k => sh (ix3 b 0 k)) (fun k => sc (ix3 b 0 k)) j * wi (ix2 j k)) := by
  rw [refAct_apply]
  simp only [← refHid_apply]
  congr 1
  pointwise

theorem half_u (z : FVec Ideal S8x4096x2048 .f32) (b : Fin 8) (r : Fin 4096) (k : Fin 1024) :
    (extractStridedSlice S8x4096x1024 ![0, 0, 0] z slices_S8x4096x2048_S8x4096x1024_0_0_0 (ix3 b r k) : EReal) = z (ix3 b r (colU k)) := by
  pointwise
  rfl

theorem half_v (z : FVec Ideal S8x4096x2048 .f32) (b : Fin 8) (r : Fin 4096) (k : Fin 1024) :
    (extractStridedSlice S8x4096x1024 ![0, 0, 1024] z slices_S8x4096x2048_S8x4096x1024_0_0_1024 (ix3 b r k) : EReal) = z (ix3 b r (colV k)) := by
  pointwise
  rfl

theorem refOut_apply (x u v : FVec Ideal S8x4096x1024 .f32) (gt : FVec Ideal S8x1x1024 .f32) (wo : FVec Ideal S1024x1024 .bf16) (b : Fin 8) (r : Fin 4096) (d : Fin 1024) :
    (addf x (mulf (broadcastInDim S8x4096x1024 ![0, 1, 2] bcast_S8x1x1024_S8x4096x1024_0_1_2 gt)
        (Host.dotGeneral dot_S8x4096x1024_S1024x1024_S8x4096x1024_2_0_01_1_n_n none (mulf u v) (extf .f32 wo bitsLt_bf16_f32))) (ix3 b r d) : EReal)
      = x (ix3 b r d) + gt (ix3 b 0 d) * ∑ k : Fin 1024, ((u (ix3 b r k) : EReal) * v (ix3 b r k)) * wo (ix2 k d) := by
  pointwise

/-- The reference's result, entry by entry. -/
theorem ref_apply (m : (ℓ : Loc nD τ sig) → Buf (Elt Ideal) ℓ) (c : Dev nD) (b : Fin 8) (r : Fin 4096) (d : Fin 1024) :
    (Cert.SguReferenceIdeal.Value.res_out0 m c (ix3 b r d) : Ideal .f32)
      = (result (fun k => m ((c.tc : Thread nD τ).loc main_arg2) (ix1 k))
        (fun k => m ((c.tc : Thread nD τ).loc main_arg1) (ix4 1 b 0 k))
        (fun k => m ((c.tc : Thread nD τ).loc main_arg1) (ix4 1 b 1 k))
        (fun k f => m ((c.tc : Thread nD τ).loc main_arg3) (ix2 k f))
        (fun k => m ((c.tc : Thread nD τ).loc main_arg4) (ix1 k))
        (fun k => m ((c.tc : Thread nD τ).loc main_arg5) (ix1 k))
        (fun h t s => m ((c.tc : Thread nD τ).loc main_arg6) (ix3 h t s))
        (fun h t => m ((c.tc : Thread nD τ).loc main_arg7) (ix2 h t))
        (fun k => m ((c.tc : Thread nD τ).loc main_arg1) (ix4 1 b 2 k))
        (fun f k => m ((c.tc : Thread nD τ).loc main_arg8) (ix2 f k))
        (fun k => m ((c.tc : Thread nD τ).loc main_arg0) (ix3 b r k))
        (fun s k => m ((c.tc : Thread nD τ).loc main_arg0) (ix3 b (chunkRow r s) k)) (placeIn r) d : EReal) := by
  refine (congrFun (ref_eq m c _ _ _ _ _ _ _ _ _ rfl rfl rfl rfl rfl rfl rfl rfl rfl _ rfl) (ix3 b r d)).trans ?_
  refine (refOut_apply _ _ _ _ _ b r d).trans ?_
  simp only [refMix_apply, refScale_apply, half_u, half_v, act_apply]
  simp only [refMod_apply 0 (by decide), refMod_apply 1 (by decide), refMod_apply 2 (by decide)]
  rfl

end

end Cert.SguVal

end
-- ==== Proof.SguAlgebraic.lean ====
module

public import proofs.«01_k».proof.Proof.SguBlock
public import proofs.«01_k».proof.Proof.SguReference

@[expose] public section

set_option maxRecDepth 16384

noncomputable section

namespace Cert.SguVal

open Idealize.ShloMosaic Idealize.ShloMosaic.TcCoe Idealize.SL.Sem

section
open Cert.SguIdeal Cert.SguIdeal.Gen
variable (m : (ℓ : Loc nD τ sig) → Buf (Elt Ideal) ℓ) (c : Dev nD)

theorem idx0 : ∀ t : Fin cfg0.N, win0_0.index t = ![(grid0.coords t 0).val, (grid0.coords t 1).val, 0] := by decide +kernel
theorem idx1 : ∀ t : Fin cfg0.N, win0_1.index t = ![1, (grid0.coords t 0).val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![2, t.val, 0] := by decide +kernel
theorem idx10 : ∀ t : Fin cfg0.N, win0_10.index t = ![2, t.val, 0] := by decide +kernel
theorem idx11 : ∀ t : Fin cfg0.N, win0_11.index t = ![(grid0.coords t 0).val, (grid0.coords t 1).val, 0] := by decide +kernel
theorem idx12 : ∀ t : Fin cfg0.N, win0_12.index t = ![t.val, 0] := by decide +kernel
theorem idx13 : ∀ t : Fin cfg0.N, win0_13.index t = ![t.val, 0] := by decide +kernel

/-- The array's row of a block's row. -/
def token (t : Fin cfg0.N) (r : Fin 1024) : Fin 4096 :=
  ⟨1024 * (grid0.coords t 1).val + r.val, by have h : (grid0.coords t 1).val < 4 := (grid0.coords t 1).isLt; omega⟩

theorem iblk0_apply (t : Fin cfg0.N) (r d : Fin 1024) :
    (iblk m c 0 t : Vec Ideal S1x1024x1024 .f32) (ix3 0 r d) = (m ((c : Thread nD τ).loc main_arg0)) (ix3 (grid0.coords t 0) (token t r) d) := by
  blk_ext [iblk, V_main_arg0, idx0 t]
  show (grid0.coords t 1).val * 1024 + r.val = 1024 * (grid0.coords t 1).val + r.val
  omega

theorem iblk1_apply (t : Fin cfg0.N) (n : Fin 6) (k : Fin 1024) :
    (iblk m c 1 t : Vec Ideal S1x1x6x1024 .f32) (ix4 0 0 n k) = (m ((c : Thread nD τ).loc main_arg1)) (ix4 1 (grid0.coords t 0) n k) := by
  blk_ext [iblk, V_main_arg1, idx1 t]

theorem iblk2_apply (t : Fin cfg0.N) (k : Fin 1024) :
    (iblk m c 2 t : Vec Ideal S1x1024 .f32) (ix2 0 k) = (m ((c : Thread nD τ).loc main_arg2)) (ix1 k) := by
  blk_ext! [iblk, V, idx2 t]

theorem iblk3_apply (t : Fin cfg0.N) (k : Fin 1024) (f : Fin 2048) :
    (iblk m c 3 t : Vec Ideal S1024x2048 .bf16) (ix2 k f) = (m ((c : Thread nD τ).loc main_arg3)) (ix2 k f) := by
  blk_ext [iblk, V_main_arg3, idx3 t]

theorem iblk4_apply (t : Fin cfg0.N) (k : Fin 1024) :
    (iblk m c 4 t : Vec Ideal S1x1024 .f32) (ix2 0 k) = (m ((c : Thread nD τ).loc main_arg4)) (ix1 k) := by
  blk_ext! [iblk, V, idx4 t]

theorem iblk5_apply (t : Fin cfg0.N) (k : Fin 1024) :
    (iblk m c 5 t : Vec Ideal S1x1024 .f32) (ix2 0 k) = (m ((c : Thread nD τ).loc main_arg5)) (ix1 k) := by
  blk_ext! [iblk, V, idx5 t]

theorem iblk6_apply (t : Fin cfg0.N) (h : Fin 8) (p s : Fin 128) :
    (iblk m c 6 t : Vec Ideal S8x128x128 .f32) (ix3 h p s) = (m ((c : Thread nD τ).loc main_arg6)) (ix3 h p s) := by
  blk_ext [iblk, V_main_arg6, idx6 t]

theorem iblk7_apply (t : Fin cfg0.N) (p : Fin 128) (h : Fin 8) :
    (iblk m c 7 t : Vec Ideal S128x8 .f32) (ix2 p h) = (m ((c : Thread nD τ).loc main_arg7)) (ix2 h p) := by
  blk_ext! [iblk, V, idx7 t]

theorem iblk8_apply (t : Fin cfg0.N) (f k : Fin 1024) :
    (iblk m c 8 t : Vec Ideal S1024x1024 .bf16) (ix2 f k) = (m ((c : Thread nD τ).loc main_arg8)) (ix2 f k) := by
  blk_ext [iblk, V_main_arg8, idx8 t]

section
variable (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S128x8 .f32) (harg9 : arg9.IsWhole) (arg10 : Memref sig .tc .vmem S1024x1024 .bf16) (harg10 : arg10.IsWhole) (arg11 : Memref sig .tc .vmem S1x32x4096 .f32) (harg11 : arg11.IsWhole) (arg12 : Memref sig .tc .vmem S1x128x1024 .f32) (harg12 : arg12.IsWhole) (arg13 : Memref sig .tc .vmem S1x1024x1024 .f32) (harg13 : arg13.IsWhole) (arg14 : Memref sig .tc .vmem S32x4096 .bf16) (harg14 : arg14.IsWhole) (arg15 : Memref sig .tc .vmem S128x1024 .bf16) (harg15 : arg15.IsWhole) (arg16 : Memref sig .tc .vmem S1024x1024 .bf16) (harg16 : arg16.IsWhole)
    (x0 : Vec Ideal S1x1024x1024 .f32) (x1 : Vec Ideal S1x1x6x1024 .f32) (x2 : Vec Ideal S1x1024 .f32) (x3 : Vec Ideal S1024x2048 .bf16) (x4 : Vec Ideal S1x1024 .f32) (x5 : Vec Ideal S1x1024 .f32) (x6 : Vec Ideal S8x128x128 .f32) (x7 : Vec Ideal S128x8 .f32) (x8 : Vec Ideal S1024x1024 .bf16) (x9 : Vec Ideal S1x32x4096 .f32) (x10 : Vec Ideal S1x128x1024 .f32)

/-- What the kernel leaves in a block of its second result. -/
theorem out12_eq : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = k0_pay2 x9 := by
  frame_open
  frame_out

/-- What the kernel leaves in a block of its third result. -/
theorem out13_eq : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = k0_pay3 x10 := by
  frame_open
  frame_out

end

attribute [local irreducible] out0_A_11 out0_A_12 out0_A_13 result

/-- An index of a block. -/
theorem idx_block (y : S1x1024x1024.Idx) : y = ix3 (0 : Fin 1) (y 1 : Fin 1024) (y 2 : Fin 1024) := by
  funext a
  apply Fin.ext
  fin_cases a
  · have : (y 0).val < 1 := (y 0).isLt
    show (y 0).val = 0
    omega
  · rfl
  · rfl

theorem token_chunk (t : Fin cfg0.N) (r : Fin 1024) (s : Fin 128) : token t (inChunk r s) = chunkRow (token t r) s := by
  apply Fin.ext
  show 1024 * (grid0.coords t 1).val + (r.val / 128 * 128 + s.val) = (1024 * (grid0.coords t 1).val + r.val) / 128 * 128 + s.val
  omega

theorem token_place (t : Fin cfg0.N) (r : Fin 1024) : place r = placeIn (token t r) := by
  apply Fin.ext
  show r.val % 128 = (1024 * (grid0.coords t 1).val + r.val) % 128
  omega

/-- The first array after the run is any array that holds the mixer's values. -/
theorem arr11 (A : S8x4096x1024.Idx → Ideal .f32)
    (hA : ∀ b r d, (A (ix3 b r d) : EReal) = result (fun k => m ((c : Thread nD τ).loc main_arg2) (ix1 k))
        (fun k => m ((c : Thread nD τ).loc main_arg1) (ix4 1 b 0 k))
        (fun k => m ((c : Thread nD τ).loc main_arg1) (ix4 1 b 1 k))
        (fun k f => m ((c : Thread nD τ).loc main_arg3) (ix2 k f))
        (fun k => m ((c : Thread nD τ).loc main_arg4) (ix1 k))
        (fun k => m ((c : Thread nD τ).loc main_arg5) (ix1 k))
        (fun h t s => m ((c : Thread nD τ).loc main_arg6) (ix3 h t s))
        (fun h t => m ((c : Thread nD τ).loc main_arg7) (ix2 h t))
        (fun k => m ((c : Thread nD τ).loc main_arg1) (ix4 1 b 2 k))
        (fun f k => m ((c : Thread nD τ).loc main_arg8) (ix2 f k))
        (fun k => m ((c : Thread nD τ).loc main_arg0) (ix3 b r k))
        (fun s k => m ((c : Thread nD τ).loc main_arg0) (ix3 b (chunkRow r s) k)) (placeIn r) d) :
    (dats m 0 c).arrAt 11 cfg0.N = A := by
  refine (dats m 0 c).arrAt_eq_of_covers 11 _ (by decide +kernel) fun t hf y => ?_
  blk_simp
  obtain ⟨r, d, rfl⟩ : ∃ (r : Fin 1024) (d : Fin 1024), y = ix3 (0 : Fin 1) r d := ⟨y 1, y 2, idx_block y⟩
  have e : (win0_11.blk t).view.emb (ix3 (0 : Fin 1) r d) = ix3 (grid0.coords t 0) (token t r) d := by
    blk_ext [idx11 t]
    show (grid0.coords t 1).val * 1024 + r.val = 1024 * (grid0.coords t 1).val + r.val
    omega
  rw [e, after0_11]
  refine Eq.trans ?_ (hA _ _ _).symm
  refine (out_eq c _ _ _ _ _ _ _ _ _ _ _ _ _ _ _ _ _ _ _ _ _ _ _ _ _ _ _ _ _ _ _ _ _ _ _ _ _ _ _ _ _ _ _).trans ?_
  show result _ _ _ _ _ _ _ _ _ _ _ _ (place r) d = _
  simp only [← token_chunk t, ← token_place t, ← iblk0_apply m c t, ← iblk1_apply m c t, ← iblk2_apply m c t, ← iblk3_apply m c t, ← iblk4_apply m c t,
    ← iblk5_apply m c t, ← iblk6_apply m c t, ← iblk7_apply m c t, ← iblk8_apply m c t]
  rfl

/-- The second array after the run is the argument's slice. -/
theorem arr12 (A : S1024x4096.Idx → Ideal .bf16)
    (hA : ∀ (a : Fin 1024) (b : Fin 4096), A (ix2 a b) = (m ((c : Thread nD τ).loc main_arg9)) (ix3 (2 : Fin 4) a b)) :
    (dats m 0 c).arrAt 12 cfg0.N = A := by
  have hpay : ∀ (x : Vec Ideal S1x32x4096 .f32) (r : Fin 32) (l : Fin 4096), k0_pay2 (F := Ideal) x (ix2 r l) = x (ix3 (0 : Fin 1) r l) := by
    intro x r l
    pointwise [k0_pay2]
  refine (dats m 0 c).arrAt_eq_of_covers 12 _ (by decide +kernel) fun t hf y => ?_
  have ht : t.val < 32 := t.isLt
  blk_simp
  obtain ⟨r, l, rfl⟩ : ∃ (r : Fin 32) (l : Fin 4096), y = ix2 r l := ⟨y 0, y 1, by funext a; fin_cases a <;> rfl⟩
  have e : (win0_12.blk t).view.emb (ix2 r l) = ix2 (⟨32 * t.val + r.val, by omega⟩ : Fin 1024) l := by
    blk_ext [idx12 t]
  rw [e, hA, after0_12]
  have hx : (iblk m c 9 t : Vec Ideal S1x32x4096 .f32) (ix3 (0 : Fin 1) r l) = (m ((c : Thread nD τ).loc main_arg9)) (ix3 (2 : Fin 4) (⟨32 * t.val + r.val, by omega⟩ : Fin 1024) l) := by
    blk_ext [iblk, V_main_arg9, idx9 t]
    all_goals first
      | rfl
      | (show t.val * 32 + r.val = _; omega)
  refine Eq.trans ?_ ((hpay _ r l).trans hx)
  exact congrFun (out12_eq c _ _ _ _ _ _ _ _ _ _ _ _ _ _ _ _ _ _ _ _ _ _ _ _ _ _ _ _ _ _ _ _ _ _ _ _ _ _ _ _ _ _) (ix2 r l)

/-- The third array after the run is the argument's slice. -/
theorem arr13 (A : S4096x1024.Idx → Ideal .bf16)
    (hA : ∀ (a : Fin 4096) (b : Fin 1024), A (ix2 a b) = (m ((c : Thread nD τ).loc main_arg10)) (ix3 (2 : Fin 4) a b)) :
    (dats m 0 c).arrAt 13 cfg0.N = A := by
  have hpay : ∀ (x : Vec Ideal S1x128x1024 .f32) (r : Fin 128) (l : Fin 1024), k0_pay3 (F := Ideal) x (ix2 r l) = x (ix3 (0 : Fin 1) r l) := by
    intro x r l
    pointwise [k0_pay3]
  refine (dats m 0 c).arrAt_eq_of_covers 13 _ (by decide +kernel) fun t hf y => ?_
  have ht : t.val < 32 := t.isLt
  blk_simp
  obtain ⟨r, l, rfl⟩ : ∃ (r : Fin 128) (l : Fin 1024), y = ix2 r l := ⟨y 0, y 1, by funext a; fin_cases a <;> rfl⟩
  have e : (win0_13.blk t).view.emb (ix2 r l) = ix2 (⟨128 * t.val + r.val, by omega⟩ : Fin 4096) l := by
    blk_ext [idx13 t]
  rw [e, hA, after0_13]
  have hx : (iblk m c 10 t : Vec Ideal S1x128x1024 .f32) (ix3 (0 : Fin 1) r l) = (m ((c : Thread nD τ).loc main_arg10)) (ix3 (2 : Fin 4) (⟨128 * t.val + r.val, by omega⟩ : Fin 4096) l) := by
    blk_ext [iblk, V_main_arg10, idx10 t]
    all_goals first
      | rfl
      | (show t.val * 128 + r.val = _; omega)
  refine Eq.trans ?_ ((hpay _ r l).trans hx)
  exact congrFun (out13_eq c _ _ _ _ _ _ _ _ _ _ _ _ _ _ _ _ _ _ _ _ _ _ _ _ _ _ _ _ _ _ _ _ _ _ _ _ _ _ _ _ _ _) (ix2 r l)

end

section
open Cert.SguReferenceIdeal Cert.SguReferenceIdeal.Gen

/-- The reference's first cast, entry by entry. -/
theorem cast1 (x : FVec Ideal S4x1024x4096 .f32) (a : Fin 1024) (b : Fin 4096) :
    (truncf .bf16 (shapeCast S1024x4096 (extractStridedSlice S1x1024x4096 ![2, 0, 0] x slices_S4x1024x4096_S1x1024x4096_2_0_0) shapeCasts_S1x1024x4096_S1024x4096) bitsLt_bf16_f32 : FVec Ideal S1024x4096 .bf16) (ix2 a b)
      = x (ix3 (2 : Fin 4) a b) := by
  pointwise

/-- The reference's second cast, entry by entry. -/
theorem cast2 (x : FVec Ideal S4x4096x1024 .f32) (a : Fin 4096) (b : Fin 1024) :
    (truncf .bf16 (shapeCast S4096x1024 (extractStridedSlice S1x4096x1024 ![2, 0, 0] x slices_S4x4096x1024_S1x4096x1024_2_0_0) shapeCasts_S1x4096x1024_S4096x1024) bitsLt_bf16_f32 : FVec Ideal S4096x1024 .bf16) (ix2 a b)
      = x (ix3 (2 : Fin 4) a b) := by
  pointwise

end

/-- The token mixer's kernel computes the reference's values over the extended reals. -/
theorem algebraic : Cert.algebraic_SguIdeal_SguReferenceIdeal := by
  intro m g m' g' _ hag
  refine ⟨_, _, _, ?_, (θ_run _ _ _).mono (fun r h c => h c) (Cert.SguReferenceIdeal.Value.run m' g')⟩
  refine (θ_run _ _ _).mono (fun r h c => ?_) (Cert.SguIdeal.Value.run_blocks m g)
  obtain ⟨h0, h1, h2, k⟩ := h c
  obtain ⟨a0, a1, a2, a3, a4, a5, a6, a7, a8, a9, a10⟩ := hag c
  refine ⟨h0.trans ?_, h1.trans ?_, h2.trans ?_, k⟩
  · refine arr11 m c _ fun b r d => (ref_apply m' c b r d).trans ?_
    rw [a0, a1, a2, a3, a4, a5, a6, a7, a8]
  · refine arr12 m c _ fun a b => ?_
    rw [a9]
    exact cast1 _ a b
  · refine arr13 m c _ fun a b => ?_
    rw [a10]
    exact cast2 _ a b

end Cert.SguVal

end
-- ==== Proof.Rotary.lean ====
module

public import proofs.«01_k».proof.Proof.Ffn

@[expose] public section

noncomputable section

/-! The queries and the keys of one token, over the extended reals. -/

namespace Cert.ProjVal

open Idealize.ShloMosaic

/-- Features divided by their root mean square and scaled; `c` holds their number. -/
def rms {n : ℕ} (c : BitVec 32) (a g : Fin n → EReal) (f : Fin n) : EReal :=
  a f * Ideal.rsqrt (Ideal.div (∑ j, a j * a j) (Ideal.ofBits FTy.f32 c) + Ideal.ofBits FTy.f32 897988541#32) * g f

/-- The frequency of a lane. -/
def freqOf (l : ℕ) : Fin 32 := ⟨l % 32, by omega⟩

/-- The angle by which the position `p` turns the lane `l`. -/
def angle (p : BitVec 32) (F : Fin 32 → EReal) (l : ℕ) : EReal := FloatOps.sitofp (F := Ideal) FTy.f32 p * F (freqOf l)

/-- A lane turned: `a` is its own entry, `b` its partner's. -/
def turn (p : BitVec 32) (F : Fin 32 → EReal) (sg : Fin 128 → EReal) (a b : EReal) (l : Fin 128) : EReal :=
  a * Ideal.cos (angle p F l.val) + b * (Ideal.sin (angle p F l.val) * sg l)

/-- A token's features in the latent space. -/
def latent (hid : Fin 1024 → EReal) (w : Fin 1024 → Fin 640 → EReal) (j : Fin 640) : EReal := ∑ k, hid k * w k j

/-- The latent features of the queries. -/
def cq (L : Fin 640 → EReal) (g : Fin 256 → EReal) (f : Fin 256) : EReal := rms 1132462080#32 (fun j : Fin 256 => L ⟨j.val, by omega⟩) g f

/-- The latent features of the keys. -/
def ckv (L : Fin 640 → EReal) (g : Fin 128 → EReal) (f : Fin 128) : EReal := rms 1124073472#32 (fun j : Fin 128 => L ⟨256 + j.val, by omega⟩) g f

/-- A key's entry. -/
def key (L : Fin 640 → EReal) (g : Fin 128 → EReal) (p : BitVec 32) (F : Fin 32 → EReal) (sg : Fin 128 → EReal) (l : Fin 256) : EReal :=
  if h : l.val < 128 then ckv L g ⟨l.val, h⟩
  else turn p F sg (L ⟨256 + l.val, by omega⟩) (L ⟨384 + l.val, by omega⟩) ⟨l.val - 128, by omega⟩

/-- A pair of heads' entry, turned. -/
def pair (Q : Fin 256 → EReal) (w : Fin 256 → Fin 4096 → EReal) (p : BitVec 32) (F : Fin 32 → EReal) (sg : Fin 128 → EReal) (u : Fin 8) (s : Fin 128) : EReal :=
  turn p F sg (∑ f, Q f * w f ⟨2048 + 128 * u.val + s.val, by omega⟩) (∑ f, Q f * w f ⟨3072 + 128 * u.val + s.val, by omega⟩) s

/-- A query's entry. Beside the head's own turned lanes lie the other head's of its pair. -/
def query (Q : Fin 256 → EReal) (w : Fin 256 → Fin 4096 → EReal) (p : BitVec 32) (F : Fin 32 → EReal) (sg : Fin 128 → EReal) (h : Fin 16) (l : Fin 256) : EReal :=
  if l.val < 128 then ∑ f, Q f * w f ⟨(128 * h.val + l.val) % 4096, by omega⟩
  else pair Q w p F sg ⟨h.val / 2, by omega⟩ ⟨(l.val + 64 * (h.val % 2)) % 128, by omega⟩

end Cert.ProjVal

end
-- ==== Proof.ProjTile.lean ====
module

public import proofs.«01_k».proof.Proof.Rotary
public import proofs.«01_k».proof.Proof.Gen.ProjIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjVal

open Idealize.ShloMosaic Cert.ProjIdeal Cert.ProjIdeal.Gen

/-- The lanes' numbers. -/
def lanes : IVec S1x128 32 := iota .tc S1x128 32 [1] iota_S1x128_d1_w32

theorem low_lane (l : Fin 128) : IntOp.cmpi CmpIPredicate.slt (BitVec.ofNat 32 l.val) 64#32 = if l.val < 64 then 1#1 else 0#1 := by
  revert l
  decide

theorem low_partner (l : Fin 128) : IntOp.cmpi CmpIPredicate.slt (BitVec.ofNat 32 ((l.val + 128 - 64) % 128)) 64#32 = if l.val < 64 then 0#1 else 1#1 := by
  revert l
  decide

/-- The position of a half's row. -/
def posOf (p q : Vec Ideal S1x256x1 .i32) (r : Fin 512) : BitVec 32 :=
  if h : r.val < 256 then p (ix3 0 ⟨r.val, h⟩ 0) else q (ix3 0 ⟨r.val - 256, by omega⟩ 0)

section
variable (v : Vec Ideal S1x512x1024 .f32) (g : Vec Ideal S1x1024 .f32) (sh sc : Vec Ideal S1x1x1x1024 .f32) (w : Vec Ideal S1024x640 .bf16) (r : Fin 512)

theorem lat_apply (j : Fin 640) : (k0_pay2 (F := Ideal) v g sh sc w (ix2 r j) : EReal)
    = latent (Ffn.hid (fun k => v (ix3 0 r k)) (fun k => g (ix2 0 k)) (fun k => sh (ix4 0 0 0 k)) (fun k => sc (ix4 0 0 0 k))) (fun k j => w (ix2 k j)) j := by
  pointwise [k0_pay2]
  rfl

variable (L : FVec Ideal S512x640 .f32)

theorem cq_apply (gq : Vec Ideal S1x256 .f32) (f : Fin 256) :
    (k0_pay52 (F := Ideal) L gq (ix2 r f) : EReal) = cq (fun j => L (ix2 r j)) (fun f => gq (ix2 0 f)) f := by
  pointwise [k0_pay52]
  rfl

theorem ckv_apply (gk : Vec Ideal S1x128 .f32) (f : Fin 128) :
    (k0_pay53 (F := Ideal) L gk (ix2 r f) : EReal) = ckv (fun j => L (ix2 r j)) (fun f => gk (ix2 0 f)) f := by
  pointwise [k0_pay53]
  rfl

variable (p q : Vec Ideal S1x256x1 .i32) (fr sg : Vec Ideal S1x128 .f32) (F : Fin 32 → EReal) (hf : ∀ l : Fin 128, (fr (ix2 0 l) : EReal) = F (freqOf l.val))

include hf in
theorem cos_apply (l : Fin 128) : (k0_pay56 (F := Ideal) lanes p q fr (ix2 r l) : EReal) = Ideal.cos (angle (posOf p q r) F l.val) := by
  have e : freqOf ((l.val + 128 - 64) % 128) = freqOf l.val := Fin.ext (by show (l.val + 128 - 64) % 128 % 32 = l.val % 32; omega)
  pointwise [k0_pay56, k0_pay55, k0_pay54, lanes]
  simp only [low_lane, low_partner, hf, posOf, angle, Scalar.select, e]
  by_cases hr : r.val < 256 <;> by_cases hl : l.val < 64 <;> simp [hr, hl]

include hf in
theorem sin_apply (l : Fin 128) : (k0_pay57 (F := Ideal) lanes p q fr sg (ix2 r l) : EReal) = Ideal.sin (angle (posOf p q r) F l.val) * sg (ix2 0 l) := by
  have e : freqOf ((l.val + 128 - 64) % 128) = freqOf l.val := Fin.ext (by show (l.val + 128 - 64) % 128 % 32 = l.val % 32; omega)
  pointwise [k0_pay57, k0_pay55, k0_pay54, lanes]
  simp only [low_lane, low_partner, hf, posOf, angle, Scalar.select, e]
  by_cases hr : r.val < 256 <;> by_cases hl : l.val < 64 <;> simp [hr, hl]

variable (C S : FVec Ideal S512x128 .f32)

/-- A table beside itself. -/
theorem twice_apply (k : Fin 256) : (k0_pay63 (F := Ideal) C (ix2 r k) : EReal) = C (ix2 r ⟨k.val % 128, by omega⟩) := by
  pointwise [k0_pay63]
  by_cases hk : k.val < 128
  · rw [dif_pos hk]
    exact congrArg (fun n => C (ix2 r n)) (Fin.ext (by show k.val = k.val % 128; omega))
  · rw [dif_neg hk]
    exact congrArg (fun n => C (ix2 r n)) (Fin.ext (by show k.val - 128 = k.val % 128; omega))

theorem rope_apply (Q : FVec Ideal S512x256 .bf16) (C2 S2 : FVec Ideal S512x256 .f32) (wa wb : Vec Ideal S256x256 .bf16) (k : Fin 256) :
    (k0_pay20 (F := Ideal) Q C2 S2 wa wb (ix2 r k) : EReal)
      = (∑ f, Q (ix2 r f) * wa (ix2 f k)) * C2 (ix2 r k) + (∑ f, Q (ix2 r f) * wb (ix2 f k)) * S2 (ix2 r k) := by
  pointwise [k0_pay20]

theorem key_first (gk : Vec Ideal S1x128 .f32) (l : Fin 128) : (k0_pay61 (F := Ideal) (k0_pay60 (k0_pay53 L gk)) (ix3 0 r l) : EReal) = k0_pay53 L gk (ix2 r l) := by
  pointwise [k0_pay61, k0_pay60]

theorem key_second (l : Fin 128) : (k0_pay62 (F := Ideal) C S (k0_pay58 L) (k0_pay59 L) (ix3 0 r l) : EReal)
    = L (ix2 r ⟨384 + l.val, by omega⟩) * C (ix2 r l) + L (ix2 r ⟨512 + l.val, by omega⟩) * S (ix2 r l) := by
  pointwise [k0_pay62, k0_pay58, k0_pay59]

end

/-- The stored tile of a head's lanes. -/
def tileA (v : FVec Ideal S512x256 .f32) (o : ℕ) (hs : S512x256.Slices ![0, o] S512x128) : FVec Ideal S1x1x512x128 .bf16 :=
  shapeCast S1x1x512x128 (truncf .bf16 (extractStridedSlice S512x128 ![0, o] v hs) bitsLt_bf16_f32) shapeCasts_S512x128_S1x1x512x128

/-- The stored tile of a pair's lanes, the second head's first. -/
def tileC (v : FVec Ideal S512x256 .f32) (o : ℕ) (hs : S512x256.Slices ![0, o] S512x128) : FVec Ideal S1x1x512x128 .bf16 :=
  shapeCast S1x1x512x128 (truncf .bf16 (dynamicRotate 1 64#32 none (extractStridedSlice S512x128 ![0, o] v hs) rotates_S512x128_d1) bitsLt_bf16_f32) shapeCasts_S512x128_S1x1x512x128

theorem tileA_apply (v : FVec Ideal S512x256 .f32) (o : ℕ) (hs : S512x256.Slices ![0, o] S512x128) (ho : o + 128 ≤ 256) (r : Fin 512) (l : Fin 128) :
    (tileA v o hs (ix4 0 0 r l) : EReal) = v (ix2 r ⟨o + l.val, by omega⟩) := by
  pointwise [tileA]

theorem tileC_apply (v : FVec Ideal S512x256 .f32) (o : ℕ) (hs : S512x256.Slices ![0, o] S512x128) (ho : o + 128 ≤ 256) (r : Fin 512) (l : Fin 128) :
    (tileC v o hs (ix4 0 0 r l) : EReal) = v (ix2 r ⟨o + (l.val + 64) % 128, by omega⟩) := by
  pointwise [tileC]
  refine congrArg (fun n => v (ix2 r n)) (Fin.ext ?_)
  show o + (l.val + 128 - 64) % 128 = o + (l.val + 64) % 128
  omega

theorem mm_apply (Q : FVec Ideal S512x256 .bf16) (w : Vec Ideal S256x256 .bf16) (r : Fin 512) (k : Fin 256) :
    (k0_pay28 (F := Ideal) Q w (ix2 r k) : EReal) = ∑ f, Q (ix2 r f) * w (ix2 f k) := by
  pointwise [k0_pay28]

/-- The row of a half. -/
def row (b : Fin 2) (r : Fin 512) : Fin 1024 := ⟨512 * b.val + r.val, by omega⟩

section
variable (x0 : Vec Ideal S1x1024x1024 .f32) (x1 : Vec Ideal S1x1x6x1024 .f32) (x2 : Vec Ideal S1x1024 .f32) (x3 : Vec Ideal S1x1024x1 .i32) (x4 : Vec Ideal S1024x640 .bf16)
  (x5 : Vec Ideal S1x256 .f32) (x6 : Vec Ideal S1x128 .f32) (x7 : Vec Ideal S256x4096 .bf16) (x8 x9 : Vec Ideal S1x128 .f32) (F : Fin 32 → EReal)

theorem ld_row (n : Fin 6) {o : ℕ} (ho : o = n.val) (h : ∀ a, (![0, 0, o, 0] : Fin 4 → ℕ) a + (![1, 1, 1, 1024] : Fin 4 → ℕ) a ≤ S1x1x6x1024.size a) (k : Fin 1024) :
    View.ld x1 (Rect.unit ![0, 0, o, 0] ![1, 1, 1, 1024] h) (ix4 (0 : Fin 1) (0 : Fin 1) (0 : Fin 1) k) = x1 (ix4 0 0 n k) := by
  refine View.ld_unit_apply_of _ _ _ _ _ _ fun a => ?_
  fin_cases a
  · rfl
  · rfl
  · show n.val = o + 0
    omega
  · show k.val = 0 + k.val
    omega

theorem ld_x (b : Fin 2) {o : ℕ} (ho : o = 512 * b.val) (h : ∀ a, (![0, o, 0] : Fin 3 → ℕ) a + (![1, 512, 1024] : Fin 3 → ℕ) a ≤ S1x1024x1024.size a) (r : Fin 512) (d : Fin 1024) :
    View.ld x0 (Rect.unit ![0, o, 0] ![1, 512, 1024] h) (ix3 (0 : Fin 1) r d) = x0 (ix3 0 (row b r) d) := by
  refine View.ld_unit_apply_of _ _ _ _ _ _ fun a => ?_
  fin_cases a
  · rfl
  · show 512 * b.val + r.val = o + r.val
    omega
  · show d.val = 0 + d.val
    omega

theorem ld_pos {o : ℕ} (h : ∀ a, (![0, o, 0] : Fin 3 → ℕ) a + (![1, 256, 1] : Fin 3 → ℕ) a ≤ S1x1024x1.size a) (r : Fin 256) (n : Fin 1024) (hn : n.val = o + r.val) :
    View.ld x3 (Rect.unit ![0, o, 0] ![1, 256, 1] h) (ix3 (0 : Fin 1) r (0 : Fin 1)) = x3 (ix3 0 n 0) := by
  refine View.ld_unit_apply_of _ _ _ _ _ _ fun a => ?_
  fin_cases a
  · rfl
  · exact hn
  · rfl

theorem ld_all {n k : ℕ} {e : EltTy} (x : Vec Ideal (⟨2, ![n, k]⟩ : Shape) e) (h : ∀ a, (![0, 0] : Fin 2 → ℕ) a + (![n, k] : Fin 2 → ℕ) a ≤ (⟨2, ![n, k]⟩ : Shape).size a) (a : Fin n) (b : Fin k) :
    View.ld x (Rect.unit ![0, 0] ![n, k] h) (ix2 a b) = x (ix2 a b) := by
  refine View.ld_unit_apply_of _ _ _ _ _ _ fun i => ?_
  fin_cases i
  · show a.val = 0 + a.val
    omega
  · show b.val = 0 + b.val
    omega

theorem ld_w {o : ℕ} (h : ∀ a, (![0, o] : Fin 2 → ℕ) a + (![256, 256] : Fin 2 → ℕ) a ≤ S256x4096.size a) (f k : Fin 256) (n : Fin 4096) (hn : n.val = o + k.val) :
    View.ld x7 (Rect.unit ![0, o] ![256, 256] h) (ix2 f k) = x7 (ix2 f n) := by
  refine View.ld_unit_apply_of _ _ _ _ _ _ fun a => ?_
  fin_cases a
  · show f.val = 0 + f.val
    omega
  · exact hn

/-- A row's latent features, from the blocks. -/
def blkL (r : Fin 1024) (j : Fin 640) : EReal :=
  latent (Ffn.hid (fun k => x0 (ix3 0 r k)) (fun k => x2 (ix2 0 k)) (fun k => x1 (ix4 0 0 0 k)) (fun k => x1 (ix4 0 0 1 k))) (fun k j => x4 (ix2 k j)) j

/-- The latent features of a row's queries, from the blocks. -/
def blkQ (r : Fin 1024) (f : Fin 256) : EReal := cq (blkL x0 x1 x2 x4 r) (fun f => x5 (ix2 0 f)) f

/-- The block of queries, as one function of the blocks that it is computed from. -/
def Gq : S1x16x1024x256.Idx → Ideal .bf16 := fun y =>
  query (blkQ x0 x1 x2 x4 x5 (y 2)) (fun f k => x7 (ix2 f k)) (x3 (ix3 0 (y 2) 0)) F (fun l => x9 (ix2 0 l)) (y 1) (y 3)

/-- The block of keys, as one function of the blocks that it is computed from. -/
def Gk : S1x1024x256.Idx → Ideal .bf16 := fun y =>
  key (blkL x0 x1 x2 x4 (y 1)) (fun f => x6 (ix2 0 f)) (x3 (ix3 0 (y 1) 0)) F (fun l => x9 (ix2 0 l)) (y 2)

/-- An index of a tile of queries. -/
theorem idx_tile (x : S1x1x512x128.Idx) : x = ix4 (0 : Fin 1) (0 : Fin 1) (x 2 : Fin 512) (x 3 : Fin 128) := by
  funext a
  apply Fin.ext
  fin_cases a
  · have : (x 0).val < 1 := (x 0).isLt
    show (x 0).val = 0
    omega
  · have : (x 1).val < 1 := (x 1).isLt
    show (x 1).val = 0
    omega
  · rfl
  · rfl

theorem emb_tile (b : Fin 2) (h : Fin 16) {O n p : ℕ} (hO : O = 512 * b.val) (hn : n = h.val) (hp : p + 128 ≤ 256)
    (inb : ∀ a, (![0, n, O, p] : Fin 4 → ℕ) a + (![1, 1, 512, 128] : Fin 4 → ℕ) a ≤ S1x16x1024x256.size a) (r : Fin 512) (l : Fin 128) :
    (Rect.unit (s := S1x16x1024x256) ![0, n, O, p] ![1, 1, 512, 128] inb).emb (ix4 (0 : Fin 1) (0 : Fin 1) r l) = ix4 (0 : Fin 1) h (row b r) (⟨p + l.val, by omega⟩ : Fin 256) := by
  funext a
  apply Fin.ext
  refine (Rect.idx_unit_val _ _ inb _ a).trans ?_
  fin_cases a
  · rfl
  · show n + 0 = h.val
    omega
  · show O + r.val = 512 * b.val + r.val
    omega
  · rfl

section
variable (b : Fin 2) {Q : FVec Ideal S512x256 .bf16} (hQ : ∀ r f, (Q (ix2 r f) : EReal) = blkQ x0 x1 x2 x4 x5 (row b r) f)

include hQ

/-- A stored tile of a head's own lanes. -/
theorem pieceA {n O : ℕ} {f : FVec Ideal S1x1x512x128 .bf16} (inb : ∀ a, (![0, n, O, 0] : Fin 4 → ℕ) a + (![1, 1, 512, 128] : Fin 4 → ℕ) a ≤ S1x16x1024x256.size a)
    (h7 : ∀ a, (![0, 256 * (n / 2)] : Fin 2 → ℕ) a + (![256, 256] : Fin 2 → ℕ) a ≤ S256x4096.size a) (hs : S512x256.Slices ![0, 128 * (n % 2)] S512x128)
    (hn : n < 16 ∧ O = 512 * b.val) (hf : f = tileA (k0_pay28 Q (View.ld x7 (Rect.unit ![0, 256 * (n / 2)] ![256, 256] h7))) (128 * (n % 2)) hs)
    (x : (Rect.unit (s := S1x16x1024x256) ![0, n, O, 0] ![1, 1, 512, 128] inb).shape.Idx) :
    f x = Gq x0 x1 x2 x3 x4 x5 x7 x9 F ((Rect.unit (s := S1x16x1024x256) ![0, n, O, 0] ![1, 1, 512, 128] inb).emb x) := by
  obtain ⟨r, l, rfl⟩ : ∃ (r : Fin 512) (l : Fin 128), x = ix4 (0 : Fin 1) (0 : Fin 1) r l := ⟨x 2, x 3, idx_tile x⟩
  obtain ⟨hn, hO⟩ := hn
  refine Eq.trans ?_ (congrArg (Gq x0 x1 x2 x3 x4 x5 x7 x9 F) (emb_tile b ⟨n, hn⟩ hO rfl (by omega) inb r l).symm)
  rw [hf]
  refine (tileA_apply _ _ hs (by omega) r l).trans ((mm_apply _ _ r _).trans ?_)
  have hl : 0 + l.val < 128 := by omega
  refine Eq.trans ?_ (if_pos hl).symm
  refine Finset.sum_congr rfl fun f _ => ?_
  rw [hQ]
  exact congrArg (fun w : EReal => _ * w) (ld_w x7 h7 f _ _ (by
    show (128 * n + (0 + l.val)) % 4096 = 256 * (n / 2) + (128 * (n % 2) + l.val)
    omega))

variable {C2 S2 : FVec Ideal S512x256 .f32}
  (hC : ∀ r (k : Fin 256), (C2 (ix2 r k) : EReal) = Ideal.cos (angle (x3 (ix3 0 (row b r) 0)) F (k.val % 128)))
  (hS : ∀ r (k : Fin 256), (S2 (ix2 r k) : EReal) = Ideal.sin (angle (x3 (ix3 0 (row b r) 0)) F (k.val % 128)) * x9 (ix2 0 ⟨k.val % 128, by omega⟩))

include hC hS

/-- A pair's turned lanes. -/
theorem pair_apply (u : Fin 8) {o a a' : ℕ} (ha : ∀ i, (![0, a] : Fin 2 → ℕ) i + (![256, 256] : Fin 2 → ℕ) i ≤ S256x4096.size i) (ha' : ∀ i, (![0, a'] : Fin 2 → ℕ) i + (![256, 256] : Fin 2 → ℕ) i ≤ S256x4096.size i)
    (ho : o + 128 ≤ 256 ∧ o % 128 = 0) (h1 : a + o = 2048 + 128 * u.val) (h2 : a' + o = 3072 + 128 * u.val) (r : Fin 512) (s : Fin 128) :
    (k0_pay20 (F := Ideal) Q C2 S2 (View.ld x7 (Rect.unit ![0, a] ![256, 256] ha)) (View.ld x7 (Rect.unit ![0, a'] ![256, 256] ha')) (ix2 r ⟨o + s.val, by omega⟩) : EReal)
      = pair (blkQ x0 x1 x2 x4 x5 (row b r)) (fun f k => x7 (ix2 f k)) (x3 (ix3 0 (row b r) 0)) F (fun l => x9 (ix2 0 l)) u s := by
  have e : (o + s.val) % 128 = s.val := by omega
  refine (rope_apply r Q C2 S2 _ _ _).trans ?_
  simp only [hQ, hC, hS, e]
  unfold pair turn
  refine congrArg₂ (fun x y : EReal => x * _ + y * _) (Finset.sum_congr rfl fun f _ => ?_) (Finset.sum_congr rfl fun f _ => ?_)
  · exact congrArg (fun w : EReal => _ * w) (ld_w x7 ha f _ _ (by
      show 2048 + 128 * u.val + s.val = a + (o + s.val)
      omega))
  · exact congrArg (fun w : EReal => _ * w) (ld_w x7 ha' f _ _ (by
      show 3072 + 128 * u.val + s.val = a' + (o + s.val)
      omega))

/-- A stored tile of a pair's turned lanes, beside the first head's own. -/
theorem pieceB {n O : ℕ} {f : FVec Ideal S1x1x512x128 .bf16} (inb : ∀ a, (![0, n, O, 128] : Fin 4 → ℕ) a + (![1, 1, 512, 128] : Fin 4 → ℕ) a ≤ S1x16x1024x256.size a)
    (ha : ∀ i, (![0, 2048 + 256 * (n / 4)] : Fin 2 → ℕ) i + (![256, 256] : Fin 2 → ℕ) i ≤ S256x4096.size i)
    (ha' : ∀ i, (![0, 3072 + 256 * (n / 4)] : Fin 2 → ℕ) i + (![256, 256] : Fin 2 → ℕ) i ≤ S256x4096.size i) (hs : S512x256.Slices ![0, 128 * (n / 2 % 2)] S512x128)
    (hn : n < 16 ∧ n % 2 = 0 ∧ O = 512 * b.val)
    (hf : f = tileA (k0_pay20 Q C2 S2 (View.ld x7 (Rect.unit ![0, 2048 + 256 * (n / 4)] ![256, 256] ha)) (View.ld x7 (Rect.unit ![0, 3072 + 256 * (n / 4)] ![256, 256] ha'))) (128 * (n / 2 % 2)) hs)
    (x : (Rect.unit (s := S1x16x1024x256) ![0, n, O, 128] ![1, 1, 512, 128] inb).shape.Idx) :
    f x = Gq x0 x1 x2 x3 x4 x5 x7 x9 F ((Rect.unit (s := S1x16x1024x256) ![0, n, O, 128] ![1, 1, 512, 128] inb).emb x) := by
  obtain ⟨r, l, rfl⟩ : ∃ (r : Fin 512) (l : Fin 128), x = ix4 (0 : Fin 1) (0 : Fin 1) r l := ⟨x 2, x 3, idx_tile x⟩
  obtain ⟨hn, h2, hO⟩ := hn
  refine Eq.trans ?_ (congrArg (Gq x0 x1 x2 x3 x4 x5 x7 x9 F) (emb_tile b ⟨n, hn⟩ hO rfl (by omega) inb r l).symm)
  rw [hf]
  refine (tileA_apply _ _ hs (by omega) r l).trans ?_
  have hl : ¬ (128 + l.val < 128) := by omega
  refine Eq.trans ?_ (if_neg hl).symm
  refine (pair_apply x0 x1 x2 x3 x4 x5 x7 x9 F b hQ hC hS ⟨n / 2, by omega⟩ ha ha' (by omega) (by show _ = 2048 + 128 * (n / 2); omega) (by show _ = 3072 + 128 * (n / 2); omega) r l).trans ?_
  refine congrArg (pair _ _ _ _ _ _) (Fin.ext ?_)
  show l.val = (128 + l.val + 64 * (n % 2)) % 128
  omega

/-- A stored tile of a pair's turned lanes, beside the second head's own. -/
theorem pieceC {n O : ℕ} {f : FVec Ideal S1x1x512x128 .bf16} (inb : ∀ a, (![0, n, O, 128] : Fin 4 → ℕ) a + (![1, 1, 512, 128] : Fin 4 → ℕ) a ≤ S1x16x1024x256.size a)
    (ha : ∀ i, (![0, 2048 + 256 * (n / 4)] : Fin 2 → ℕ) i + (![256, 256] : Fin 2 → ℕ) i ≤ S256x4096.size i)
    (ha' : ∀ i, (![0, 3072 + 256 * (n / 4)] : Fin 2 → ℕ) i + (![256, 256] : Fin 2 → ℕ) i ≤ S256x4096.size i) (hs : S512x256.Slices ![0, 128 * (n / 2 % 2)] S512x128)
    (hn : n < 16 ∧ n % 2 = 1 ∧ O = 512 * b.val)
    (hf : f = tileC (k0_pay20 Q C2 S2 (View.ld x7 (Rect.unit ![0, 2048 + 256 * (n / 4)] ![256, 256] ha)) (View.ld x7 (Rect.unit ![0, 3072 + 256 * (n / 4)] ![256, 256] ha'))) (128 * (n / 2 % 2)) hs)
    (x : (Rect.unit (s := S1x16x1024x256) ![0, n, O, 128] ![1, 1, 512, 128] inb).shape.Idx) :
    f x = Gq x0 x1 x2 x3 x4 x5 x7 x9 F ((Rect.unit (s := S1x16x1024x256) ![0, n, O, 128] ![1, 1, 512, 128] inb).emb x) := by
  obtain ⟨r, l, rfl⟩ : ∃ (r : Fin 512) (l : Fin 128), x = ix4 (0 : Fin 1) (0 : Fin 1) r l := ⟨x 2, x 3, idx_tile x⟩
  obtain ⟨hn, h2, hO⟩ := hn
  refine Eq.trans ?_ (congrArg (Gq x0 x1 x2 x3 x4 x5 x7 x9 F) (emb_tile b ⟨n, hn⟩ hO rfl (by omega) inb r l).symm)
  rw [hf]
  refine (tileC_apply _ _ hs (by omega) r l).trans ?_
  have hl : ¬ (128 + l.val < 128) := by omega
  refine Eq.trans ?_ (if_neg hl).symm
  refine (pair_apply x0 x1 x2 x3 x4 x5 x7 x9 F b hQ hC hS ⟨n / 2, by omega⟩ ha ha' (by omega) (by show _ = 2048 + 128 * (n / 2); omega) (by show _ = 3072 + 128 * (n / 2); omega) r
    ⟨(l.val + 64) % 128, by omega⟩).trans ?_
  refine congrArg (pair _ _ _ _ _ _) (Fin.ext ?_)
  show (l.val + 64) % 128 = (128 + l.val + 64 * (n % 2)) % 128
  omega

end

end

end Cert.ProjVal

end
-- ==== Proof.ProjBlock.lean ====
module

public import proofs.«01_k».proof.Proof.ProjTile

@[expose] public section

set_option maxRecDepth 16384

noncomputable section

namespace Cert.ProjVal

open Idealize.ShloMosaic Cert.ProjIdeal Cert.ProjIdeal.Gen

variable (x0 : Vec Ideal S1x1024x1024 .f32) (x1 : Vec Ideal S1x1x6x1024 .f32) (x2 : Vec Ideal S1x1024 .f32) (x3 : Vec Ideal S1x1024x1 .i32) (x4 : Vec Ideal S1024x640 .bf16)
  (x5 : Vec Ideal S1x256 .f32) (x6 : Vec Ideal S1x128 .f32) (x7 : Vec Ideal S256x4096 .bf16) (x8 x9 : Vec Ideal S1x128 .f32) (F : Fin 32 → EReal)

/-- The latent features of a half, from the blocks. -/
theorem lat_blk (b : Fin 2) {o : ℕ} (ho : o = 512 * b.val) {h0 h1 h1' h2 h4} (r : Fin 512) :
    (fun j => (k0_pay2 (F := Ideal) (View.ld x0 (Rect.unit ![0, o, 0] ![1, 512, 1024] h0)) (View.ld x2 (Rect.unit ![0, 0] ![1, 1024] h2))
      (View.ld x1 (Rect.unit ![0, 0, 0, 0] ![1, 1, 1, 1024] h1)) (View.ld x1 (Rect.unit ![0, 0, 1, 0] ![1, 1, 1, 1024] h1'))
      (View.ld x4 (Rect.unit ![0, 0] ![1024, 640] h4)) (ix2 r j) : EReal)) = blkL x0 x1 x2 x4 (row b r) := by
  funext j
  refine (lat_apply _ _ _ _ _ r j).trans ?_
  unfold blkL latent
  refine Finset.sum_congr rfl fun k _ => congrArg₂ (fun p q : EReal => p * q) ?_ (ld_all x4 h4 k j)
  have e0 : (fun k => View.ld x0 (Rect.unit ![0, o, 0] ![1, 512, 1024] h0) (ix3 (0 : Fin 1) r k)) = fun k => x0 (ix3 0 (row b r) k) := funext fun k => ld_x x0 b ho h0 r k
  have e1 : (fun k => View.ld x1 (Rect.unit ![0, 0, 0, 0] ![1, 1, 1, 1024] h1) (ix4 (0 : Fin 1) (0 : Fin 1) (0 : Fin 1) k)) = fun k => x1 (ix4 0 0 0 k) := funext fun k => ld_row x1 0 rfl h1 k
  have e2 : (fun k => View.ld x1 (Rect.unit ![0, 0, 1, 0] ![1, 1, 1, 1024] h1') (ix4 (0 : Fin 1) (0 : Fin 1) (0 : Fin 1) k)) = fun k => x1 (ix4 0 0 1 k) := funext fun k => ld_row x1 1 rfl h1' k
  have e3 : (fun k => View.ld x2 (Rect.unit ![0, 0] ![1, 1024] h2) (ix2 (0 : Fin 1) k)) = fun k => x2 (ix2 0 k) := funext fun k => ld_all x2 h2 0 k
  exact congrArg (fun f : Fin 1024 → EReal => f k) (congr (congr (congr (congrArg Ffn.hid e0) e3) e1) e2)

theorem lat_first (r : Fin 512) : (fun j => (k0_pay157 (F := Ideal) x0 x1 x2 x3 x4 x5 x6 x7 x8 x9 (ix2 r j) : EReal)) = blkL x0 x1 x2 x4 (row 0 r) :=
  lat_blk x0 x1 x2 x4 0 rfl r

theorem lat_second (r : Fin 512) : (fun j => (k0_pay165 (F := Ideal) x0 x1 x2 x3 x4 x5 x6 x7 x8 x9 (ix2 r j) : EReal)) = blkL x0 x1 x2 x4 (row 1 r) :=
  lat_blk x0 x1 x2 x4 1 rfl r

theorem q_first (r : Fin 512) (f : Fin 256) : (k0_pay158 (F := Ideal) x0 x1 x2 x3 x4 x5 x6 x7 x8 x9 (ix2 r f) : EReal) = blkQ x0 x1 x2 x4 x5 (row 0 r) f :=
  (cq_apply r (k0_pay157 x0 x1 x2 x3 x4 x5 x6 x7 x8 x9) _ f).trans (congrArg₂ (fun L g => cq L g f) (lat_first x0 x1 x2 x3 x4 x5 x6 x7 x8 x9 r) (funext fun f => ld_all x5 _ 0 f))

theorem q_second (r : Fin 512) (f : Fin 256) : (k0_pay170 (F := Ideal) x0 x1 x2 x3 x4 x5 x6 x7 x8 x9 (ix2 r f) : EReal) = blkQ x0 x1 x2 x4 x5 (row 1 r) f :=
  (cq_apply r (k0_pay165 x0 x1 x2 x3 x4 x5 x6 x7 x8 x9) _ f).trans (congrArg₂ (fun L g => cq L g f) (lat_second x0 x1 x2 x3 x4 x5 x6 x7 x8 x9 r) (funext fun f => ld_all x5 _ 0 f))

/-- The positions of a half, from the blocks. -/
theorem pos_blk (b : Fin 2) {o o' : ℕ} (ho : o = 512 * b.val) (ho' : o' = 512 * b.val + 256) {h h'} (r : Fin 512) :
    posOf (View.ld x3 (Rect.unit ![0, o, 0] ![1, 256, 1] h)) (View.ld x3 (Rect.unit ![0, o', 0] ![1, 256, 1] h')) r = x3 (ix3 0 (row b r) 0) := by
  unfold posOf
  split
  · exact ld_pos x3 h _ _ (by show 512 * b.val + r.val = o + r.val; omega)
  · exact ld_pos x3 h' _ _ (by show 512 * b.val + r.val = o' + (r.val - 256); omega)

variable (hf : ∀ l : Fin 128, (x8 (ix2 0 l) : EReal) = F (freqOf l.val))

include hf

/-- The cosines of a half, from the blocks. -/
theorem cos_blk (b : Fin 2) {o o' : ℕ} (ho : o = 512 * b.val) (ho' : o' = 512 * b.val + 256) {h h' h8} (r : Fin 512) (l : Fin 128) :
    (k0_pay56 (F := Ideal) lanes (View.ld x3 (Rect.unit ![0, o, 0] ![1, 256, 1] h)) (View.ld x3 (Rect.unit ![0, o', 0] ![1, 256, 1] h')) (View.ld x8 (Rect.unit ![0, 0] ![1, 128] h8)) (ix2 r l) : EReal)
      = Ideal.cos (angle (x3 (ix3 0 (row b r) 0)) F l.val) := by
  refine (cos_apply r _ _ _ F (fun l => (ld_all x8 h8 0 l).trans (hf l)) l).trans ?_
  rw [pos_blk x3 b ho ho']

/-- The signed sines of a half, from the blocks. -/
theorem sin_blk (b : Fin 2) {o o' : ℕ} (ho : o = 512 * b.val) (ho' : o' = 512 * b.val + 256) {h h' h8 h9} (r : Fin 512) (l : Fin 128) :
    (k0_pay57 (F := Ideal) lanes (View.ld x3 (Rect.unit ![0, o, 0] ![1, 256, 1] h)) (View.ld x3 (Rect.unit ![0, o', 0] ![1, 256, 1] h')) (View.ld x8 (Rect.unit ![0, 0] ![1, 128] h8))
      (View.ld x9 (Rect.unit ![0, 0] ![1, 128] h9)) (ix2 r l) : EReal)
      = Ideal.sin (angle (x3 (ix3 0 (row b r) 0)) F l.val) * x9 (ix2 0 l) := by
  refine (sin_apply r _ _ _ _ F (fun l => (ld_all x8 h8 0 l).trans (hf l)) l).trans ?_
  rw [pos_blk x3 b ho ho']
  exact congrArg (fun w : EReal => _ * w) (ld_all x9 h9 0 l)

theorem c_first (r : Fin 512) (k : Fin 256) : (k0_pay162 (F := Ideal) x0 x1 x2 x3 x4 x5 x6 x7 x8 x9 (ix2 r k) : EReal) = Ideal.cos (angle (x3 (ix3 0 (row 0 r) 0)) F (k.val % 128)) :=
  (twice_apply r (k0_pay11 k0_pay7 (k0_pay160 x0 x1 x2 x3 x4 x5 x6 x7 x8 x9) (k0_pay161 x0 x1 x2 x3 x4 x5 x6 x7 x8 x9)) k).trans (cos_blk x3 x8 F hf 0 rfl rfl r _)

theorem c_second (r : Fin 512) (k : Fin 256) : (k0_pay173 (F := Ideal) x0 x1 x2 x3 x4 x5 x6 x7 x8 x9 (ix2 r k) : EReal) = Ideal.cos (angle (x3 (ix3 0 (row 1 r) 0)) F (k.val % 128)) :=
  (twice_apply r (k0_pay171 x0 x1 x2 x3 x4 x5 x6 x7 x8 x9) k).trans (cos_blk x3 x8 F hf 1 rfl rfl r _)

theorem s_first (r : Fin 512) (k : Fin 256) : (k0_pay163 (F := Ideal) x0 x1 x2 x3 x4 x5 x6 x7 x8 x9 (ix2 r k) : EReal)
    = Ideal.sin (angle (x3 (ix3 0 (row 0 r) 0)) F (k.val % 128)) * x9 (ix2 0 ⟨k.val % 128, by omega⟩) :=
  (twice_apply r (k0_pay12 k0_pay7 (k0_pay160 x0 x1 x2 x3 x4 x5 x6 x7 x8 x9) (k0_pay161 x0 x1 x2 x3 x4 x5 x6 x7 x8 x9) (View.ld x9 r0_6)) k).trans (sin_blk x3 x8 x9 F hf 0 rfl rfl r _)

theorem s_second (r : Fin 512) (k : Fin 256) : (k0_pay174 (F := Ideal) x0 x1 x2 x3 x4 x5 x6 x7 x8 x9 (ix2 r k) : EReal)
    = Ideal.sin (angle (x3 (ix3 0 (row 1 r) 0)) F (k.val % 128)) * x9 (ix2 0 ⟨k.val % 128, by omega⟩) :=
  (twice_apply r (k0_pay172 x0 x1 x2 x3 x4 x5 x6 x7 x8 x9) k).trans (sin_blk x3 x8 x9 F hf 1 rfl rfl r _)

/-- What the kernel leaves in a block of its queries. -/
theorem out10_eq (y : S1x16x1024x256.Idx) : out0_10 (F := Ideal) x0 x1 x2 x3 x4 x5 x6 x7 x8 x9 y = Gq x0 x1 x2 x3 x4 x5 x7 x9 F y := by
  have a0 := q_first x0 x1 x2 x3 x4 x5 x6 x7 x8 x9
  have a1 := q_second x0 x1 x2 x3 x4 x5 x6 x7 x8 x9
  have c0 := c_first x0 x1 x2 x3 x4 x5 x6 x7 x8 x9 F hf
  have c1 := c_second x0 x1 x2 x3 x4 x5 x6 x7 x8 x9 F hf
  have s0 := s_first x0 x1 x2 x3 x4 x5 x6 x7 x8 x9 F hf
  have s1 := s_second x0 x1 x2 x3 x4 x5 x6 x7 x8 x9 F hf
  unfold out0_10
  refine View.canon_apply_of_pieces (Val := Elt Ideal) (e := .bf16) (Gq x0 x1 x2 x3 x4 x5 x7 x9 F) _ (View.PiecesOf.mem ?_) y ?_
  · iterate 8
      refine And.intro (pieceC x0 x1 x2 x3 x4 x5 x7 x9 F 1 a1 c1 s1 (by decide) (by decide) (by decide) (by decide) (by decide) rfl) ?_
      refine And.intro (pieceA x0 x1 x2 x3 x4 x5 x7 x9 F 1 a1 (by decide) (by decide) (by decide) (by decide) rfl) ?_
      refine And.intro (pieceB x0 x1 x2 x3 x4 x5 x7 x9 F 1 a1 c1 s1 (by decide) (by decide) (by decide) (by decide) (by decide) rfl) ?_
      refine And.intro (pieceA x0 x1 x2 x3 x4 x5 x7 x9 F 1 a1 (by decide) (by decide) (by decide) (by decide) rfl) ?_
    iterate 8
      refine And.intro (pieceC x0 x1 x2 x3 x4 x5 x7 x9 F 0 a0 c0 s0 (by decide) (by decide) (by decide) (by decide) (by decide) rfl) ?_
      refine And.intro (pieceA x0 x1 x2 x3 x4 x5 x7 x9 F 0 a0 (by decide) (by decide) (by decide) (by decide) rfl) ?_
      refine And.intro (pieceB x0 x1 x2 x3 x4 x5 x7 x9 F 0 a0 c0 s0 (by decide) (by decide) (by decide) (by decide) (by decide) rfl) ?_
      refine And.intro (pieceA x0 x1 x2 x3 x4 x5 x7 x9 F 0 a0 (by decide) (by decide) (by decide) (by decide) rfl) ?_
    exact trivial
  · exact cover0_10 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

omit hf in
/-- An index of a tile of keys. -/
theorem idx_key (x : S1x512x128.Idx) : x = ix3 (0 : Fin 1) (x 1 : Fin 512) (x 2 : Fin 128) := by
  funext a
  apply Fin.ext
  fin_cases a
  · have : (x 0).val < 1 := (x 0).isLt
    show (x 0).val = 0
    omega
  · rfl
  · rfl

omit hf in
theorem emb_key (b : Fin 2) {O p : ℕ} (hO : O = 512 * b.val) (hp : p + 128 ≤ 256)
    (inb : ∀ a, (![0, O, p] : Fin 3 → ℕ) a + (![1, 512, 128] : Fin 3 → ℕ) a ≤ S1x1024x256.size a) (r : Fin 512) (l : Fin 128) :
    (Rect.unit (s := S1x1024x256) ![0, O, p] ![1, 512, 128] inb).emb (ix3 (0 : Fin 1) r l) = ix3 (0 : Fin 1) (row b r) (⟨p + l.val, by omega⟩ : Fin 256) := by
  funext a
  apply Fin.ext
  refine (Rect.idx_unit_val _ _ inb _ a).trans ?_
  fin_cases a
  · rfl
  · show O + r.val = 512 * b.val + r.val
    omega
  · rfl

omit hf in
/-- A stored tile of the keys' latent lanes. -/
theorem pieceK {L : FVec Ideal S512x640 .f32} (b : Fin 2) (hL : ∀ r, (fun j => (L (ix2 r j) : EReal)) = blkL x0 x1 x2 x4 (row b r)) {O : ℕ} (hO : O = 512 * b.val)
    {f : FVec Ideal S1x512x128 .bf16} (inb : ∀ a, (![0, O, 0] : Fin 3 → ℕ) a + (![1, 512, 128] : Fin 3 → ℕ) a ≤ S1x1024x256.size a) {h6}
    (hfk : f = k0_pay61 (k0_pay60 (k0_pay53 L (View.ld x6 (Rect.unit ![0, 0] ![1, 128] h6))))) (x : (Rect.unit (s := S1x1024x256) ![0, O, 0] ![1, 512, 128] inb).shape.Idx) :
    f x = Gk x0 x1 x2 x3 x4 x6 x9 F ((Rect.unit (s := S1x1024x256) ![0, O, 0] ![1, 512, 128] inb).emb x) := by
  obtain ⟨r, l, rfl⟩ : ∃ (r : Fin 512) (l : Fin 128), x = ix3 (0 : Fin 1) r l := ⟨x 1, x 2, idx_key x⟩
  refine Eq.trans ?_ (congrArg (Gk x0 x1 x2 x3 x4 x6 x9 F) (emb_key b hO (by omega) inb r l).symm)
  rw [hfk]
  refine (key_first r L _ l).trans ((ckv_apply r L _ l).trans ?_)
  have hl : 0 + l.val < 128 := by omega
  refine Eq.trans ?_ (dif_pos hl).symm
  have e : (⟨0 + l.val, hl⟩ : Fin 128) = l := Fin.ext (Nat.zero_add _)
  show _ = ckv _ _ (⟨0 + l.val, hl⟩ : Fin 128)
  rw [e, hL]
  exact congrArg (fun g => ckv _ g l) (funext fun f => ld_all x6 h6 0 f)

omit hf in
/-- A stored tile of the keys' turned lanes. -/
theorem pieceT {L : FVec Ideal S512x640 .f32} {C S : FVec Ideal S512x128 .f32} (b : Fin 2) (hL : ∀ r, (fun j => (L (ix2 r j) : EReal)) = blkL x0 x1 x2 x4 (row b r))
    (hC : ∀ r (l : Fin 128), (C (ix2 r l) : EReal) = Ideal.cos (angle (x3 (ix3 0 (row b r) 0)) F l.val))
    (hS : ∀ r (l : Fin 128), (S (ix2 r l) : EReal) = Ideal.sin (angle (x3 (ix3 0 (row b r) 0)) F l.val) * x9 (ix2 0 l)) {O : ℕ} (hO : O = 512 * b.val)
    {f : FVec Ideal S1x512x128 .bf16} (inb : ∀ a, (![0, O, 128] : Fin 3 → ℕ) a + (![1, 512, 128] : Fin 3 → ℕ) a ≤ S1x1024x256.size a)
    (hfk : f = k0_pay62 C S (k0_pay58 L) (k0_pay59 L)) (x : (Rect.unit (s := S1x1024x256) ![0, O, 128] ![1, 512, 128] inb).shape.Idx) :
    f x = Gk x0 x1 x2 x3 x4 x6 x9 F ((Rect.unit (s := S1x1024x256) ![0, O, 128] ![1, 512, 128] inb).emb x) := by
  obtain ⟨r, l, rfl⟩ : ∃ (r : Fin 512) (l : Fin 128), x = ix3 (0 : Fin 1) r l := ⟨x 1, x 2, idx_key x⟩
  refine Eq.trans ?_ (congrArg (Gk x0 x1 x2 x3 x4 x6 x9 F) (emb_key b hO (by omega) inb r l).symm)
  rw [hfk]
  refine (key_second r L C S l).trans ?_
  have hl : ¬ (128 + l.val < 128) := by omega
  refine Eq.trans ?_ (dif_neg hl).symm
  have e : (⟨128 + l.val - 128, by omega⟩ : Fin 128) = l := Fin.ext (by show 128 + l.val - 128 = l.val; omega)
  have e1 : (⟨384 + l.val, by omega⟩ : Fin 640) = ⟨256 + (128 + l.val), by omega⟩ := Fin.ext (by show 384 + l.val = 256 + (128 + l.val); omega)
  have e2 : (⟨512 + l.val, by omega⟩ : Fin 640) = ⟨384 + (128 + l.val), by omega⟩ := Fin.ext (by show 512 + l.val = 384 + (128 + l.val); omega)
  rw [hC, hS, e1, e2]
  show _ = turn _ F _ _ _ (⟨128 + l.val - 128, by omega⟩ : Fin 128)
  rw [e]
  exact congrArg₂ (fun p q : EReal => p * _ + q * _) (congrFun (hL r) _) (congrFun (hL r) _)

/-- What the kernel leaves in a block of its keys. -/
theorem out11_eq (y : S1x1024x256.Idx) : out0_11 (F := Ideal) x0 x1 x2 x3 x4 x5 x6 x7 x8 x9 y = Gk x0 x1 x2 x3 x4 x6 x9 F y := by
  have a0 := lat_first x0 x1 x2 x3 x4 x5 x6 x7 x8 x9
  have a1 := lat_second x0 x1 x2 x3 x4 x5 x6 x7 x8 x9
  unfold out0_11
  refine View.canon_apply_of_pieces (Val := Elt Ideal) (e := .bf16) (Gk x0 x1 x2 x3 x4 x6 x9 F) _ (View.PiecesOf.mem ?_) y ?_
  · refine And.intro (pieceT x0 x1 x2 x3 x4 x6 x9 F 1 a1 (cos_blk x3 x8 F hf 1 rfl rfl) (sin_blk x3 x8 x9 F hf 1 rfl rfl) rfl (by decide) rfl) ?_
    refine And.intro (pieceK x0 x1 x2 x3 x4 x6 x9 F 1 a1 rfl (by decide) rfl) ?_
    refine And.intro (pieceT x0 x1 x2 x3 x4 x6 x9 F 0 a0 (cos_blk x3 x8 F hf 0 rfl rfl) (sin_blk x3 x8 x9 F hf 0 rfl rfl) rfl (by decide) rfl) ?_
    refine And.intro (pieceK x0 x1 x2 x3 x4 x6 x9 F 0 a0 rfl (by decide) rfl) ?_
    exact trivial
  · exact cover0_11 _ _ _ _ y

end Cert.ProjVal

end
-- ==== Proof.ProjReference.lean ====
module

public import proofs.«01_k».proof.Defs
public import proofs.«01_k».proof.Proof.Rotary
public import proofs.«01_k».proof.Proof.Gen.ProjReferenceIdeal.Run
public import Idealize.ShloMosaic.Lib.Pointwise

@[expose] public section

set_option maxRecDepth 16384

noncomputable section

namespace Cert.ProjVal

open Idealize.ShloMosaic Idealize.ShloMosaic.TcCoe Idealize.SL.Sem

/-- The rotary frequencies. -/
def freqs (i : Fin 32) : EReal :=
  Ideal.pow (Ideal.ofBits FTy.f32 1176256512#32)
    (Ideal.div (-(Ideal.ofBits FTy.f32 1073741824#32 * FloatOps.sitofp (F := Ideal) FTy.f32 (BitVec.ofNat 32 i.val))) (Ideal.ofBits FTy.f32 1115684864#32))

/-- The rotary embedding of a head's entry. -/
def rope (p : BitVec 32) (F : Fin 32 → EReal) (z : Fin 64 → EReal) (i : Fin 64) : EReal :=
  if h : i.val < 32 then z i * Ideal.cos (angle p F i.val) - z ⟨i.val + 32, by omega⟩ * Ideal.sin (angle p F i.val)
  else z i * Ideal.cos (angle p F i.val) + z ⟨i.val - 32, by omega⟩ * Ideal.sin (angle p F i.val)

/-- The other head of a head's pair. -/
def other (h : Fin 16) : Fin 16 := ⟨h.val / 2 * 2 + (1 - h.val % 2), by omega⟩

/-- A head's entries before the rotary embedding. -/
def headLanes (Q : Fin 256 → EReal) (w : Fin 256 → Fin 1024 → EReal) (h : Fin 16) (i : Fin 64) : EReal := ∑ f, Q f * w f ⟨64 * h.val + i.val, by omega⟩

/-- A query's entry. -/
def refQuery (Q : Fin 256 → EReal) (wa : Fin 256 → Fin 2048 → EReal) (wr : Fin 256 → Fin 1024 → EReal) (p : BitVec 32) (F : Fin 32 → EReal) (h : Fin 16) (l : Fin 256) : EReal :=
  if h1 : l.val < 128 then ∑ f, Q f * wa f ⟨128 * h.val + l.val, by omega⟩
  else if h2 : l.val < 192 then rope p F (headLanes Q wr h) ⟨l.val - 128, by omega⟩
  else rope p F (headLanes Q wr (other h)) ⟨l.val - 192, by omega⟩

/-- A key's entry. -/
def refKey (Z : Fin 448 → EReal) (g : Fin 128 → EReal) (p : BitVec 32) (F : Fin 32 → EReal) (l : Fin 256) : EReal :=
  if h1 : l.val < 128 then rms 1124073472#32 (fun j : Fin 128 => Z ⟨256 + j.val, by omega⟩) g ⟨l.val, h1⟩
  else if h2 : l.val < 192 then rope p F (fun i : Fin 64 => Z ⟨384 + i.val, by omega⟩) ⟨l.val - 128, by omega⟩
  else 0

section
open Cert.ProjReferenceIdeal Cert.ProjReferenceIdeal.Gen

/-- A row of the layer's modulation table, spread over the tokens. -/
def refMod (o : ℕ) (mod : FVec Ideal S4x8x6x1024 .f32) (h : S8x6x1024.Slices ![0, o, 0] S8x1x1024) : FVec Ideal S8x1x1024 .f32 :=
  broadcastInDim S8x1x1024 ![0, 2] bcast_S8x1024_S8x1x1024_0_2 (shapeCast _ (extractStridedSlice S8x1x1024 ![0, o, 0]
    (shapeCast _ (extractStridedSlice S1x8x6x1024 ![2, 0, 0, 0] mod slices_S4x8x6x1024_S1x8x6x1024_2_0_0_0) shapeCasts_S1x8x6x1024_S8x6x1024) h)
    shapeCasts_S8x1x1024_S8x1024)

/-- The layer's normalised and modulated features. -/
def refHid (x : FVec Ideal S8x4096x1024 .f32) (sh sc : FVec Ideal S8x1x1024 .f32) (g : FVec Ideal S1024 .f32) : FVec Ideal S8x4096x1024 .f32 :=
  addf (mulf (mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32)) sc)))
    (broadcastInDim S8x4096x1024 ![0, 1, 2] bcast_S8x1x1024_S8x4096x1024_0_1_2 sh)

/-- The latent features. -/
def refLat (x : FVec Ideal S8x4096x1024 .f32) (sh sc : FVec Ideal S8x1x1024 .f32) (g : FVec Ideal S1024 .f32) (w : FVec Ideal S1024x448 .f32) : FVec Ideal S8x4096x448 .f32 :=
  Host.dotGeneral dot_S8x4096x1024_S1024x448_S8x4096x448_2_0_01_1_n_n none (refHid x sh sc g) w

/-- The normalised latent features of the queries. -/
def refCq (z : FVec Ideal S8x4096x448 .f32) (g : FVec Ideal S256 .f32) : FVec Ideal S8x4096x256 .f32 :=
  mulf (mulf (extractStridedSlice S8x4096x256 ![0, 0, 0] z slices_S8x4096x448_S8x4096x256_0_0_0)
    (broadcastInDim S8x4096x256 ![0, 1, 2] bcast_S8x4096x1_S8x4096x256_0_1_2 (Host.rsqrt (addf (Host.divf
      (broadcastInDim S8x4096x1 ![0, 1] bcast_S8x4096_S8x4096x1_0_1 (Host.reduceAdd
        (mulf (extractStridedSlice S8x4096x256 ![0, 0, 0] z slices_S8x4096x448_S8x4096x256_0_0_0) (extractStridedSlice S8x4096x256 ![0, 0, 0] z slices_S8x4096x448_S8x4096x256_0_0_0))
        (constant S_ .f32 0x00000000#32) reducesTo_S8x4096x256_S8x4096_d2 h_S_))
      (broadcastInDim S8x4096x1 ![] bcast_S_S8x4096x1 (constant S_ .f32 0x43800000#32)))
      (broadcastInDim S8x4096x1 ![] bcast_S_S8x4096x1 (constant S_ .f32 0x358637BD#32))))))
    (broadcastInDim S8x4096x256 ![0, 1, 2] bcast_S1x1x256_S8x4096x256_0_1_2 (broadcastInDim S1x1x256 ![2] bcast_S256_S1x1x256_2 g))

/-- The normalised latent features of the keys. -/
def refCkv (z : FVec Ideal S8x4096x448 .f32) (g : FVec Ideal S128 .f32) : FVec Ideal S8x4096x128 .f32 :=
  mulf (mulf (extractStridedSlice S8x4096x128 ![0, 0, 256] z slices_S8x4096x448_S8x4096x128_0_0_256)
    (broadcastInDim S8x4096x128 ![0, 1, 2] bcast_S8x4096x1_S8x4096x128_0_1_2 (Host.rsqrt (addf (Host.divf
      (broadcastInDim S8x4096x1 ![0, 1] bcast_S8x4096_S8x4096x1_0_1 (Host.reduceAdd
        (mulf (extractStridedSlice S8x4096x128 ![0, 0, 256] z slices_S8x4096x448_S8x4096x128_0_0_256) (extractStridedSlice S8x4096x128 ![0, 0, 256] z slices_S8x4096x448_S8x4096x128_0_0_256))
        (constant S_ .f32 0x00000000#32) reducesTo_S8x4096x128_S8x4096_d2 h_S_))
      (broadcastInDim S8x4096x1 ![] bcast_S_S8x4096x1 (constant S_ .f32 0x43000000#32)))
      (broadcastInDim S8x4096x1 ![] bcast_S_S8x4096x1 (constant S_ .f32 0x358637BD#32))))))
    (broadcastInDim S8x4096x128 ![0, 1, 2] bcast_S1x1x128_S8x4096x128_0_1_2 (broadcastInDim S1x1x128 ![2] bcast_S128_S1x1x128_2 g))

/-- The angles of every token. -/
def refAng (p : Vec Ideal S8x4096 .i32) : FVec Ideal S8x4096x32 .f32 :=
  mulf (broadcastInDim S8x4096x32 ![0, 1, 2] bcast_S8x4096x1_S8x4096x32_0_1_2 (broadcastInDim S8x4096x1 ![0, 1] bcast_S8x4096_S8x4096x1_0_1 (sitofp .f32 p)))
    (broadcastInDim S8x4096x32 ![0, 1, 2] bcast_S1x1x32_S8x4096x32_0_1_2 (broadcastInDim S1x1x32 ![2] bcast_S32_S1x1x32_2
      (Host.powf (broadcastInDim S32 ![] bcast_S_S32 (constant S_ .f32 0x461C4000#32)) (Host.divf (Host.negf
        (addf (broadcastInDim S32 ![] bcast_S_S32 (constant S_ .f32 0x00000000#32)) (mulf (broadcastInDim S32 ![] bcast_S_S32 (constant S_ .f32 0x40000000#32)) (sitofp .f32 (iotaInDim S32 32 0)))))
        (broadcastInDim S32 ![] bcast_S_S32 (constant S_ .f32 0x42800000#32))))))

/-- The keys' turned lanes. -/
def refTurn (z : FVec Ideal S8x4096x64 .f32) (a : FVec Ideal S8x4096x32 .f32) : FVec Ideal S8x4096x64 .f32 :=
  concatenate S8x4096x64 2
    [⟨S8x4096x32, subf (mulf (extractStridedSlice S8x4096x32 ![0, 0, 0] z slices_S8x4096x64_S8x4096x32_0_0_0) (Host.cos a))
        (mulf (extractStridedSlice S8x4096x32 ![0, 0, 32] z slices_S8x4096x64_S8x4096x32_0_0_32) (Host.sin a))⟩,
      ⟨S8x4096x32, addf (mulf (extractStridedSlice S8x4096x32 ![0, 0, 32] z slices_S8x4096x64_S8x4096x32_0_0_32) (Host.cos a))
        (mulf (extractStridedSlice S8x4096x32 ![0, 0, 0] z slices_S8x4096x64_S8x4096x32_0_0_0) (Host.sin a))⟩]
    concatenates_S8x4096x32_S8x4096x32_S8x4096x64_d2

/-- An array of the angles' values, for every head. -/
def perHead (a : FVec Ideal S8x4096x32 .f32) : FVec Ideal S8x4096x16x32 .f32 :=
  broadcastInDim S8x4096x16x32 ![0, 1, 2, 3] bcast_S8x4096x1x32_S8x4096x16x32_0_1_2_3 (broadcastInDim S8x4096x1x32 ![0, 1, 3] bcast_S8x4096x32_S8x4096x1x32_0_1_3 a)

/-- The heads' turned lanes. -/
def refTurns (z : FVec Ideal S8x4096x16x64 .f32) (a : FVec Ideal S8x4096x32 .f32) : FVec Ideal S8x4096x16x64 .f32 :=
  concatenate S8x4096x16x64 3
    [⟨S8x4096x16x32, subf (mulf (extractStridedSlice S8x4096x16x32 ![0, 0, 0, 0] z slices_S8x4096x16x64_S8x4096x16x32_0_0_0_0) (perHead (Host.cos a)))
        (mulf (extractStridedSlice S8x4096x16x32 ![0, 0, 0, 32] z slices_S8x4096x16x64_S8x4096x16x32_0_0_0_32) (perHead (Host.sin a)))⟩,
      ⟨S8x4096x16x32, addf (mulf (extractStridedSlice S8x4096x16x32 ![0, 0, 0, 32] z slices_S8x4096x16x64_S8x4096x16x32_0_0_0_32) (perHead (Host.cos a)))
        (mulf (extractStridedSlice S8x4096x16x32 ![0, 0, 0, 0] z slices_S8x4096x16x64_S8x4096x16x32_0_0_0_0) (perHead (Host.sin a)))⟩]
    concatenates_S8x4096x16x32_S8x4096x16x32_S8x4096x16x64_d3

/-- The heads with every pair's two heads exchanged. -/
def refOther (z : FVec Ideal S8x4096x16x64 .f32) : FVec Ideal S8x4096x16x64 .f32 :=
  shapeCast _ (concatenate S8x4096x8x2x64 3
    [⟨S8x4096x8x1x64, extractStridedSlice S8x4096x8x1x64 ![0, 0, 0, 1, 0] (shapeCast _ z shapeCasts_S8x4096x16x64_S8x4096x8x2x64) slices_S8x4096x8x2x64_S8x4096x8x1x64_0_0_0_1_0⟩,
      ⟨S8x4096x8x1x64, extractStridedSlice S8x4096x8x1x64 ![0, 0, 0, 0, 0] (shapeCast _ z shapeCasts_S8x4096x16x64_S8x4096x8x2x64) slices_S8x4096x8x2x64_S8x4096x8x1x64_0_0_0_0_0⟩]
    concatenates_S8x4096x8x1x64_S8x4096x8x1x64_S8x4096x8x2x64_d3) shapeCasts_S8x4096x8x2x64_S8x4096x16x64

/-- The queries out of their three parts. -/
def refQ (a : FVec Ideal S8x4096x16x128 .f32) (r o : FVec Ideal S8x4096x16x64 .f32) : FVec Ideal S8x16x4096x256 .bf16 :=
  truncf .bf16 (transpose S8x16x4096x256 [0, 2, 1, 3] (concatenate S8x4096x16x256 3 [⟨S8x4096x16x128, a⟩, ⟨S8x4096x16x64, r⟩, ⟨S8x4096x16x64, o⟩]
    concatenates_S8x4096x16x128_S8x4096x16x64_S8x4096x16x64_S8x4096x16x256_d3) transposes_S8x4096x16x256_S8x16x4096x256_0_2_1_3) bitsLt_bf16_f32

/-- The keys out of their two parts and the zeros. -/
def refK (a : FVec Ideal S8x4096x128 .f32) (r : FVec Ideal S8x4096x64 .f32) : FVec Ideal S8x4096x256 .bf16 :=
  truncf .bf16 (concatenate S8x4096x256 2 [⟨S8x4096x128, a⟩, ⟨S8x4096x64, r⟩, ⟨S8x4096x64, broadcastInDim S8x4096x64 ![] bcast_S_S8x4096x64 (constant S_ .f32 0x00000000#32)⟩]
    concatenates_S8x4096x128_S8x4096x64_S8x4096x64_S8x4096x256_d2) bitsLt_bf16_f32

/-- The queries' entries outside the rotary part. -/
def refAbs (q : FVec Ideal S8x4096x256 .f32) (w : FVec Ideal S256x2048 .bf16) : FVec Ideal S8x4096x16x128 .f32 :=
  shapeCast _ (Host.dotGeneral dot_S8x4096x256_S256x2048_S8x4096x2048_2_0_01_1_n_n none q (extf .f32 w bitsLt_bf16_f32)) shapeCasts_S8x4096x2048_S8x4096x16x128

/-- The queries' entries before the rotary embedding. -/
def refLanes (q : FVec Ideal S8x4096x256 .f32) (w : FVec Ideal S256x1024 .bf16) : FVec Ideal S8x4096x16x64 .f32 :=
  shapeCast _ (Host.dotGeneral dot_S8x4096x256_S256x1024_S8x4096x1024_2_0_01_1_n_n none q (extf .f32 w bitsLt_bf16_f32)) shapeCasts_S8x4096x1024_S8x4096x16x64

theorem refMod_apply (o : ℕ) (ho : o < 6) (mod : FVec Ideal S4x8x6x1024 .f32) (h : S8x6x1024.Slices ![0, o, 0] S8x1x1024) (b : Fin 8) (k : Fin 1024) :
    (refMod o mod h (ix3 b 0 k) : EReal) = mod (ix4 2 b ⟨o, ho⟩ k) := by
  pointwise [refMod]

theorem refHid_apply (x : FVec Ideal S8x4096x1024 .f32) (sh sc : FVec Ideal S8x1x1024 .f32) (g : FVec Ideal S1024 .f32) (b : Fin 8) (r : Fin 4096) (k : Fin 1024) :
    (refHid x sh sc g (ix3 b r k) : EReal)
      = Ffn.hid (fun k => x (ix3 b r k)) (fun k => g (ix1 k)) (fun k => sh (ix3 b 0 k)) (fun k => sc (ix3 b 0 k)) k := by
  pointwise [refHid]
  rfl

theorem refLat_apply (x : FVec Ideal S8x4096x1024 .f32) (sh sc : FVec Ideal S8x1x1024 .f32) (g : FVec Ideal S1024 .f32) (w : FVec Ideal S1024x448 .f32) (b : Fin 8) (r : Fin 4096) (j : Fin 448) :
    (refLat x sh sc g w (ix3 b r j) : EReal)
      = ∑ k, Ffn.hid (fun k => x (ix3 b r k)) (fun k => g (ix1 k)) (fun k => sh (ix3 b 0 k)) (fun k => sc (ix3 b 0 k)) k * w (ix2 k j) := by
  simp only [← refHid_apply]
  pointwise [refLat]

theorem refCq_apply (z : FVec Ideal S8x4096x448 .f32) (g : FVec Ideal S256 .f32) (b : Fin 8) (r : Fin 4096) (f : Fin 256) :
    (refCq z g (ix3 b r f) : EReal) = rms 1132462080#32 (fun j : Fin 256 => z (ix3 b r ⟨j.val, by omega⟩)) (fun j => g (ix1 j)) f := by
  pointwise [refCq]
  rfl

theorem refCkv_apply (z : FVec Ideal S8x4096x448 .f32) (g : FVec Ideal S128 .f32) (b : Fin 8) (r : Fin 4096) (f : Fin 128) :
    (refCkv z g (ix3 b r f) : EReal) = rms 1124073472#32 (fun j : Fin 128 => z (ix3 b r ⟨256 + j.val, by omega⟩)) (fun j => g (ix1 j)) f := by
  pointwise [refCkv]
  rfl

theorem refAng_apply (p : Vec Ideal S8x4096 .i32) (b : Fin 8) (r : Fin 4096) (i : Fin 32) :
    (refAng p (ix3 b r i) : EReal) = angle (p (ix2 b r)) freqs i.val := by
  have e : freqOf i.val = i := Fin.ext (Nat.mod_eq_of_lt i.isLt)
  unfold angle
  rw [e]
  pointwise [refAng]
  rfl

theorem refTurn_apply (z : FVec Ideal S8x4096x64 .f32) (a : FVec Ideal S8x4096x32 .f32) (b : Fin 8) (r : Fin 4096) (i : Fin 64) :
    (refTurn z a (ix3 b r i) : EReal) = if h : i.val < 32 then (z (ix3 b r i) : EReal) * Ideal.cos (a (ix3 b r ⟨i.val, h⟩)) - z (ix3 b r ⟨i.val + 32, by omega⟩) * Ideal.sin (a (ix3 b r ⟨i.val, h⟩))
      else (z (ix3 b r i) : EReal) * Ideal.cos (a (ix3 b r ⟨i.val - 32, by omega⟩)) + z (ix3 b r ⟨i.val - 32, by omega⟩) * Ideal.sin (a (ix3 b r ⟨i.val - 32, by omega⟩)) := by
  pointwise [refTurn]
  by_cases h : i.val < 32
  · simp only [dif_pos h, Nat.add_comm 32]
  · have e : 32 + (i.val - 32) = i.val := by omega
    simp only [dif_neg h, e]

theorem refTurns_apply (z : FVec Ideal S8x4096x16x64 .f32) (a : FVec Ideal S8x4096x32 .f32) (b : Fin 8) (r : Fin 4096) (n : Fin 16) (i : Fin 64) :
    (refTurns z a (ix4 b r n i) : EReal) = if h : i.val < 32 then (z (ix4 b r n i) : EReal) * Ideal.cos (a (ix3 b r ⟨i.val, h⟩)) - z (ix4 b r n ⟨i.val + 32, by omega⟩) * Ideal.sin (a (ix3 b r ⟨i.val, h⟩))
      else (z (ix4 b r n i) : EReal) * Ideal.cos (a (ix3 b r ⟨i.val - 32, by omega⟩)) + z (ix4 b r n ⟨i.val - 32, by omega⟩) * Ideal.sin (a (ix3 b r ⟨i.val - 32, by omega⟩)) := by
  pointwise [refTurns, perHead]
  by_cases h : i.val < 32
  · simp only [dif_pos h, Nat.add_comm 32]
  · have e : 32 + (i.val - 32) = i.val := by omega
    simp only [dif_neg h, e]

theorem refOther_apply (z : FVec Ideal S8x4096x16x64 .f32) (b : Fin 8) (r : Fin 4096) (n : Fin 16) (i : Fin 64) :
    (refOther z (ix4 b r n i) : EReal) = z (ix4 b r (other n) i) := by
  pointwise [refOther]
  by_cases h : n.val % 2 < 1
  · rw [dif_pos h]
    congr 2
    apply Fin.ext
    show n.val / 2 * 2 + (1 + n.val % 2) = n.val / 2 * 2 + (1 - n.val % 2)
    omega
  · rw [dif_neg h]
    congr 2
    apply Fin.ext
    show n.val / 2 * 2 + (n.val % 2 - 1) = n.val / 2 * 2 + (1 - n.val % 2)
    omega

theorem refAbs_apply (q : FVec Ideal S8x4096x256 .f32) (w : FVec Ideal S256x2048 .bf16) (b : Fin 8) (r : Fin 4096) (n : Fin 16) (i : Fin 128) :
    (refAbs q w (ix4 b r n i) : EReal) = ∑ f : Fin 256, (q (ix3 b r f) : EReal) * w (ix2 f ⟨128 * n.val + i.val, by omega⟩) := by
  pointwise [refAbs]
  simp only [Nat.mul_comm n.val]

theorem refLanes_apply (q : FVec Ideal S8x4096x256 .f32) (w : FVec Ideal S256x1024 .bf16) (b : Fin 8) (r : Fin 4096) (n : Fin 16) (i : Fin 64) :
    (refLanes q w (ix4 b r n i) : EReal) = headLanes (fun f => q (ix3 b r f)) (fun f k => w (ix2 f k)) n i := by
  unfold headLanes
  pointwise [refLanes]
  simp only [Nat.mul_comm n.val]

theorem refQ_apply (a : FVec Ideal S8x4096x16x128 .f32) (t o : FVec Ideal S8x4096x16x64 .f32) (b : Fin 8) (n : Fin 16) (r : Fin 4096) (l : Fin 256) :
    (refQ a t o (ix4 b n r l) : EReal) = if h1 : l.val < 128 then (a (ix4 b r n ⟨l.val, h1⟩) : EReal) else if h2 : l.val < 192 then t (ix4 b r n ⟨l.val - 128, by omega⟩)
      else o (ix4 b r n ⟨l.val - 192, by omega⟩) := by
  pointwise [refQ]
  have e : l.val - 128 < 64 ↔ l.val < 192 := by omega
  simp only [e, Nat.sub_sub]

theorem refK_apply (a : FVec Ideal S8x4096x128 .f32) (t : FVec Ideal S8x4096x64 .f32) (b : Fin 8) (r : Fin 4096) (l : Fin 256) :
    (refK a t (ix3 b r l) : EReal) = if h1 : l.val < 128 then (a (ix3 b r ⟨l.val, h1⟩) : EReal) else if h2 : l.val < 192 then t (ix3 b r ⟨l.val - 128, by omega⟩)
      else 0 := by
  pointwise [refK]
  have e : l.val - 128 < 64 ↔ l.val < 192 := by omega
  simp only [e]

section
variable (x : FVec Ideal S8x4096x1024 .f32) (mod : FVec Ideal S4x8x6x1024 .f32) (g : FVec Ideal S1024 .f32) (p : Vec Ideal S8x4096 .i32)
  (w : FVec Ideal S1024x448 .f32) (gq : FVec Ideal S256 .f32) (gk : FVec Ideal S128 .f32) (wa : FVec Ideal S256x2048 .bf16) (wr : FVec Ideal S256x1024 .bf16)

/-- A token's latent features. -/
def latOf (b : Fin 8) (r : Fin 4096) (j : Fin 448) : EReal :=
  ∑ k, Ffn.hid (fun k => x (ix3 b r k)) (fun k => g (ix1 k)) (fun k => mod (ix4 2 b 0 k)) (fun k => mod (ix4 2 b 1 k)) k * w (ix2 k j)

/-- A token's normalised latent features of the queries. -/
def cqOf (b : Fin 8) (r : Fin 4096) : Fin 256 → EReal := rms 1132462080#32 (fun j : Fin 256 => latOf x mod g w b r ⟨j.val, by omega⟩) (fun j => gq (ix1 j))

/-- The reference's latent features. -/
abbrev latArr : FVec Ideal S8x4096x448 .f32 := refLat x (refMod 0 mod slices_S8x6x1024_S8x1x1024_0_0_0) (refMod 1 mod slices_S8x6x1024_S8x1x1024_0_1_0) g w

theorem latArr_apply (b : Fin 8) (r : Fin 4096) (j : Fin 448) : (latArr x mod g w (ix3 b r j) : EReal) = latOf x mod g w b r j := by
  refine (refLat_apply _ _ _ _ _ b r j).trans ?_
  simp only [refMod_apply 0 (by decide), refMod_apply 1 (by decide)]
  rfl

theorem turned_apply (z : FVec Ideal S8x4096x64 .f32) (b : Fin 8) (r : Fin 4096) (i : Fin 64) :
    (refTurn z (refAng p) (ix3 b r i) : EReal) = rope (p (ix2 b r)) freqs (fun i => z (ix3 b r i)) i := by
  rw [refTurn_apply]
  unfold rope
  by_cases h : i.val < 32
  · simp only [dif_pos h, refAng_apply]
  · have e : angle (p (ix2 b r)) freqs (i.val - 32) = angle (p (ix2 b r)) freqs i.val := by
      unfold angle
      congr 2
      apply Fin.ext
      show (i.val - 32) % 32 = i.val % 32
      omega
    simp only [dif_neg h, refAng_apply, e]

theorem turns_apply (z : FVec Ideal S8x4096x16x64 .f32) (b : Fin 8) (r : Fin 4096) (n : Fin 16) (i : Fin 64) :
    (refTurns z (refAng p) (ix4 b r n i) : EReal) = rope (p (ix2 b r)) freqs (fun i => z (ix4 b r n i)) i := by
  rw [refTurns_apply]
  unfold rope
  by_cases h : i.val < 32
  · simp only [dif_pos h, refAng_apply]
  · have e : angle (p (ix2 b r)) freqs (i.val - 32) = angle (p (ix2 b r)) freqs i.val := by
      unfold angle
      congr 2
      apply Fin.ext
      show (i.val - 32) % 32 = i.val % 32
      omega
    simp only [dif_neg h, refAng_apply, e]

theorem ref0_term (b : Fin 8) (n : Fin 16) (r : Fin 4096) (l : Fin 256) :
    (refQ (refAbs (refCq (latArr x mod g w) gq) wa) (refTurns (refLanes (refCq (latArr x mod g w) gq) wr) (refAng p))
        (refOther (refTurns (refLanes (refCq (latArr x mod g w) gq) wr) (refAng p))) (ix4 b n r l) : EReal)
      = refQuery (cqOf x mod g w gq b r) (fun f k => wa (ix2 f k)) (fun f k => wr (ix2 f k)) (p (ix2 b r)) freqs n l := by
  rw [refQ_apply]
  simp only [refAbs_apply, refOther_apply, turns_apply, refLanes_apply, refCq_apply, latArr_apply]
  rfl

theorem ref1_term (b : Fin 8) (r : Fin 4096) (l : Fin 256) :
    (refK (refCkv (latArr x mod g w) gk) (refTurn (extractStridedSlice S8x4096x64 ![0, 0, 384] (latArr x mod g w) slices_S8x4096x448_S8x4096x64_0_0_384) (refAng p)) (ix3 b r l) : EReal)
      = refKey (latOf x mod g w b r) (fun j => gk (ix1 j)) (p (ix2 b r)) freqs l := by
  have e : ∀ (z : FVec Ideal S8x4096x448 .f32) (i : Fin 64), (extractStridedSlice S8x4096x64 ![0, 0, 384] z slices_S8x4096x448_S8x4096x64_0_0_384 (ix3 b r i) : EReal)
      = z (ix3 b r ⟨384 + i.val, by omega⟩) := by
    intro z i
    pointwise
  rw [refK_apply]
  simp only [turned_apply, e, refCkv_apply, latArr_apply]
  rfl

end

section
variable (m : (ℓ : Loc nD τ sig) → Buf (Elt Ideal) ℓ) (c : Dev nD) (x : FVec Ideal S8x4096x1024 .f32) (mod : FVec Ideal S4x8x6x1024 .f32) (g : FVec Ideal S1024 .f32) (p : Vec Ideal S8x4096 .i32)
  (w : FVec Ideal S1024x448 .f32) (gq : FVec Ideal S256 .f32) (gk : FVec Ideal S128 .f32) (wa : FVec Ideal S256x2048 .bf16) (wr : FVec Ideal S256x1024 .bf16)
  (hx : m ((c.tc : Thread nD τ).loc main_arg0) = x) (hmod : m ((c.tc : Thread nD τ).loc main_arg1) = mod) (hg : m ((c.tc : Thread nD τ).loc main_arg2) = g)
  (hp : m ((c.tc : Thread nD τ).loc main_arg3) = p) (hw : m ((c.tc : Thread nD τ).loc main_arg4) = w)
include hx hmod hg hp hw

theorem ref0_eq (hgq : m ((c.tc : Thread nD τ).loc main_arg5) = gq) (hwa : m ((c.tc : Thread nD τ).loc main_arg7) = wa) (hwr : m ((c.tc : Thread nD τ).loc main_arg8) = wr) :
    Cert.ProjReferenceIdeal.Value.res_out0 m c
      = refQ (refAbs (refCq (latArr x mod g w) gq) wa) (refTurns (refLanes (refCq (latArr x mod g w) gq) wr) (refAng p))
        (refOther (refTurns (refLanes (refCq (latArr x mod g w) gq) wr) (refAng p))) := by
  subst hx hmod hg hp hw hgq hwa hwr
  rfl

theorem ref1_eq (hgk : m ((c.tc : Thread nD τ).loc main_arg6) = gk) :
    Cert.ProjReferenceIdeal.Value.res_out1 m c
      = refK (refCkv (latArr x mod g w) gk) (refTurn (extractStridedSlice S8x4096x64 ![0, 0, 384] (latArr x mod g w) slices_S8x4096x448_S8x4096x64_0_0_384) (refAng p)) := by
  subst hx hmod hg hp hw hgk
  rfl

end

end

end Cert.ProjVal

end
-- ==== Proof.ProjAlgebraic.lean ====
module

public import proofs.«01_k».proof.Proof.ProjBlock
public import proofs.«01_k».proof.Proof.ProjReference

@[expose] public section

set_option maxRecDepth 16384

noncomputable section

namespace Cert.ProjVal

open Idealize.ShloMosaic Idealize.ShloMosaic.TcCoe Idealize.SL.Sem

/-- The sign of a lane's partner. -/
def sign (l : Fin 128) : EReal := if l.val % 64 < 32 then -1 else 1

/-- The latent weights, laid out as the kernel takes them. -/
def wide (w : Fin 1024 → Fin 448 → EReal) (k : Fin 1024) (j : Fin 640) : EReal :=
  if h : j.val < 448 then w k ⟨j.val, h⟩ else if j.val < 512 then 0
  else if j.val < 576 then w k ⟨384 + (j.val - 512 + 32) % 64, by omega⟩ else 0

/-- The queries' weights, laid out as the kernel takes them. -/
def joined (wa : Fin 256 → Fin 2048 → EReal) (wr : Fin 256 → Fin 1024 → EReal) (f : Fin 256) (k : Fin 4096) : EReal :=
  if h : k.val < 2048 then wa f ⟨k.val, h⟩ else if h' : k.val < 3072 then wr f ⟨k.val - 2048, by omega⟩
  else wr f ⟨(k.val - 3072) / 64 * 64 + (k.val - 3072 + 32) % 64, by omega⟩

/-- A lane turned with the sign of its partner is the lane embedded. -/
theorem turn_eq (p : BitVec 32) (F : Fin 32 → EReal) (z : Fin 64 → EReal) (l : Fin 128) (i : Fin 64) (e : l.val % 64 = i.val) (a b : EReal)
    (ha : a = z i) (hb : b = z ⟨(i.val + 32) % 64, by omega⟩) : turn p F sign a b l = rope p F z i := by
  have h : angle p F l.val = angle p F i.val := by
    unfold angle
    congr 2
    apply Fin.ext
    show l.val % 32 = i.val % 32
    omega
  unfold turn rope sign
  rw [h, e, ha, hb]
  by_cases hi : i.val < 32
  · have e2 : (i.val + 32) % 64 = i.val + 32 := by omega
    simp only [if_pos hi, dif_pos hi, e2, mul_neg, mul_one, sub_eq_add_neg]
  · have e2 : (i.val + 32) % 64 = i.val - 32 := by omega
    simp only [if_neg hi, dif_neg hi, e2, mul_one]

theorem latent_low (hid : Fin 1024 → EReal) (w : Fin 1024 → Fin 448 → EReal) (j : Fin 640) (h : j.val < 448) :
    latent hid (wide w) j = ∑ k, hid k * w k ⟨j.val, h⟩ := by
  unfold latent wide
  simp only [dif_pos h]

theorem latent_swap (hid : Fin 1024 → EReal) (w : Fin 1024 → Fin 448 → EReal) (j : Fin 640) (i : Fin 448) (h : 512 ≤ j.val) (h' : j.val < 576)
    (e : 384 + (j.val - 512 + 32) % 64 = i.val) : latent hid (wide w) j = ∑ k, hid k * w k i := by
  have e' : (⟨384 + (j.val - 512 + 32) % 64, by omega⟩ : Fin 448) = i := Fin.ext e
  unfold latent wide
  simp only [dif_neg (show ¬ j.val < 448 by omega), if_neg (show ¬ j.val < 512 by omega), if_pos h', e']

theorem latent_at (hid : Fin 1024 → EReal) (w : Fin 1024 → Fin 448 → EReal) (j : Fin 640) (i : Fin 448) (e : j.val = i.val) :
    latent hid (wide w) j = ∑ k, hid k * w k i := by
  have e' : (⟨j.val, by omega⟩ : Fin 448) = i := Fin.ext e
  rw [latent_low hid w j (by omega), e']

theorem latent_zero (hid : Fin 1024 → EReal) (w : Fin 1024 → Fin 448 → EReal) (j : Fin 640) (h : 448 ≤ j.val ∧ j.val < 512 ∨ 576 ≤ j.val) :
    latent hid (wide w) j = 0 := by
  unfold latent wide
  refine Finset.sum_eq_zero fun k _ => ?_
  rw [dif_neg (by omega)]
  split
  · exact mul_zero _
  · rw [if_neg (by omega)]
    exact mul_zero _

/-- The kernel's keys are the reference's. -/
theorem key_eq (hid : Fin 1024 → EReal) (w : Fin 1024 → Fin 448 → EReal) (g : Fin 128 → EReal) (p : BitVec 32) (F : Fin 32 → EReal) (l : Fin 256) :
    key (latent hid (wide w)) g p F sign l = refKey (fun j => ∑ k, hid k * w k j) g p F l := by
  have hl := l.isLt
  unfold key refKey
  by_cases h1 : l.val < 128
  · rw [dif_pos h1, dif_pos h1]
    exact congrArg (fun a => rms 1124073472#32 a g ⟨l.val, h1⟩) (funext fun j : Fin 128 => latent_low hid w _ (by show 256 + j.val < 448; omega))
  · rw [dif_neg h1, dif_neg h1]
    by_cases h2 : l.val < 192
    · rw [dif_pos h2]
      refine turn_eq p F _ _ _ (by show (l.val - 128) % 64 = l.val - 128; omega) _ _ ?_ ?_
      · exact latent_at hid w ⟨256 + l.val, by omega⟩ ⟨384 + (l.val - 128), by omega⟩ (by show 256 + l.val = 384 + (l.val - 128); omega)
      · exact latent_swap hid w ⟨384 + l.val, by omega⟩ ⟨384 + (l.val - 128 + 32) % 64, by omega⟩ (by show 512 ≤ 384 + l.val; omega) (by show 384 + l.val < 576; omega)
          (by show 384 + (384 + l.val - 512 + 32) % 64 = 384 + (l.val - 128 + 32) % 64; omega)
    · rw [dif_neg h2]
      rw [latent_zero hid w ⟨256 + l.val, _⟩ (Or.inl ⟨by show 448 ≤ 256 + l.val; omega, by show 256 + l.val < 512; omega⟩),
        latent_zero hid w ⟨384 + l.val, _⟩ (Or.inr (by show 576 ≤ 384 + l.val; omega))]
      unfold turn
      rw [zero_mul, zero_mul, add_zero]

theorem joined_abs (wa : Fin 256 → Fin 2048 → EReal) (wr : Fin 256 → Fin 1024 → EReal) (f : Fin 256) (k : Fin 4096) (j : Fin 2048) (e : k.val = j.val) :
    joined wa wr f k = wa f j := by
  unfold joined
  rw [dif_pos (by omega)]
  congr 1
  exact Fin.ext e

theorem joined_own (wa : Fin 256 → Fin 2048 → EReal) (wr : Fin 256 → Fin 1024 → EReal) (f : Fin 256) (k : Fin 4096) (j : Fin 1024) (e : k.val = 2048 + j.val) :
    joined wa wr f k = wr f j := by
  unfold joined
  rw [dif_neg (by omega), dif_pos (by omega)]
  congr 1
  apply Fin.ext
  show k.val - 2048 = j.val
  omega

theorem joined_swap (wa : Fin 256 → Fin 2048 → EReal) (wr : Fin 256 → Fin 1024 → EReal) (f : Fin 256) (k : Fin 4096) (j : Fin 1024)
    (h : 3072 ≤ k.val) (e : (k.val - 3072) / 64 * 64 + (k.val - 3072 + 32) % 64 = j.val) : joined wa wr f k = wr f j := by
  unfold joined
  rw [dif_neg (by omega), dif_neg (by omega)]
  congr 1
  exact Fin.ext e

/-- A lane of a pair is a lane of one of its heads, embedded. -/
theorem pair_eq (Q : Fin 256 → EReal) (wa : Fin 256 → Fin 2048 → EReal) (wr : Fin 256 → Fin 1024 → EReal) (p : BitVec 32) (F : Fin 32 → EReal)
    (u : Fin 8) (s : Fin 128) (n : Fin 16) (i : Fin 64) (e : 128 * u.val + s.val = 64 * n.val + i.val) :
    pair Q (joined wa wr) p F sign u s = rope p F (headLanes Q wr n) i := by
  refine turn_eq p F _ _ _ (by omega) _ _ ?_ ?_
  · unfold headLanes
    congr 1
    funext f
    rw [joined_own wa wr f _ ⟨64 * n.val + i.val, by omega⟩ (by show 2048 + 128 * u.val + s.val = 2048 + (64 * n.val + i.val); omega)]
  · unfold headLanes
    congr 1
    funext f
    rw [joined_swap wa wr f _ ⟨64 * n.val + (i.val + 32) % 64, by omega⟩ (by show 3072 ≤ 3072 + 128 * u.val + s.val; omega)
      (by show (3072 + 128 * u.val + s.val - 3072) / 64 * 64 + (3072 + 128 * u.val + s.val - 3072 + 32) % 64 = 64 * n.val + (i.val + 32) % 64; omega)]

/-- The kernel's queries are the reference's. -/
theorem query_eq (Q : Fin 256 → EReal) (wa : Fin 256 → Fin 2048 → EReal) (wr : Fin 256 → Fin 1024 → EReal) (p : BitVec 32) (F : Fin 32 → EReal) (h : Fin 16) (l : Fin 256) :
    query Q (joined wa wr) p F sign h l = refQuery Q wa wr p F h l := by
  have hh := h.isLt
  have hl := l.isLt
  unfold query refQuery
  by_cases h1 : l.val < 128
  · rw [if_pos h1, dif_pos h1]
    congr 1
    funext f
    rw [joined_abs wa wr f _ ⟨128 * h.val + l.val, by omega⟩ (by show (128 * h.val + l.val) % 4096 = 128 * h.val + l.val; omega)]
  · rw [if_neg h1, dif_neg h1]
    by_cases h2 : l.val < 192
    · rw [dif_pos h2]
      refine pair_eq Q wa wr p F _ _ _ _ ?_
      show 128 * (h.val / 2) + (l.val + 64 * (h.val % 2)) % 128 = 64 * h.val + (l.val - 128)
      omega
    · rw [dif_neg h2]
      refine pair_eq Q wa wr p F _ _ _ _ ?_
      show 128 * (h.val / 2) + (l.val + 64 * (h.val % 2)) % 128 = 64 * (h.val / 2 * 2 + (1 - h.val % 2)) + (l.val - 192)
      omega

section
open Cert.ProjIdeal Cert.ProjIdeal.Gen
variable (m : (ℓ : Loc nD τ sig) → Buf (Elt Ideal) ℓ) (c : Dev nD)

theorem idx0 : ∀ t : Fin cfg0.N, win0_0.index t = ![(grid0.coords t 0).val, (grid0.coords t 1).val, 0] := by decide +kernel
theorem idx1 : ∀ t : Fin cfg0.N, win0_1.index t = ![2, (grid0.coords t 0).val, 0, 0] := by decide +kernel
theorem idx2 : ∀ t : Fin cfg0.N, win0_2.index t = ![0, 0] := by decide +kernel
theorem idx3 : ∀ t : Fin cfg0.N, win0_3.index t = ![(grid0.coords t 0).val, (grid0.coords t 1).val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![(grid0.coords t 0).val, 0, (grid0.coords t 1).val, 0] := by decide +kernel
theorem idx11 : ∀ t : Fin cfg0.N, win0_11.index t = ![(grid0.coords t 0).val, (grid0.coords t 1).val, 0] := by decide +kernel

/-- The weights of the latent projection as the kernel takes them. -/
def foldL (w : FVec Ideal S1024x448 .f32) : FVec Ideal S1024x640 .bf16 :=
  truncf .bf16 (concatenate S1024x640 1 [⟨S1024x384, extractStridedSlice S1024x384 ![0, 0] w slices_S1024x448_S1024x384_0_0⟩,
    ⟨S1024x64, extractStridedSlice S1024x64 ![0, 384] w slices_S1024x448_S1024x64_0_384⟩,
    ⟨S1024x64, broadcastInDim S1024x64 ![] bcast_S_S1024x64 (constant S_ .f32 0x00000000#32)⟩,
    ⟨S1024x32, extractStridedSlice S1024x32 ![0, 32] (extractStridedSlice S1024x64 ![0, 384] w slices_S1024x448_S1024x64_0_384) slices_S1024x64_S1024x32_0_32⟩,
    ⟨S1024x32, extractStridedSlice S1024x32 ![0, 0] (extractStridedSlice S1024x64 ![0, 384] w slices_S1024x448_S1024x64_0_384) slices_S1024x64_S1024x32_0_0⟩,
    ⟨S1024x64, broadcastInDim S1024x64 ![] bcast_S_S1024x64 (constant S_ .f32 0x00000000#32)⟩]
    concatenates_S1024x384_S1024x64_S1024x64_S1024x32_S1024x32_S1024x64_S1024x640_d1) bitsLt_bf16_f32

/-- The rotary weights with the halves of every head's lanes exchanged. -/
def swapped (w : FVec Ideal S256x1024 .bf16) : FVec Ideal S256x1024 .bf16 :=
  shapeCast S256x1024 (concatenate S256x16x64 2
    [⟨S256x16x32, extractStridedSlice S256x16x32 ![0, 0, 32] (shapeCast S256x16x64 w shapeCasts_S256x1024_S256x16x64) slices_S256x16x64_S256x16x32_0_0_32⟩,
      ⟨S256x16x32, extractStridedSlice S256x16x32 ![0, 0, 0] (shapeCast S256x16x64 w shapeCasts_S256x1024_S256x16x64) slices_S256x16x64_S256x16x32_0_0_0⟩]
    concatenates_S256x16x32_S256x16x32_S256x16x64_d2) shapeCasts_S256x16x64_S256x1024

/-- The weights of the queries as the kernel takes them. -/
def foldQ (wa : FVec Ideal S256x2048 .bf16) (wr : FVec Ideal S256x1024 .bf16) : FVec Ideal S256x4096 .bf16 :=
  concatenate S256x4096 1 [⟨S256x2048, wa⟩, ⟨S256x1024, wr⟩, ⟨S256x1024, swapped wr⟩] concatenates_S256x2048_S256x1024_S256x1024_S256x4096_d1

theorem V_latent : (V m c main_v12 : FVec Ideal S1024x640 .bf16) = foldL (m ((c : Thread nD τ).loc main_arg4)) := by
  show StableHlo.after hostOps0 (fun b => m (c, b)) _ = _
  after_results_simp
  rfl

theorem V_query : (V m c main_v5 : FVec Ideal S256x4096 .bf16) = foldQ (m ((c : Thread nD τ).loc main_arg7)) (m ((c : Thread nD τ).loc main_arg8)) := by
  show StableHlo.after hostOps0 (fun b => m (c, b)) _ = _
  after_results_simp
  rfl

theorem swapped_apply (w : FVec Ideal S256x1024 .bf16) (f : Fin 256) (k : Fin 1024) :
    (swapped w (ix2 f k) : EReal) = w (ix2 f ⟨k.val / 64 * 64 + (k.val + 32) % 64, by omega⟩) := by
  pointwise [swapped]
  by_cases h : k.val % 64 < 32
  · have e : 32 + k.val % 64 = (k.val + 32) % 64 := by omega
    simp only [dif_pos h, e]
  · have e : k.val % 64 - 32 = (k.val + 32) % 64 := by omega
    simp only [dif_neg h, e]

theorem foldQ_apply (wa : FVec Ideal S256x2048 .bf16) (wr : FVec Ideal S256x1024 .bf16) (f : Fin 256) (k : Fin 4096) :
    (foldQ wa wr (ix2 f k) : EReal) = joined (fun f k => wa (ix2 f k)) (fun f k => wr (ix2 f k)) f k := by
  have e : k.val - 2048 < 1024 ↔ k.val < 3072 := by omega
  unfold joined
  pointwise [foldQ]
  simp only [e, Nat.sub_sub, swapped_apply]

theorem foldL_apply (w : FVec Ideal S1024x448 .f32) (k : Fin 1024) (j : Fin 640) :
    (foldL w (ix2 k j) : EReal) = wide (fun k j => w (ix2 k j)) k j := by
  unfold wide
  pointwise [foldL]
  by_cases a1 : j.val < 384
  · rw [dif_pos a1, dif_pos (show j.val < 448 by omega)]
  by_cases a2 : j.val - 384 < 64
  · rw [dif_neg a1, dif_pos a2, dif_pos (show j.val < 448 by omega)]
    congr 2
    apply Fin.ext
    show 384 + (j.val - 384) = j.val
    omega
  by_cases a3 : j.val - 384 - 64 < 64
  · rw [dif_neg a1, dif_neg a2, dif_pos a3, dif_neg (show ¬ j.val < 448 by omega), if_pos (show j.val < 512 by omega)]
  by_cases a4 : j.val - 384 - 64 - 64 < 32
  · rw [dif_neg a1, dif_neg a2, dif_neg a3, dif_pos a4, dif_neg (show ¬ j.val < 448 by omega), if_neg (show ¬ j.val < 512 by omega), if_pos (show j.val < 576 by omega)]
    congr 2
    apply Fin.ext
    show 384 + (32 + (j.val - 384 - 64 - 64)) = 384 + (j.val - 512 + 32) % 64
    omega
  rw [dif_neg a1, dif_neg a2, dif_neg a3, dif_neg a4, dif_neg (show ¬ j.val < 448 by omega), if_neg (show ¬ j.val < 512 by omega)]
  by_cases a5 : j.val - 384 - 64 - 64 - 32 < 32
  · rw [dif_pos a5, if_pos (show j.val < 576 by omega)]
    congr 2
    apply Fin.ext
    show 384 + (j.val - 384 - 64 - 64 - 32) = 384 + (j.val - 512 + 32) % 64
    omega
  · rw [dif_neg a5, if_neg (show ¬ j.val < 576 by omega)]

/-- The array's row of a block's row. -/
def token (t : Fin cfg0.N) (r : Fin 1024) : Fin 4096 :=
  ⟨1024 * (grid0.coords t 1).val + r.val, by have h : (grid0.coords t 1).val < 4 := (grid0.coords t 1).isLt; omega⟩

theorem iblk0_apply (t : Fin cfg0.N) (r d : Fin 1024) :
    (iblk m c 0 t : Vec Ideal S1x1024x1024 .f32) (ix3 0 r d) = (m ((c : Thread nD τ).loc main_arg0)) (ix3 (grid0.coords t 0) (token t r) d) := by
  blk_ext [iblk, V_main_arg0, idx0 t]
  show (grid0.coords t 1).val * 1024 + r.val = 1024 * (grid0.coords t 1).val + r.val
  omega

theorem iblk1_apply (t : Fin cfg0.N) (n : Fin 6) (k : Fin 1024) :
    (iblk m c 1 t : Vec Ideal S1x1x6x1024 .f32) (ix4 0 0 n k) = (m ((c : Thread nD τ).loc main_arg1)) (ix4 2 (grid0.coords t 0) n k) := by
  blk_ext [iblk, V_main_arg1, idx1 t]

theorem iblk2_apply (t : Fin cfg0.N) (k : Fin 1024) :
    (iblk m c 2 t : Vec Ideal S1x1024 .f32) (ix2 0 k) = (m ((c : Thread nD τ).loc main_arg2)) (ix1 k) := by
  blk_ext! [iblk, V, idx2 t]

/-- The positions as the kernel takes them. -/
def column (p : Vec Ideal S8x4096 .i32) : Vec Ideal S8x4096x1 .i32 := shapeCast S8x4096x1 p shapeCasts_S8x4096_S8x4096x1

theorem V_positions : (V m c main_v36 : Vec Ideal S8x4096x1 .i32) = column (m ((c : Thread nD τ).loc main_arg3)) := by
  show StableHlo.after hostOps0 (fun b => m (c, b)) _ = _
  after_results_simp
  rfl

theorem column_apply (p : Vec Ideal S8x4096 .i32) (b : Fin 8) (r : Fin 4096) : column p (ix3 b r 0) = p (ix2 b r) := by
  pointwise [column]

theorem iblk3_apply (t : Fin cfg0.N) (r : Fin 1024) :
    (iblk m c 3 t : Vec Ideal S1x1024x1 .i32) (ix3 0 r 0) = (m ((c : Thread nD τ).loc main_arg3)) (ix2 (grid0.coords t 0) (token t r)) := by
  refine Eq.trans ?_ (column_apply (m ((c : Thread nD τ).loc main_arg3)) (grid0.coords t 0) (token t r))
  rw [← V_positions m c]
  blk_ext [iblk, idx3 t]
  show (grid0.coords t 1).val * 1024 + r.val = 1024 * (grid0.coords t 1).val + r.val
  omega

theorem iblk4_apply (t : Fin cfg0.N) (k : Fin 1024) (j : Fin 640) :
    (iblk m c 4 t : Vec Ideal S1024x640 .bf16) (ix2 k j) = wide (fun k j => (m ((c : Thread nD τ).loc main_arg4)) (ix2 k j)) k j := by
  refine Eq.trans ?_ (foldL_apply (m ((c : Thread nD τ).loc main_arg4)) k j)
  rw [← V_latent m c]
  blk_ext [iblk, idx4 t]

theorem iblk5_apply (t : Fin cfg0.N) (k : Fin 256) :
    (iblk m c 5 t : Vec Ideal S1x256 .f32) (ix2 0 k) = (m ((c : Thread nD τ).loc main_arg5)) (ix1 k) := by
  blk_ext! [iblk, V, idx5 t]

theorem iblk6_apply (t : Fin cfg0.N) (k : Fin 128) :
    (iblk m c 6 t : Vec Ideal S1x128 .f32) (ix2 0 k) = (m ((c : Thread nD τ).loc main_arg6)) (ix1 k) := by
  blk_ext! [iblk, V, idx6 t]

theorem iblk7_apply (t : Fin cfg0.N) (f : Fin 256) (k : Fin 4096) :
    (iblk m c 7 t : Vec Ideal S256x4096 .bf16) (ix2 f k)
      = joined (fun f k => (m ((c : Thread nD τ).loc main_arg7)) (ix2 f k)) (fun f k => (m ((c : Thread nD τ).loc main_arg8)) (ix2 f k)) f k := by
  refine Eq.trans ?_ (foldQ_apply (m ((c : Thread nD τ).loc main_arg7)) (m ((c : Thread nD τ).loc main_arg8)) f k)
  rw [← V_query m c]
  blk_ext [iblk, idx7 t]

/-- The frequencies as the kernel takes them. -/
def freqRow : FVec Ideal S1x128 .f32 :=
  shapeCast S1x128 (shapeCast S128 (broadcastInDim S4x32 ![0, 1] bcast_S1x32_S4x32_0_1 (shapeCast S1x32
    (Host.powf (broadcastInDim S32 ![] bcast_S_S32 (constant S_ .f32 0x461C4000#32)) (Host.divf (Host.negf
      (addf (broadcastInDim S32 ![] bcast_S_S32 (constant S_ .f32 0x00000000#32)) (mulf (broadcastInDim S32 ![] bcast_S_S32 (constant S_ .f32 0x40000000#32)) (sitofp .f32 (iotaInDim S32 32 0)))))
      (broadcastInDim S32 ![] bcast_S_S32 (constant S_ .f32 0x42800000#32)))) shapeCasts_S32_S1x32)) shapeCasts_S4x32_S128) shapeCasts_S128_S1x128

/-- The signs as the kernel takes them. -/
def signRow : FVec Ideal S1x128 .f32 :=
  shapeCast S1x128 (shapeCast S128 (broadcastInDim S2x64 ![0, 1] bcast_S1x64_S2x64_0_1 (shapeCast S1x64
    (concatenate S64 0 [⟨S32, Host.negf (broadcastInDim S32 ![] bcast_S_S32 (constant S_ .f32 0x3F800000#32))⟩, ⟨S32, broadcastInDim S32 ![] bcast_S_S32 (constant S_ .f32 0x3F800000#32)⟩]
      concatenates_S32_S32_S64_d0) shapeCasts_S64_S1x64)) shapeCasts_S2x64_S128) shapeCasts_S128_S1x128

theorem V_freqs : (V m c main_v26 : FVec Ideal S1x128 .f32) = freqRow := by
  show StableHlo.after hostOps0 (fun b => m (c, b)) _ = _
  after_results_simp
  rfl

theorem V_signs : (V m c main_v34 : FVec Ideal S1x128 .f32) = signRow := by
  show StableHlo.after hostOps0 (fun b => m (c, b)) _ = _
  after_results_simp
  rfl

theorem freqRow_apply (l : Fin 128) : (freqRow (ix2 0 l) : EReal) = freqs (freqOf l.val) := by
  pointwise [freqRow]
  rfl

theorem signRow_apply (l : Fin 128) : (signRow (ix2 0 l) : EReal) = sign l := by
  pointwise [signRow]
  rfl

theorem iblk8_apply (t : Fin cfg0.N) (l : Fin 128) :
    ((iblk m c 8 t : Vec Ideal S1x128 .f32) (ix2 0 l) : EReal) = freqs (freqOf l.val) := by
  refine Eq.trans ?_ (freqRow_apply l)
  rw [← V_freqs m c]
  blk_ext [iblk, idx8 t]

theorem iblk9_apply (t : Fin cfg0.N) (l : Fin 128) :
    ((iblk m c 9 t : Vec Ideal S1x128 .f32) (ix2 0 l) : EReal) = sign l := by
  refine Eq.trans ?_ (signRow_apply l)
  rw [← V_signs m c]
  blk_ext [iblk, idx9 t]

attribute [local irreducible] out0_10 out0_11 query key

/-- An index of a block of queries. -/
theorem idx_queries (y : S1x16x1024x256.Idx) : y = ix4 (0 : Fin 1) (y 1 : Fin 16) (y 2 : Fin 1024) (y 3 : Fin 256) := by
  funext a
  apply Fin.ext
  fin_cases a
  · have : (y 0).val < 1 := (y 0).isLt
    show (y 0).val = 0
    omega
  · rfl
  · rfl
  · rfl

/-- An index of a block of keys. -/
theorem idx_keys (y : S1x1024x256.Idx) : y = ix3 (0 : Fin 1) (y 1 : Fin 1024) (y 2 : Fin 256) := by
  funext a
  apply Fin.ext
  fin_cases a
  · have : (y 0).val < 1 := (y 0).isLt
    show (y 0).val = 0
    omega
  · rfl
  · rfl

/-- A token's latent features, from the blocks. -/
theorem blkL_eq (t : Fin cfg0.N) (r : Fin 1024) :
    blkL (iblk m c 0 t) (iblk m c 1 t) (iblk m c 2 t) (iblk m c 4 t) r
      = latent (Ffn.hid (fun k => (m ((c : Thread nD τ).loc main_arg0)) (ix3 (grid0.coords t 0) (token t r) k)) (fun k => (m ((c : Thread nD τ).loc main_arg2)) (ix1 k))
        (fun k => (m ((c : Thread nD τ).loc main_arg1)) (ix4 2 (grid0.coords t 0) 0 k)) (fun k => (m ((c : Thread nD τ).loc main_arg1)) (ix4 2 (grid0.coords t 0) 1 k)))
        (wide (fun k j => (m ((c : Thread nD τ).loc main_arg4)) (ix2 k j))) := by
  funext j
  unfold blkL
  simp only [iblk0_apply m c t, iblk1_apply m c t, iblk2_apply m c t, iblk4_apply m c t]

/-- A token's normalised latent features, from the blocks. -/
theorem blkQ_eq (t : Fin cfg0.N) (r : Fin 1024) :
    blkQ (iblk m c 0 t) (iblk m c 1 t) (iblk m c 2 t) (iblk m c 4 t) (iblk m c 5 t) r
      = cqOf (m ((c : Thread nD τ).loc main_arg0)) (m ((c : Thread nD τ).loc main_arg1)) (m ((c : Thread nD τ).loc main_arg2)) (m ((c : Thread nD τ).loc main_arg4))
        (m ((c : Thread nD τ).loc main_arg5)) (grid0.coords t 0) (token t r) := by
  funext f
  unfold blkQ cq cqOf
  rw [blkL_eq m c t r]
  simp only [iblk5_apply m c t]
  congr 1
  funext j
  exact latent_low _ _ _ (by show j.val < 448; omega)

/-- The array of queries after the run is any array that holds their values. -/
theorem arr10 (A : S8x16x4096x256.Idx → Ideal .bf16)
    (hA : ∀ b h r l, (A (ix4 b h r l) : EReal) = refQuery (cqOf (m ((c : Thread nD τ).loc main_arg0)) (m ((c : Thread nD τ).loc main_arg1)) (m ((c : Thread nD τ).loc main_arg2))
        (m ((c : Thread nD τ).loc main_arg4)) (m ((c : Thread nD τ).loc main_arg5)) b r)
      (fun f k => (m ((c : Thread nD τ).loc main_arg7)) (ix2 f k)) (fun f k => (m ((c : Thread nD τ).loc main_arg8)) (ix2 f k)) ((m ((c : Thread nD τ).loc main_arg3)) (ix2 b r)) freqs h l) :
    (dats m 0 c).arrAt 10 cfg0.N = A := by
  refine (dats m 0 c).arrAt_eq_of_covers 10 _ (by decide +kernel) fun t hf y => ?_
  blk_simp
  obtain ⟨h, r, l, rfl⟩ : ∃ (h : Fin 16) (r : Fin 1024) (l : Fin 256), y = ix4 (0 : Fin 1) h r l := ⟨y 1, y 2, y 3, idx_queries y⟩
  have e : (win0_10.blk t).view.emb (ix4 (0 : Fin 1) h r l) = ix4 (grid0.coords t 0) h (token t r) l := by
    blk_ext [idx10 t]
    show (grid0.coords t 1).val * 1024 + r.val = 1024 * (grid0.coords t 1).val + r.val
    omega
  rw [e, after0_10]
  refine Eq.trans ?_ (hA _ _ _ _).symm
  refine (out10_eq _ _ _ _ _ _ _ _ _ _ freqs (fun l => iblk8_apply m c t l) _).trans ?_
  refine Eq.trans ?_ (query_eq _ _ _ _ _ _ _)
  show query (blkQ (iblk m c 0 t) (iblk m c 1 t) (iblk m c 2 t) (iblk m c 4 t) (iblk m c 5 t) r) _ ((iblk m c 3 t : Vec Ideal S1x1024x1 .i32) (ix3 0 r 0)) _ _ h l = _
  rw [blkQ_eq m c t r]
  simp only [iblk3_apply m c t, iblk7_apply m c t, iblk9_apply m c t]

/-- The array of keys after the run is any array that holds their values. -/
theorem arr11 (A : S8x4096x256.Idx → Ideal .bf16)
    (hA : ∀ b r l, (A (ix3 b r l) : EReal) = refKey (latOf (m ((c : Thread nD τ).loc main_arg0)) (m ((c : Thread nD τ).loc main_arg1)) (m ((c : Thread nD τ).loc main_arg2))
        (m ((c : Thread nD τ).loc main_arg4)) b r) (fun j => (m ((c : Thread nD τ).loc main_arg6)) (ix1 j)) ((m ((c : Thread nD τ).loc main_arg3)) (ix2 b r)) freqs l) :
    (dats m 0 c).arrAt 11 cfg0.N = A := by
  refine (dats m 0 c).arrAt_eq_of_covers 11 _ (by decide +kernel) fun t hf y => ?_
  blk_simp
  obtain ⟨r, l, rfl⟩ : ∃ (r : Fin 1024) (l : Fin 256), y = ix3 (0 : Fin 1) r l := ⟨y 1, y 2, idx_keys y⟩
  have e : (win0_11.blk t).view.emb (ix3 (0 : Fin 1) r l) = ix3 (grid0.coords t 0) (token t r) l := by
    blk_ext [idx11 t]
    show (grid0.coords t 1).val * 1024 + r.val = 1024 * (grid0.coords t 1).val + r.val
    omega
  rw [e, after0_11]
  refine Eq.trans ?_ (hA _ _ _).symm
  refine (out11_eq _ _ _ _ _ _ _ _ _ _ freqs (fun l => iblk8_apply m c t l) _).trans ?_
  refine Eq.trans ?_ (key_eq _ _ _ _ _ _)
  show key (blkL (iblk m c 0 t) (iblk m c 1 t) (iblk m c 2 t) (iblk m c 4 t) r) _ ((iblk m c 3 t : Vec Ideal S1x1024x1 .i32) (ix3 0 r 0)) _ _ l = _
  rw [blkL_eq m c t r]
  simp only [iblk3_apply m c t, iblk6_apply m c t, iblk9_apply m c t]

end

/-- The projection's kernel computes the reference's values over the extended reals. -/
theorem algebraic : Cert.algebraic_ProjIdeal_ProjReferenceIdeal := by
  intro m g m' g' _ hag
  refine ⟨_, _, ?_, (θ_run _ _ _).mono (fun r h c => h c) (Cert.ProjReferenceIdeal.Value.run m' g')⟩
  refine (θ_run _ _ _).mono (fun r h c => ?_) (Cert.ProjIdeal.Value.run_blocks m g)
  obtain ⟨h0, h1, k⟩ := h c
  obtain ⟨a0, a1, a2, a3, a4, a5, a6, a7, a8⟩ := hag c
  refine ⟨h0.trans ?_, h1.trans ?_, k⟩
  · refine arr10 m c _ fun b h r l => ?_
    refine (congrFun (ref0_eq m' c _ _ _ _ _ _ _ _ rfl rfl rfl rfl rfl rfl rfl rfl) (ix4 b h r l)).trans ((ref0_term _ _ _ _ _ _ _ _ b h r l).trans ?_)
    rw [a0, a1, a2, a3, a4, a5, a7, a8]
  · refine arr11 m c _ fun b r l => ?_
    refine (congrFun (ref1_eq m' c _ _ _ _ _ _ rfl rfl rfl rfl rfl rfl) (ix3 b r l)).trans ((ref1_term _ _ _ _ _ _ b r l).trans ?_)
    rw [a0, a1, a2, a3, a4, a6]

end Cert.ProjVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.MlpAttn.Frame
public import proofs.«01_k».proof.Proof.Gen.Mlp.Frame
public import proofs.«01_k».proof.Proof.Gen.MlpAttnIdeal.Value
public import proofs.«01_k».proof.Proof.Gen.MlpIdeal.Value
public import proofs.«01_k».proof.Proof.Gen.MlpAttnReferenceIdeal.Run
public import proofs.«01_k».proof.Proof.Gen.MlpReferenceIdeal.Run
public import proofs.«01_k».proof.Proof.Gen.Sgu.Frame
public import proofs.«01_k».proof.Proof.Gen.SguIdeal.Value
public import proofs.«01_k».proof.Proof.Gen.SguReferenceIdeal.Run
public import proofs.«01_k».proof.Proof.Gen.Proj.Frame
public import proofs.«01_k».proof.Proof.Gen.ProjIdeal.Value
public import proofs.«01_k».proof.Proof.Gen.ProjReferenceIdeal.Run
public import proofs.«01_k».proof.Proof.Algebraic
public import proofs.«01_k».proof.Proof.MlpAlgebraic
public import proofs.«01_k».proof.Proof.MlpAttnAlgebraic
public import proofs.«01_k».proof.Proof.SguAlgebraic
public import proofs.«01_k».proof.Proof.ProjAlgebraic
public import Idealize.ShloMosaic.Adequacy
public import Idealize.ShloMosaic.Init

@[expose] public section

noncomputable section

namespace Cert.Proof

open Idealize.ShloMosaic Idealize.SL.Sem Cert.Kernel

/-- The reference's run keeps its arguments; it declares no semaphore. -/
theorem frame_r : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_r2 : Cert.quiescent_MlpAttnReferenceIdeal := fun m ρ _ =>
  (θ_run Cert.MlpAttnReferenceIdeal.defs _ _).mono (fun r h => ⟨fun c => (h c).2, sem_eq_zero_of_no_sems (by decide) r.2⟩)
    (Cert.MlpAttnReferenceIdeal.Value.run (F := Ideal) m ρ)

theorem frame_r3 : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

theorem frame_r4 : Cert.quiescent_SguReferenceIdeal := fun m ρ _ =>
  (θ_run Cert.SguReferenceIdeal.defs _ _).mono (fun r h => ⟨fun c => (h c).2.2.2, sem_eq_zero_of_no_sems (by decide) r.2⟩)
    (Cert.SguReferenceIdeal.Value.run (F := Ideal) m ρ)

theorem frame_r5 : Cert.quiescent_ProjReferenceIdeal := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)

theorem claim : Cert.Claim := ⟨Cert.Kernel.Gen.facts, Cert.KernelIdeal.Gen.facts, Cert.ReferenceIdeal.Gen.facts,
  Cert.MlpAttn.Gen.facts, Cert.MlpAttnIdeal.Gen.facts, Cert.MlpAttnReferenceIdeal.Gen.facts,
  Cert.Mlp.Gen.facts, Cert.MlpIdeal.Gen.facts, Cert.MlpReferenceIdeal.Gen.facts,
  Cert.Sgu.Gen.facts, Cert.SguIdeal.Gen.facts, Cert.SguReferenceIdeal.Gen.facts,
  Cert.Proj.Gen.facts, Cert.ProjIdeal.Gen.facts, Cert.ProjReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_r m ρ trivial, fun m ρ _ => frame_r m ρ trivial,
  fun m ρ _ => Cert.MlpAttn.Gen.frame m ρ, fun m ρ _ => Cert.MlpAttnIdeal.Gen.frame m ρ, frame_r2,
  fun m ρ _ => Cert.Mlp.Gen.frame m ρ, fun m ρ _ => Cert.MlpIdeal.Gen.frame m ρ, frame_r3,
  fun m ρ _ => Cert.Sgu.Gen.frame m ρ, fun m ρ _ => Cert.SguIdeal.Gen.frame m ρ, frame_r4,
  fun m ρ _ => Cert.Proj.Gen.frame m ρ, fun m ρ _ => Cert.ProjIdeal.Gen.frame m ρ, frame_r5,
  IdealRules.named_const.statement _ _ _ _ _ rfl, Cert.Attn.algebraic,
  trivial, Cert.MlpAttnVal.algebraic, trivial, Cert.MlpVal.algebraic, trivial, Cert.SguVal.algebraic, trivial, Cert.ProjVal.algebraic⟩

end Cert.Proof

end
